-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S2x1024x1024 : Shape := ⟨3, ![2, 1024, 1024]⟩
abbrev S3x1024x1024 : Shape := ⟨3, ![3, 1024, 1024]⟩
abbrev S2x2x128x1024 : Shape := ⟨4, ![2, 2, 128, 1024]⟩
abbrev S24 : Shape := ⟨1, ![24]⟩
abbrev S4 : Shape := ⟨1, ![4]⟩
abbrev S_ : Shape := ⟨0, ![]⟩
abbrev S1024x1024 : Shape := ⟨2, ![1024, 1024]⟩
abbrev S1x1024x1024 : Shape := ⟨3, ![1, 1024, 1024]⟩
abbrev S1x128x1024 : Shape := ⟨3, ![1, 128, 1024]⟩
abbrev S128x1024 : Shape := ⟨2, ![128, 1024]⟩
abbrev S1x1x128x1024 : Shape := ⟨4, ![1, 1, 128, 1024]⟩

abbrev nBuf : Space → Nat
  | .hbm => 5
  | .vmem => 8
  | .smem => 2
  | _ => 0

abbrev bufTy : (tb : Table) → Fin (tcTables nBuf tb) → BufTy
  | .hbm, ⟨0, _⟩ => ⟨S4096x1024, .i8⟩
  | .hbm, ⟨1, _⟩ => ⟨S1024x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x1024, .i8⟩
  | .local _ .vmem, ⟨1, _⟩ => ⟨S1024x2048, .i8⟩
  | .local _ .vmem, ⟨2, _⟩ => ⟨S2x1024x1024, .bf16⟩
  | .local _ .vmem, ⟨3, _⟩ => ⟨S2x1024x1024, .bf16⟩
  | .local _ .vmem, ⟨4, _⟩ => ⟨S2x1024x1024, .bf16⟩
  | .local _ .vmem, ⟨5, _⟩ => ⟨S3x1024x1024, .bf16⟩
  | .local _ .vmem, ⟨6, _⟩ => ⟨S3x1024x1024, .bf16⟩
  | .local _ .vmem, ⟨7, _⟩ => ⟨S2x2x128x1024, .f32⟩
  | .local _ .smem, ⟨0, _⟩ => ⟨S1, .f32⟩
  | .local _ .smem, ⟨1, _⟩ => ⟨S1, .f32⟩
  | _, _ => ⟨S4096x1024, .i8⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 2 → Bool
  | ⟨0, _⟩ => true
  | ⟨1, _⟩ => false
  | _ => false

abbrev dmaSemScoped : Fin 200 → Bool
  | ⟨i, _⟩ => dmaSemScopedAt i

abbrev sig : RefSig :=
  (ofTc nBuf bufTy 2 200 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) (c1_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.subi v2 c1_i32_10
  let c8_i32 : BitVec 32 := 8#32
  let v14 : BitVec 32 := Scalar.addi v13 c8_i32
  let c4_i32_11 : BitVec 32 := 4#32
  let v15 : BitVec 32 := Scalar.remsi v14 c4_i32_11
  let c1024_i32 : BitVec 32 := 1024#32
  let v16 : BitVec 32 := Scalar.muli v15 c1024_i32
  let v17 : Index := Scalar.indexCast v16
  let c0 : Index := 0#32
  ![v17.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_21 : BitVec 32 := 1#32
  let v29 : BitVec 32 := Scalar.muli v4 c1_i32_21
  let v30 : BitVec 32 := Scalar.addi c0_i32_22 v29
  v30.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_31 : BitVec 32 := 1#32
  let v39 : BitVec 32 := Scalar.muli v4 c1_i32_31
  let v40 : BitVec 32 := Scalar.addi c0_i32_32 v39
  v40.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_40 : BitVec 32 := 1#32
  let v49 : BitVec 32 := Scalar.muli v4 c1_i32_40
  let v50 : BitVec 32 := Scalar.addi c0_i32_41 v49
  v50.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_48 : BitVec 32 := 1#32
  let v59 : BitVec 32 := Scalar.muli v4 c1_i32_48
  let v60 : BitVec 32 := Scalar.addi c0_i32_49 v59
  v60.toNat
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_57 : BitVec 32 := 1#32
  let v69 : BitVec 32 := Scalar.muli v4 c1_i32_57
  let v70 : BitVec 32 := Scalar.addi c0_i32_58 v69
  v70.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_65 : BitVec 32 := 1#32
  let v79 : BitVec 32 := Scalar.muli v4 c1_i32_65
  let v80 : BitVec 32 := Scalar.addi c0_i32_66 v79
  v80.toNat
def k0_dev9 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_73 : BitVec 32 := 1#32
  let v89 : BitVec 32 := Scalar.muli v4 c1_i32_73
  let v90 : BitVec 32 := Scalar.addi c0_i32_74 v89
  v90.toNat
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_81 : BitVec 32 := 1#32
  let v99 : BitVec 32 := Scalar.muli v4 c1_i32_81
  let v100 : BitVec 32 := Scalar.addi c0_i32_82 v99
  v100.toNat
def k0_off2 (d0 : Dev nD) (c1_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v109 : BitVec 32 := Scalar.addi v2 c1_i32_86
  let c8_i32_87 : BitVec 32 := 8#32
  let v110 : BitVec 32 := Scalar.addi v109 c8_i32_87
  let c4_i32_88 : BitVec 32 := 4#32
  let v111 : BitVec 32 := Scalar.remsi v110 c4_i32_88
  let c1024_i32_89 : BitVec 32 := 1024#32
  let v112 : BitVec 32 := Scalar.muli v111 c1024_i32_89
  let v113 : Index := Scalar.indexCast v112
  let c0_90 : Index := 0#32
  ![v113.toNat, 0]
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_100 : BitVec 32 := 1#32
  let v125 : BitVec 32 := Scalar.muli v7 c1_i32_100
  let v126 : BitVec 32 := Scalar.addi c0_i32_101 v125
  v126.toNat
def k0_dev12 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_110 : BitVec 32 := 1#32
  let v135 : BitVec 32 := Scalar.muli v7 c1_i32_110
  let v136 : BitVec 32 := Scalar.addi c0_i32_111 v135
  v136.toNat
def k0_dev13 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_120 : BitVec 32 := 1#32
  let v145 : BitVec 32 := Scalar.muli v7 c1_i32_120
  let v146 : BitVec 32 := Scalar.addi c0_i32_121 v145
  v146.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_130 : BitVec 32 := 1#32
  let v155 : BitVec 32 := Scalar.muli v7 c1_i32_130
  let v156 : BitVec 32 := Scalar.addi c0_i32_131 v155
  v156.toNat
def k0_dev15 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_140 : BitVec 32 := 1#32
  let v165 : BitVec 32 := Scalar.muli v7 c1_i32_140
  let v166 : BitVec 32 := Scalar.addi c0_i32_141 v165
  v166.toNat
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_150 : BitVec 32 := 1#32
  let v175 : BitVec 32 := Scalar.muli v7 c1_i32_150
  let v176 : BitVec 32 := Scalar.addi c0_i32_151 v175
  v176.toNat
def k0_dev17 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_160 : BitVec 32 := 1#32
  let v185 : BitVec 32 := Scalar.muli v7 c1_i32_160
  let v186 : BitVec 32 := Scalar.addi c0_i32_161 v185
  v186.toNat
def k0_dev18 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_170 : BitVec 32 := 1#32
  let v195 : BitVec 32 := Scalar.muli v7 c1_i32_170
  let v196 : BitVec 32 := Scalar.addi c0_i32_171 v195
  v196.toNat
def k0_dev19 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_342 : BitVec 32 := 1#32
  let v333 : BitVec 32 := Scalar.muli v7 c1_i32_342
  let v334 : BitVec 32 := Scalar.addi c0_i32_343 v333
  v334.toNat
def k0_dev20 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_345 : BitVec 32 := 1#32
  let v335 : BitVec 32 := Scalar.muli v4 c1_i32_345
  let v336 : BitVec 32 := Scalar.addi c0_i32_346 v335
  v336.toNat
def k0_dev21 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_372 : BitVec 32 := 1#32
  let v353 : BitVec 32 := Scalar.muli v4 c1_i32_372
  let v354 : BitVec 32 := Scalar.addi c0_i32_373 v353
  v354.toNat
def k0_dev22 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_401 : BitVec 32 := 1#32
  let v379 : BitVec 32 := Scalar.muli v7 c1_i32_401
  let v380 : BitVec 32 := Scalar.addi c0_i32_402 v379
  v380.toNat
def k0_dev23 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_428 : BitVec 32 := 1#32
  let v405 : BitVec 32 := Scalar.muli v4 c1_i32_428
  let v406 : BitVec 32 := Scalar.addi c0_i32_429 v405
  v406.toNat
def k0_dev24 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_457 : BitVec 32 := 1#32
  let v431 : BitVec 32 := Scalar.muli v7 c1_i32_457
  let v432 : BitVec 32 := Scalar.addi c0_i32_458 v431
  v432.toNat
def k0_dev25 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_484 : BitVec 32 := 1#32
  let v457 : BitVec 32 := Scalar.muli v4 c1_i32_484
  let v458 : BitVec 32 := Scalar.addi c0_i32_485 v457
  v458.toNat
def k0_dev26 (d0 : Dev nD) : Nat :=
  let c0_i32_514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_513 : BitVec 32 := 1#32
  let v483 : BitVec 32 := Scalar.muli v7 c1_i32_513
  let v484 : BitVec 32 := Scalar.addi c0_i32_514 v483
  v484.toNat
def k0_dev27 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_540 : BitVec 32 := 1#32
  let v509 : BitVec 32 := Scalar.muli v4 c1_i32_540
  let v510 : BitVec 32 := Scalar.addi c0_i32_541 v509
  v510.toNat
def k0_dev28 (d0 : Dev nD) : Nat :=
  let c0_i32_570 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_569 : BitVec 32 := 1#32
  let v535 : BitVec 32 := Scalar.muli v7 c1_i32_569
  let v536 : BitVec 32 := Scalar.addi c0_i32_570 v535
  v536.toNat
def k0_dev29 (d0 : Dev nD) : Nat :=
  let c0_i32_597 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_596 : BitVec 32 := 1#32
  let v561 : BitVec 32 := Scalar.muli v4 c1_i32_596
  let v562 : BitVec 32 := Scalar.addi c0_i32_597 v561
  v562.toNat
def k0_dev30 (d0 : Dev nD) : Nat :=
  let c0_i32_626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_625 : BitVec 32 := 1#32
  let v587 : BitVec 32 := Scalar.muli v7 c1_i32_625
  let v588 : BitVec 32 := Scalar.addi c0_i32_626 v587
  v588.toNat
def k0_dev31 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_652 : BitVec 32 := 1#32
  let v613 : BitVec 32 := Scalar.muli v4 c1_i32_652
  let v614 : BitVec 32 := Scalar.addi c0_i32_653 v613
  v614.toNat
def k0_dev32 (d0 : Dev nD) : Nat :=
  let c0_i32_682 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_681 : BitVec 32 := 1#32
  let v639 : BitVec 32 := Scalar.muli v7 c1_i32_681
  let v640 : BitVec 32 := Scalar.addi c0_i32_682 v639
  v640.toNat
def k0_dev33 (d0 : Dev nD) : Nat :=
  let c0_i32_709 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_708 : BitVec 32 := 1#32
  let v665 : BitVec 32 := Scalar.muli v4 c1_i32_708
  let v666 : BitVec 32 := Scalar.addi c0_i32_709 v665
  v666.toNat
def k0_dev34 (d0 : Dev nD) : Nat :=
  let c0_i32_738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_737 : BitVec 32 := 1#32
  let v691 : BitVec 32 := Scalar.muli v7 c1_i32_737
  let v692 : BitVec 32 := Scalar.addi c0_i32_738 v691
  v692.toNat
def k0_dev35 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_764 : BitVec 32 := 1#32
  let v717 : BitVec 32 := Scalar.muli v4 c1_i32_764
  let v718 : BitVec 32 := Scalar.addi c0_i32_765 v717
  v718.toNat
def k0_dev36 (d0 : Dev nD) : Nat :=
  let c0_i32_794 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_793 : BitVec 32 := 1#32
  let v743 : BitVec 32 := Scalar.muli v7 c1_i32_793
  let v744 : BitVec 32 := Scalar.addi c0_i32_794 v743
  v744.toNat
def k0_dev37 (d0 : Dev nD) : Nat :=
  let c0_i32_1271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1270 : BitVec 32 := 1#32
  let v1137 : BitVec 32 := Scalar.muli v7 c1_i32_1270
  let v1138 : BitVec 32 := Scalar.addi c0_i32_1271 v1137
  v1138.toNat
def k0_dev38 (d0 : Dev nD) : Nat :=
  let c0_i32_1274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1273 : BitVec 32 := 1#32
  let v1139 : BitVec 32 := Scalar.muli v4 c1_i32_1273
  let v1140 : BitVec 32 := Scalar.addi c0_i32_1274 v1139
  v1140.toNat
def k0_dev39 (d0 : Dev nD) : Nat :=
  let c0_i32_1281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1280 : BitVec 32 := 1#32
  let v1141 : BitVec 32 := Scalar.muli v4 c1_i32_1280
  let v1142 : BitVec 32 := Scalar.addi c0_i32_1281 v1141
  v1142.toNat
def k0_dev40 (d0 : Dev nD) : Nat :=
  let c0_i32_1291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1290 : BitVec 32 := 1#32
  let v1151 : BitVec 32 := Scalar.muli v7 c1_i32_1290
  let v1152 : BitVec 32 := Scalar.addi c0_i32_1291 v1151
  v1152.toNat
def k0_dev41 (d0 : Dev nD) : Nat :=
  let c0_i32_1300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1299 : BitVec 32 := 1#32
  let v1161 : BitVec 32 := Scalar.muli v4 c1_i32_1299
  let v1162 : BitVec 32 := Scalar.addi c0_i32_1300 v1161
  v1162.toNat
def k0_dev42 (d0 : Dev nD) : Nat :=
  let c0_i32_1310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1309 : BitVec 32 := 1#32
  let v1171 : BitVec 32 := Scalar.muli v7 c1_i32_1309
  let v1172 : BitVec 32 := Scalar.addi c0_i32_1310 v1171
  v1172.toNat
def k0_dev43 (d0 : Dev nD) : Nat :=
  let c0_i32_1319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1318 : BitVec 32 := 1#32
  let v1181 : BitVec 32 := Scalar.muli v4 c1_i32_1318
  let v1182 : BitVec 32 := Scalar.addi c0_i32_1319 v1181
  v1182.toNat
def k0_dev44 (d0 : Dev nD) : Nat :=
  let c0_i32_1329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1328 : BitVec 32 := 1#32
  let v1191 : BitVec 32 := Scalar.muli v7 c1_i32_1328
  let v1192 : BitVec 32 := Scalar.addi c0_i32_1329 v1191
  v1192.toNat
def k0_dev45 (d0 : Dev nD) : Nat :=
  let c0_i32_1338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1337 : BitVec 32 := 1#32
  let v1201 : BitVec 32 := Scalar.muli v4 c1_i32_1337
  let v1202 : BitVec 32 := Scalar.addi c0_i32_1338 v1201
  v1202.toNat
def k0_dev46 (d0 : Dev nD) : Nat :=
  let c0_i32_1348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1347 : BitVec 32 := 1#32
  let v1211 : BitVec 32 := Scalar.muli v7 c1_i32_1347
  let v1212 : BitVec 32 := Scalar.addi c0_i32_1348 v1211
  v1212.toNat
def k0_dev47 (d0 : Dev nD) : Nat :=
  let c0_i32_1357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1356 : BitVec 32 := 1#32
  let v1221 : BitVec 32 := Scalar.muli v4 c1_i32_1356
  let v1222 : BitVec 32 := Scalar.addi c0_i32_1357 v1221
  v1222.toNat
def k0_dev48 (d0 : Dev nD) : Nat :=
  let c0_i32_1367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1366 : BitVec 32 := 1#32
  let v1231 : BitVec 32 := Scalar.muli v7 c1_i32_1366
  let v1232 : BitVec 32 := Scalar.addi c0_i32_1367 v1231
  v1232.toNat
def k0_dev49 (d0 : Dev nD) : Nat :=
  let c0_i32_1376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1375 : BitVec 32 := 1#32
  let v1241 : BitVec 32 := Scalar.muli v4 c1_i32_1375
  let v1242 : BitVec 32 := Scalar.addi c0_i32_1376 v1241
  v1242.toNat
def k0_dev50 (d0 : Dev nD) : Nat :=
  let c0_i32_1386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1385 : BitVec 32 := 1#32
  let v1251 : BitVec 32 := Scalar.muli v7 c1_i32_1385
  let v1252 : BitVec 32 := Scalar.addi c0_i32_1386 v1251
  v1252.toNat
def k0_dev51 (d0 : Dev nD) : Nat :=
  let c0_i32_1395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1394 : BitVec 32 := 1#32
  let v1261 : BitVec 32 := Scalar.muli v4 c1_i32_1394
  let v1262 : BitVec 32 := Scalar.addi c0_i32_1395 v1261
  v1262.toNat
def k0_dev52 (d0 : Dev nD) : Nat :=
  let c0_i32_1405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1404 : BitVec 32 := 1#32
  let v1271 : BitVec 32 := Scalar.muli v7 c1_i32_1404
  let v1272 : BitVec 32 := Scalar.addi c0_i32_1405 v1271
  v1272.toNat
def k0_dev53 (d0 : Dev nD) : Nat :=
  let c0_i32_1414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1413 : BitVec 32 := 1#32
  let v1281 : BitVec 32 := Scalar.muli v4 c1_i32_1413
  let v1282 : BitVec 32 := Scalar.addi c0_i32_1414 v1281
  v1282.toNat
def k0_dev54 (d0 : Dev nD) : Nat :=
  let c0_i32_1424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1423 : BitVec 32 := 1#32
  let v1291 : BitVec 32 := Scalar.muli v7 c1_i32_1423
  let v1292 : BitVec 32 := Scalar.addi c0_i32_1424 v1291
  v1292.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1429 : BitVec 32 := 1024#32
  let v1301 : BitVec 32 := Scalar.muli v2 c1024_i32_1429
  let v1302 : Index := Scalar.indexCast v1301
  let c0_1430 : Index := 0#32
  ![v1302.toNat, 0]
def k0_dev55 (d0 : Dev nD) : Nat :=
  let c0_i32_1475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1474 : BitVec 32 := 1#32
  let v1361 : BitVec 32 := Scalar.muli v4 c1_i32_1474
  let v1362 : BitVec 32 := Scalar.addi c0_i32_1475 v1361
  v1362.toNat
def k0_off4 (d0 : Dev nD) (c0_i32_1485 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1480 : BitVec 32 := 1024#32
  let v1371 : BitVec 32 := Scalar.muli v2 c1024_i32_1480
  let v1375 : BitVec 32 := Scalar.addi v1371 c0_i32_1485
  let c0_i32_1489 : BitVec 32 := 0#32
  ![v1375.toNat, 0]
def k0_dev56 (d0 : Dev nD) : Nat :=
  let c0_i32_1520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1519 : BitVec 32 := 1#32
  let v1412 : BitVec 32 := Scalar.muli v7 c1_i32_1519
  let v1413 : BitVec 32 := Scalar.addi c0_i32_1520 v1412
  v1413.toNat
def k0_off5 (d0 : Dev nD) (c0_i32_1530 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1525 : BitVec 32 := 1024#32
  let v1422 : BitVec 32 := Scalar.muli v2 c1024_i32_1525
  let v1426 : BitVec 32 := Scalar.addi v1422 c0_i32_1530
  let c1024_i32_1534 : BitVec 32 := 1024#32
  ![v1426.toNat, 1024]
def k0_dev57 (d0 : Dev nD) : Nat :=
  let c0_i32_1565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1564 : BitVec 32 := 1#32
  let v1463 : BitVec 32 := Scalar.muli v4 c1_i32_1564
  let v1464 : BitVec 32 := Scalar.addi c0_i32_1565 v1463
  v1464.toNat
def k0_dev58 (d0 : Dev nD) : Nat :=
  let c0_i32_1610 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1609 : BitVec 32 := 1#32
  let v1514 : BitVec 32 := Scalar.muli v7 c1_i32_1609
  let v1515 : BitVec 32 := Scalar.addi c0_i32_1610 v1514
  v1515.toNat
def k0_dev59 (d0 : Dev nD) : Nat :=
  let c0_i32_1655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1654 : BitVec 32 := 1#32
  let v1565 : BitVec 32 := Scalar.muli v4 c1_i32_1654
  let v1566 : BitVec 32 := Scalar.addi c0_i32_1655 v1565
  v1566.toNat
def k0_dev60 (d0 : Dev nD) : Nat :=
  let c0_i32_1706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1705 : BitVec 32 := 1#32
  let v1621 : BitVec 32 := Scalar.muli v7 c1_i32_1705
  let v1622 : BitVec 32 := Scalar.addi c0_i32_1706 v1621
  v1622.toNat
def k0_dev61 (d0 : Dev nD) : Nat :=
  let c0_i32_1757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1756 : BitVec 32 := 1#32
  let v1677 : BitVec 32 := Scalar.muli v4 c1_i32_1756
  let v1678 : BitVec 32 := Scalar.addi c0_i32_1757 v1677
  v1678.toNat
def k0_dev62 (d0 : Dev nD) : Nat :=
  let c0_i32_1808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1807 : BitVec 32 := 1#32
  let v1733 : BitVec 32 := Scalar.muli v7 c1_i32_1807
  let v1734 : BitVec 32 := Scalar.addi c0_i32_1808 v1733
  v1734.toNat
def k0_dev63 (d0 : Dev nD) : Nat :=
  let c0_i32_1859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1858 : BitVec 32 := 1#32
  let v1789 : BitVec 32 := Scalar.muli v4 c1_i32_1858
  let v1790 : BitVec 32 := Scalar.addi c0_i32_1859 v1789
  v1790.toNat
def k0_dev64 (d0 : Dev nD) : Nat :=
  let c0_i32_1910 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1909 : BitVec 32 := 1#32
  let v1845 : BitVec 32 := Scalar.muli v7 c1_i32_1909
  let v1846 : BitVec 32 := Scalar.addi c0_i32_1910 v1845
  v1846.toNat
def k0_dev65 (d0 : Dev nD) : Nat :=
  let c0_i32_1961 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1960 : BitVec 32 := 1#32
  let v1901 : BitVec 32 := Scalar.muli v4 c1_i32_1960
  let v1902 : BitVec 32 := Scalar.addi c0_i32_1961 v1901
  v1902.toNat
def k0_dev66 (d0 : Dev nD) : Nat :=
  let c0_i32_2012 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2011 : BitVec 32 := 1#32
  let v1957 : BitVec 32 := Scalar.muli v7 c1_i32_2011
  let v1958 : BitVec 32 := Scalar.addi c0_i32_2012 v1957
  v1958.toNat
def k0_dev67 (d0 : Dev nD) : Nat :=
  let c0_i32_2063 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2062 : BitVec 32 := 1#32
  let v2013 : BitVec 32 := Scalar.muli v4 c1_i32_2062
  let v2014 : BitVec 32 := Scalar.addi c0_i32_2063 v2013
  v2014.toNat
def k0_dev68 (d0 : Dev nD) : Nat :=
  let c0_i32_2114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2113 : BitVec 32 := 1#32
  let v2069 : BitVec 32 := Scalar.muli v7 c1_i32_2113
  let v2070 : BitVec 32 := Scalar.addi c0_i32_2114 v2069
  v2070.toNat
def k0_dev69 (d0 : Dev nD) : Nat :=
  let c0_i32_2165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2164 : BitVec 32 := 1#32
  let v2125 : BitVec 32 := Scalar.muli v4 c1_i32_2164
  let v2126 : BitVec 32 := Scalar.addi c0_i32_2165 v2125
  v2126.toNat
def k0_dev70 (d0 : Dev nD) : Nat :=
  let c0_i32_2216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2215 : BitVec 32 := 1#32
  let v2181 : BitVec 32 := Scalar.muli v7 c1_i32_2215
  let v2182 : BitVec 32 := Scalar.addi c0_i32_2216 v2181
  v2182.toNat
def k0_dev71 (d0 : Dev nD) : Nat :=
  let c0_i32_2262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2261 : BitVec 32 := 1#32
  let v2222 : BitVec 32 := Scalar.muli v4 c1_i32_2261
  let v2223 : BitVec 32 := Scalar.addi c0_i32_2262 v2222
  v2223.toNat
def k0_off6 (d0 : Dev nD) (c0_i32_2240 : BitVec 32) (c0_i32_2281 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2239 : BitVec 32 := 1#32
  let v2206 : BitVec 32 := Scalar.subi v2 c1_i32_2239
  let v2207 : BitVec 32 := Scalar.subi v2206 c0_i32_2240
  let c8_i32_2241 : BitVec 32 := 8#32
  let v2208 : BitVec 32 := Scalar.addi v2207 c8_i32_2241
  let c4_i32_2242 : BitVec 32 := 4#32
  let v2209 : BitVec 32 := Scalar.remsi v2208 c4_i32_2242
  let c1024_i32_2270 : BitVec 32 := 1024#32
  let v2235 : BitVec 32 := Scalar.muli v2209 c1024_i32_2270
  let v2244 : BitVec 32 := Scalar.addi v2235 c0_i32_2281
  let c0_i32_2285 : BitVec 32 := 0#32
  ![v2244.toNat, 0]
def k0_dev72 (d0 : Dev nD) : Nat :=
  let c0_i32_2303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2302 : BitVec 32 := 1#32
  let v2258 : BitVec 32 := Scalar.muli v7 c1_i32_2302
  let v2259 : BitVec 32 := Scalar.addi c0_i32_2303 v2258
  v2259.toNat
def k0_off7 (d0 : Dev nD) (c0_i32_2244 : BitVec 32) (c0_i32_2322 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2243 : BitVec 32 := 1#32
  let v2210 : BitVec 32 := Scalar.addi v2 c1_i32_2243
  let v2211 : BitVec 32 := Scalar.addi v2210 c0_i32_2244
  let c8_i32_2245 : BitVec 32 := 8#32
  let v2212 : BitVec 32 := Scalar.addi v2211 c8_i32_2245
  let c4_i32_2246 : BitVec 32 := 4#32
  let v2213 : BitVec 32 := Scalar.remsi v2212 c4_i32_2246
  let c1024_i32_2311 : BitVec 32 := 1024#32
  let v2271 : BitVec 32 := Scalar.muli v2213 c1024_i32_2311
  let v2280 : BitVec 32 := Scalar.addi v2271 c0_i32_2322
  let c1024_i32_2326 : BitVec 32 := 1024#32
  ![v2280.toNat, 1024]
def k0_dev73 (d0 : Dev nD) : Nat :=
  let c0_i32_2344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2343 : BitVec 32 := 1#32
  let v2294 : BitVec 32 := Scalar.muli v4 c1_i32_2343
  let v2295 : BitVec 32 := Scalar.addi c0_i32_2344 v2294
  v2295.toNat
def k0_dev74 (d0 : Dev nD) : Nat :=
  let c0_i32_2385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2384 : BitVec 32 := 1#32
  let v2330 : BitVec 32 := Scalar.muli v7 c1_i32_2384
  let v2331 : BitVec 32 := Scalar.addi c0_i32_2385 v2330
  v2331.toNat
def k0_dev75 (d0 : Dev nD) : Nat :=
  let c0_i32_2426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2425 : BitVec 32 := 1#32
  let v2366 : BitVec 32 := Scalar.muli v4 c1_i32_2425
  let v2367 : BitVec 32 := Scalar.addi c0_i32_2426 v2366
  v2367.toNat
def k0_dev76 (d0 : Dev nD) : Nat :=
  let c0_i32_2467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2466 : BitVec 32 := 1#32
  let v2402 : BitVec 32 := Scalar.muli v7 c1_i32_2466
  let v2403 : BitVec 32 := Scalar.addi c0_i32_2467 v2402
  v2403.toNat
def k0_dev77 (d0 : Dev nD) : Nat :=
  let c0_i32_2508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2507 : BitVec 32 := 1#32
  let v2438 : BitVec 32 := Scalar.muli v4 c1_i32_2507
  let v2439 : BitVec 32 := Scalar.addi c0_i32_2508 v2438
  v2439.toNat
def k0_dev78 (d0 : Dev nD) : Nat :=
  let c0_i32_2549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2548 : BitVec 32 := 1#32
  let v2474 : BitVec 32 := Scalar.muli v7 c1_i32_2548
  let v2475 : BitVec 32 := Scalar.addi c0_i32_2549 v2474
  v2475.toNat
def k0_dev79 (d0 : Dev nD) : Nat :=
  let c0_i32_2590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2589 : BitVec 32 := 1#32
  let v2510 : BitVec 32 := Scalar.muli v4 c1_i32_2589
  let v2511 : BitVec 32 := Scalar.addi c0_i32_2590 v2510
  v2511.toNat
def k0_dev80 (d0 : Dev nD) : Nat :=
  let c0_i32_2631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2630 : BitVec 32 := 1#32
  let v2546 : BitVec 32 := Scalar.muli v7 c1_i32_2630
  let v2547 : BitVec 32 := Scalar.addi c0_i32_2631 v2546
  v2547.toNat
def k0_dev81 (d0 : Dev nD) : Nat :=
  let c0_i32_2672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2671 : BitVec 32 := 1#32
  let v2582 : BitVec 32 := Scalar.muli v4 c1_i32_2671
  let v2583 : BitVec 32 := Scalar.addi c0_i32_2672 v2582
  v2583.toNat
def k0_dev82 (d0 : Dev nD) : Nat :=
  let c0_i32_2713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2712 : BitVec 32 := 1#32
  let v2618 : BitVec 32 := Scalar.muli v7 c1_i32_2712
  let v2619 : BitVec 32 := Scalar.addi c0_i32_2713 v2618
  v2619.toNat
def k0_dev83 (d0 : Dev nD) : Nat :=
  let c0_i32_2754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2753 : BitVec 32 := 1#32
  let v2654 : BitVec 32 := Scalar.muli v4 c1_i32_2753
  let v2655 : BitVec 32 := Scalar.addi c0_i32_2754 v2654
  v2655.toNat
def k0_dev84 (d0 : Dev nD) : Nat :=
  let c0_i32_2795 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2794 : BitVec 32 := 1#32
  let v2690 : BitVec 32 := Scalar.muli v7 c1_i32_2794
  let v2691 : BitVec 32 := Scalar.addi c0_i32_2795 v2690
  v2691.toNat
def k0_dev85 (d0 : Dev nD) : Nat :=
  let c0_i32_2836 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2835 : BitVec 32 := 1#32
  let v2726 : BitVec 32 := Scalar.muli v4 c1_i32_2835
  let v2727 : BitVec 32 := Scalar.addi c0_i32_2836 v2726
  v2727.toNat
def k0_dev86 (d0 : Dev nD) : Nat :=
  let c0_i32_2877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2876 : BitVec 32 := 1#32
  let v2762 : BitVec 32 := Scalar.muli v7 c1_i32_2876
  let v2763 : BitVec 32 := Scalar.addi c0_i32_2877 v2762
  v2763.toNat
def k0_dev87 (d0 : Dev nD) : Nat :=
  let c0_i32_2926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2925 : BitVec 32 := 1#32
  let v2806 : BitVec 32 := Scalar.muli v4 c1_i32_2925
  let v2807 : BitVec 32 := Scalar.addi c0_i32_2926 v2806
  v2807.toNat
def k0_dev88 (d0 : Dev nD) : Nat :=
  let c0_i32_2967 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2966 : BitVec 32 := 1#32
  let v2842 : BitVec 32 := Scalar.muli v7 c1_i32_2966
  let v2843 : BitVec 32 := Scalar.addi c0_i32_2967 v2842
  v2843.toNat
def k0_dev89 (d0 : Dev nD) : Nat :=
  let c0_i32_3008 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3007 : BitVec 32 := 1#32
  let v2878 : BitVec 32 := Scalar.muli v4 c1_i32_3007
  let v2879 : BitVec 32 := Scalar.addi c0_i32_3008 v2878
  v2879.toNat
def k0_dev90 (d0 : Dev nD) : Nat :=
  let c0_i32_3049 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3048 : BitVec 32 := 1#32
  let v2914 : BitVec 32 := Scalar.muli v7 c1_i32_3048
  let v2915 : BitVec 32 := Scalar.addi c0_i32_3049 v2914
  v2915.toNat
def k0_dev91 (d0 : Dev nD) : Nat :=
  let c0_i32_3090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3089 : BitVec 32 := 1#32
  let v2950 : BitVec 32 := Scalar.muli v4 c1_i32_3089
  let v2951 : BitVec 32 := Scalar.addi c0_i32_3090 v2950
  v2951.toNat
def k0_dev92 (d0 : Dev nD) : Nat :=
  let c0_i32_3131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3130 : BitVec 32 := 1#32
  let v2986 : BitVec 32 := Scalar.muli v7 c1_i32_3130
  let v2987 : BitVec 32 := Scalar.addi c0_i32_3131 v2986
  v2987.toNat
def k0_dev93 (d0 : Dev nD) : Nat :=
  let c0_i32_3172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3171 : BitVec 32 := 1#32
  let v3022 : BitVec 32 := Scalar.muli v4 c1_i32_3171
  let v3023 : BitVec 32 := Scalar.addi c0_i32_3172 v3022
  v3023.toNat
def k0_dev94 (d0 : Dev nD) : Nat :=
  let c0_i32_3213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3212 : BitVec 32 := 1#32
  let v3058 : BitVec 32 := Scalar.muli v7 c1_i32_3212
  let v3059 : BitVec 32 := Scalar.addi c0_i32_3213 v3058
  v3059.toNat
def k0_dev95 (d0 : Dev nD) : Nat :=
  let c0_i32_3254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3253 : BitVec 32 := 1#32
  let v3094 : BitVec 32 := Scalar.muli v4 c1_i32_3253
  let v3095 : BitVec 32 := Scalar.addi c0_i32_3254 v3094
  v3095.toNat
def k0_dev96 (d0 : Dev nD) : Nat :=
  let c0_i32_3295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3294 : BitVec 32 := 1#32
  let v3130 : BitVec 32 := Scalar.muli v7 c1_i32_3294
  let v3131 : BitVec 32 := Scalar.addi c0_i32_3295 v3130
  v3131.toNat
def k0_dev97 (d0 : Dev nD) : Nat :=
  let c0_i32_3336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3335 : BitVec 32 := 1#32
  let v3166 : BitVec 32 := Scalar.muli v4 c1_i32_3335
  let v3167 : BitVec 32 := Scalar.addi c0_i32_3336 v3166
  v3167.toNat
def k0_dev98 (d0 : Dev nD) : Nat :=
  let c0_i32_3377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3376 : BitVec 32 := 1#32
  let v3202 : BitVec 32 := Scalar.muli v7 c1_i32_3376
  let v3203 : BitVec 32 := Scalar.addi c0_i32_3377 v3202
  v3203.toNat
def k0_dev99 (d0 : Dev nD) : Nat :=
  let c0_i32_3418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3417 : BitVec 32 := 1#32
  let v3238 : BitVec 32 := Scalar.muli v4 c1_i32_3417
  let v3239 : BitVec 32 := Scalar.addi c0_i32_3418 v3238
  v3239.toNat
def k0_dev100 (d0 : Dev nD) : Nat :=
  let c0_i32_3459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3458 : BitVec 32 := 1#32
  let v3274 : BitVec 32 := Scalar.muli v7 c1_i32_3458
  let v3275 : BitVec 32 := Scalar.addi c0_i32_3459 v3274
  v3275.toNat
def k0_dev101 (d0 : Dev nD) : Nat :=
  let c0_i32_3500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3499 : BitVec 32 := 1#32
  let v3310 : BitVec 32 := Scalar.muli v4 c1_i32_3499
  let v3311 : BitVec 32 := Scalar.addi c0_i32_3500 v3310
  v3311.toNat
def k0_dev102 (d0 : Dev nD) : Nat :=
  let c0_i32_3541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3540 : BitVec 32 := 1#32
  let v3346 : BitVec 32 := Scalar.muli v7 c1_i32_3540
  let v3347 : BitVec 32 := Scalar.addi c0_i32_3541 v3346
  v3347.toNat
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Prog.lean ====
/-
  The kernel's body once more, as loops over the sixteen lanes (eight row blocks in each of the two ring
  directions), and the proof that the printed body is this program.
-/
module

public import proofs.«01_k».proof.Proof.Gen.KernelIdeal.Frame

@[expose] public section

noncomputable section

namespace Cert.Coll

open Idealize.ShloMosaic Idealize.SL.Sem
open Cert.KernelIdeal Cert.KernelIdeal.Gen

variable {F : FTy → Type} [FloatOps F]

/-! ## Buffers, semaphores and rectangles -/

/-- The shape of a buffer of `n` slots, each slot a half of one device's block of rows. -/
abbrev SN (n : ℕ) : Shape := ⟨3, ![n, 1024, 1024]⟩

theorem lane_inb {n : ℕ} (s : Fin n) (j : Fin 8) :
    ∀ a, (![s.val, 128 * j.val, 0] : Fin 3 → Nat) a + S1x128x1024.size a ≤ (SN n).size a := by
  intro a
  have := s.isLt; have := j.isLt
  fin_cases a <;> simp <;> omega

/-- Row block `j` of slot `s`. -/
abbrev laneR {n : ℕ} (s : Fin n) (j : Fin 8) : Rect (SN n) :=
  Rect.unit (s := SN n) ![s.val, 128 * j.val, 0] S1x128x1024.size (lane_inb s j)

theorem slot_inb {n : ℕ} (s : Fin n) :
    ∀ a, (![s.val, 0, 0] : Fin 3 → Nat) a + S1x1024x1024.size a ≤ (SN n).size a := by
  intro a
  have := s.isLt
  fin_cases a <;> simp; omega

/-- Slot `s` whole. -/
abbrev slotR {n : ℕ} (s : Fin n) : Rect (SN n) :=
  Rect.unit (s := SN n) ![s.val, 0, 0] S1x1024x1024.size (slot_inb s)

/-- The memref of row block `j` of slot `s`. -/
abbrev lane {n : ℕ} (M : Memref sig .tc .vmem (SN n) .bf16) (s : Fin n) (j : Fin 8) : Memref sig .tc .vmem S128x1024 .bf16 :=
  (M.slice (laneR s j) (fun _ => rfl)).squeeze S128x1024 squeezes_S1x128x1024_S128x1024

/-- A row block's rows are packed rows at two elements to a word. -/
theorem lane_packed {n : ℕ} (s : Fin n) (j : Fin 8) : (laneR s j).PackedRows (EltTy.packing .bf16) :=
  .inr ⟨(by decide : 2 ≤ 3), rfl, .inl ⟨⟨64 * j.val, by show 128 * j.val = 2 * (64 * j.val); omega⟩, ⟨64, rfl⟩⟩⟩

theorem lane_words {n : ℕ} (s : Fin n) (j : Fin 8) : (laneR s j).WholeWords (EltTy.packing .bf16) :=
  (lane_packed s j).wholeWords

theorem slot_packed {n : ℕ} (s : Fin n) : (slotR s).PackedRows (EltTy.packing .bf16) :=
  .inr ⟨(by decide : 2 ≤ 3), rfl, .inl ⟨⟨0, rfl⟩, ⟨512, rfl⟩⟩⟩

/-- The reduce-scatter buffer of direction `d`: two slots, one filled while the other is read. -/
abbrev comm : Fin 2 → Memref sig .tc .vmem (SN 2) .bf16
  | 0 => Memref.whole cc0_scratch0
  | 1 => Memref.whole cc0_scratch1

theorem comm_whole : ∀ d, (comm d).IsWhole
  | 0 => Memref.isWhole_whole _
  | 1 => Memref.isWhole_whole _

/-- The buffer of this device's own contributions, one slot for each direction. -/
abbrev epi : Memref sig .tc .vmem (SN 2) .bf16 := Memref.whole cc0_scratch2

/-- The all-gather buffer of direction `d`: one slot for each hop. -/
abbrev gath : Fin 2 → Memref sig .tc .vmem (SN 3) .bf16
  | 0 => Memref.whole cc0_scratch3
  | 1 => Memref.whole cc0_scratch4

theorem gath_whole : ∀ d, (gath d).IsWhole
  | 0 => Memref.isWhole_whole _
  | 1 => Memref.isWhole_whole _

abbrev xB : Memref sig .tc .vmem S4096x1024 .i8 := Memref.whole cc0_stg0_0
abbrev wB : Memref sig .tc .vmem S1024x2048 .i8 := Memref.whole cc0_stg1_0
abbrev sxB : Memref sig .tc .smem S1 .f32 := Memref.whole cc0_stg2_0
abbrev swB : Memref sig .tc .smem S1 .f32 := Memref.whole cc0_stg3_0
abbrev outB : Memref sig .tc .hbm S4096x2048 .f32 := Memref.whole main_v1
abbrev fsB : Memref sig .tc .vmem S2x2x128x1024 .f32 := Memref.whole cc0_scratch5

theorem sem_inb (n : Fin 24) : ∀ a, (![n.val] : Fin 1 → Nat) a + S1.size a ≤ S24.size a := by
  intro a; have := n.isLt
  fin_cases a; simp; omega

/-- Semaphore `n` of an array of twenty-four. -/
abbrev semAt (a : DmaSems sig S24) (n : Fin 24) : DmaSem sig :=
  ((a.slice (Rect.unit (s := S24) ![n.val] S1.size (sem_inb n))).squeeze S_ squeezes_S1_S_).sem

/-- Number `8 h + j`. -/
abbrev ix (h : Fin 3) (j : Fin 8) : Fin 24 := ⟨8 * h.val + j.val, by have := h.isLt; have := j.isLt; omega⟩

abbrev rsS (d : Fin 2) (h : Fin 3) (j : Fin 8) : DmaSem sig :=
  match d with | 0 => semAt cc0_scratch6 (ix h j) | 1 => semAt cc0_scratch8 (ix h j)
abbrev rsR (d : Fin 2) (h : Fin 3) (j : Fin 8) : DmaSem sig :=
  match d with | 0 => semAt cc0_scratch7 (ix h j) | 1 => semAt cc0_scratch9 (ix h j)
abbrev agS (d : Fin 2) (h : Fin 3) (j : Fin 8) : DmaSem sig :=
  match d with | 0 => semAt cc0_scratch10 (ix h j) | 1 => semAt cc0_scratch12 (ix h j)
abbrev agR (d : Fin 2) (h : Fin 3) (j : Fin 8) : DmaSem sig :=
  match d with | 0 => semAt cc0_scratch11 (ix h j) | 1 => semAt cc0_scratch13 (ix h j)

theorem osem_inb (d p : Fin 2) : ∀ a, (![2 * d.val + p.val] : Fin 1 → Nat) a + S1.size a ≤ S4.size a := by
  intro a; have := d.isLt; have := p.isLt
  fin_cases a; simp; omega

/-- The semaphore of the copies out of staging block `(d, p)`. -/
abbrev outS (d p : Fin 2) : DmaSem sig :=
  ((cc0_scratch14.slice (Rect.unit (s := S4) ![2 * d.val + p.val] S1.size (osem_inb d p))).squeeze S_ squeezes_S1_S_).sem

abbrev barS : Sem sig := (SemArray.scalar (sig.barrier 0 rfl) : Sems sig S_).sem
abbrev credS : Sem sig := (cc0_scratch15 : Sems sig S_).sem

/-- The device after `c` and the one before it on the ring. -/
abbrev right (c : Dev nD) : Dev nD := ⟨k0_dev2 c, k0_dev2_lt c⟩
abbrev left (c : Dev nD) : Dev nD := ⟨k0_dev1 c, k0_dev1_lt c⟩

/-- The device direction `d` sends to. -/
abbrev tgt (d : Fin 2) (c : Dev nD) : Dev nD := match d with | 0 => right c | 1 => left c

/-- Where the rows of the `t`-th partial product begin: the three chunks that travel, then this device's own. -/
def xOff (c : Dev nD) (d : Fin 2) (t : Fin 4) : Fin 2 → ℕ :=
  match d, t with
  | 0, 0 => k0_off1 c 1#32
  | 0, 1 => k0_off1 c 2#32
  | 0, 2 => k0_off1 c 3#32
  | 1, 0 => k0_off2 c 1#32
  | 1, 1 => k0_off2 c 2#32
  | 1, 2 => k0_off2 c 3#32
  | 0, 3 => k0_off3 c
  | 1, 3 => k0_off3 c

theorem xOff_inb (c : Dev nD) (d : Fin 2) (t : Fin 4) : ∀ a, xOff c d t a + S1024x1024.size a ≤ S4096x1024.size a := by
  match d, t with
  | 0, 0 => exact k0_off1_inb c 0
  | 0, 1 => exact k0_off1_inb c 1
  | 0, 2 => exact k0_off1_inb c 2
  | 1, 0 => exact k0_off2_inb c 0
  | 1, 1 => exact k0_off2_inb c 1
  | 1, 2 => exact k0_off2_inb c 2
  | 0, 3 => exact k0_off3_inb c
  | 1, 3 => exact k0_off3_inb c

abbrev xR (c : Dev nD) (d : Fin 2) (t : Fin 4) : Rect S4096x1024 :=
  Rect.unit (s := S4096x1024) (xOff c d t) S1024x1024.size (xOff_inb c d t)

theorem w_inb (d : Fin 2) : ∀ a, (![0, 1024 * d.val] : Fin 2 → Nat) a + S1024x1024.size a ≤ S1024x2048.size a := by
  intro a; have := d.isLt
  fin_cases a <;> simp; omega

abbrev wR (d : Fin 2) : Rect S1024x2048 := Rect.unit (s := S1024x2048) ![0, 1024 * d.val] S1024x1024.size (w_inb d)

/-- Where the row block `j` that stage `t` writes begins: stage 0 this device's own chunk, stage `h + 1` the
    one that hop `h` of the all-gather brings. -/
def outOff (c : Dev nD) (d : Fin 2) (t : Fin 4) (j : Fin 8) : Fin 2 → ℕ :=
  match d, t with
  | 0, 0 => k0_off4 c (BitVec.ofNat 32 (128 * j.val))
  | 0, 1 => k0_off6 c 0#32 (BitVec.ofNat 32 (128 * j.val))
  | 0, 2 => k0_off6 c 1#32 (BitVec.ofNat 32 (128 * j.val))
  | 0, 3 => k0_off6 c 2#32 (BitVec.ofNat 32 (128 * j.val))
  | 1, 0 => k0_off5 c (BitVec.ofNat 32 (128 * j.val))
  | 1, 1 => k0_off7 c 0#32 (BitVec.ofNat 32 (128 * j.val))
  | 1, 2 => k0_off7 c 1#32 (BitVec.ofNat 32 (128 * j.val))
  | 1, 3 => k0_off7 c 2#32 (BitVec.ofNat 32 (128 * j.val))

theorem outOff_inb (c : Dev nD) (d : Fin 2) (t : Fin 4) (j : Fin 8) :
    ∀ a, outOff c d t j a + S128x1024.size a ≤ S4096x2048.size a := by
  match d, t with
  | 0, 0 => exact k0_off4_inb c j
  | 0, 1 => exact k0_off6_inb c 0 j
  | 0, 2 => exact k0_off6_inb c 1 j
  | 0, 3 => exact k0_off6_inb c 2 j
  | 1, 0 => exact k0_off5_inb c j
  | 1, 1 => exact k0_off7_inb c 0 j
  | 1, 2 => exact k0_off7_inb c 1 j
  | 1, 3 => exact k0_off7_inb c 2 j

abbrev outR (c : Dev nD) (d : Fin 2) (t : Fin 4) (j : Fin 8) : Rect S4096x2048 :=
  Rect.unit (s := S4096x2048) (outOff c d t j) S128x1024.size (outOff_inb c d t j)

abbrev outM (c : Dev nD) (d : Fin 2) (t : Fin 4) (j : Fin 8) : Memref sig .tc .hbm S128x1024 .f32 :=
  outB.slice (outR c d t j) (fun _ => rfl)

theorem fs_inb (d p : Fin 2) :
    ∀ a, (![d.val, p.val, 0, 0] : Fin 4 → Nat) a + S1x1x128x1024.size a ≤ S2x2x128x1024.size a := by
  intro a; have := d.isLt; have := p.isLt
  fin_cases a <;> simp <;> omega

abbrev fsR (d p : Fin 2) : Rect S2x2x128x1024 :=
  Rect.unit (s := S2x2x128x1024) ![d.val, p.val, 0, 0] S1x1x128x1024.size (fs_inb d p)

abbrev fsM (d p : Fin 2) : Memref sig .tc .vmem S128x1024 .f32 :=
  (fsB.slice (fsR d p) (fun _ => rfl)).squeeze S128x1024 squeezes_S1x1x128x1024_S128x1024

/-! ## What is computed -/

/-- One partial product, rounded. -/
def pgV (x w : Vec F S1024x1024 .i8) : FVec F S1024x1024 .bf16 :=
  truncf .bf16 (matmul dot_S1024x1024_S1024x1024_S1024x1024_1_0_0_1_n_n none
    (sitofp .bf16 (shapeCast S1024x1024 x shapeCasts_S1024x1024_S1024x1024 : IVec S1024x1024 8))
    (sitofp .bf16 (shapeCast S1024x1024 w shapeCasts_S1024x1024_S1024x1024 : IVec S1024x1024 8))
    (constant S1024x1024 .f32 0x00000000#32)) bitsLt_bf16_f32

/-- A row block read from a slot, as a matrix. -/
abbrev sq (v : Vec F S1x128x1024 .bf16) : FVec F S128x1024 .bf16 := shapeCast S128x1024 v shapeCasts_S1x128x1024_S128x1024
abbrev usq (v : FVec F S128x1024 .bf16) : FVec F S1x128x1024 .bf16 := shapeCast S1x128x1024 v shapeCasts_S128x1024_S1x128x1024

/-- The scaled and activated result of a row block. -/
def resV (s : F .f32) (a b : FVec F S128x1024 .bf16) : FVec F S128x1024 .f32 :=
  let y : FVec F S128x1024 .f32 := mulf (addf (extf .f32 a bitsLt_bf16_f32) (extf .f32 b bitsLt_bf16_f32)) (broadcast S128x1024 s)
  divf y (addf (broadcast S128x1024 (Scalar.ofBits .f32 0x3F800000#32))
    (exp (subf (broadcast S128x1024 (Scalar.ofBits .f32 0x00000000#32))
      (minimumf (broadcast S128x1024 (Scalar.ofBits .f32 0x42700000#32))
        (maximumf (broadcast S128x1024 (Scalar.ofBits .f32 0xC2700000#32)) y)))))

/-! ## The steps -/

variable (F) in
/-- The effects of the body. -/
abbrev Eff : Type → Type := TpuEff nD τ sig (Elt F) Λ₀ .tc

theorem lane_exact {n : ℕ} {M : Memref sig .tc .vmem (SN n) .bf16} (hM : M.IsWhole) (s : Fin n) (j : Fin 8) :
    (lane M s j).view.WordExact := (hM.wordExact_slice rfl _ (lane_words s j)).reshape _ _

/-- Send row block `j` of slot `s` of `A` into slot `s'` of the peer's `B`. -/
def send {n m : ℕ} (dv : Dev nD) (A : Memref sig .tc .vmem (SN n) .bf16) (hA : A.IsWhole) (s : Fin n)
    (B : Memref sig .tc .vmem (SN m) .bf16) (hB : B.IsWhole) (s' : Fin m) (j : Fin 8) (sS sR : DmaSem sig) : Prog (Eff F) PUnit :=
  Prog.lift (.enqueueDma (lane A s j) (.remote (Dev.tc dv) (lane B s' j) (.dma sS)) (.dma sR)
    (lane_exact hA s j) (lane_exact hB s' j) ⟨⟨rfl, Or.inl rfl⟩, trivial⟩)

/-- Wait for a row block's worth on a semaphore. -/
def waitL {n m : ℕ} (sm : DmaSem sig) (A : Memref sig .tc .vmem (SN n) .bf16) (hA : A.IsWhole) (s : Fin n)
    (B : Memref sig .tc .vmem (SN m) .bf16) (hB : B.IsWhole) (s' : Fin m) (j : Fin 8) : Prog (Eff F) PUnit :=
  Prog.lift (.waitDma2 sm (lane A s j) (lane B s' j) (lane_exact hA s j) (lane_exact hB s' j))

def loadL {n : ℕ} (A : Memref sig .tc .vmem (SN n) .bf16) (s : Fin n) (j : Fin 8) : Prog (Eff F) (Vec F S1x128x1024 .bf16) :=
  Prog.lift (.load A (laneR s j).toLoadRect (View.loadsAt_vmem h_S1x128x1024))

def storeL {n : ℕ} (A : Memref sig .tc .vmem (SN n) .bf16) (hA : A.IsWhole) (s : Fin n) (j : Fin 8)
    (v : FVec F S1x128x1024 .bf16) : Prog (Eff F) PUnit :=
  Prog.lift (.store A (laneR s j) v Finset.univ
    (View.stores_vmem h_S1x128x1024 (hA.storeExact_slice rfl _ (lane_packed s j)) (fun _ => rfl)) (.inl rfl))

/-- A partial product into a slot. -/
def gemm (c : Dev nD) (d : Fin 2) (t : Fin 4) (A : Memref sig .tc .vmem (SN 2) .bf16) (hA : A.IsWhole) (s : Fin 2) :
    Prog (Eff F) PUnit := do
  let x : Vec F S1024x1024 .i8 ← Prog.lift (.load xB (xR c d t).toLoadRect (View.loadsAt_vmem h_S1024x1024))
  let w : Vec F S1024x1024 .i8 ← Prog.lift (.load wB (wR d).toLoadRect (View.loadsAt_vmem h_S1024x1024))
  let _ : Vec F S1x1024x1024 .bf16 ← Prog.lift (.load A (slotR s).toLoadRect (View.loadsAt_vmem h_S1x1024x1024))
  Prog.lift (.store A (slotR s) (shapeCast S1x1024x1024 (pgV x w) shapeCasts_S1024x1024_S1x1024x1024 : FVec F S1x1024x1024 .bf16) Finset.univ
    (View.stores_vmem h_S1x1024x1024 (hA.storeExact_slice rfl _ (slot_packed s)) (fun _ => rfl)) (.inl rfl))

/-- The signals to both neighbours and the wait for theirs. -/
def exchange (c : Dev nD) (sm : Sem sig) : Prog (Eff F) PUnit := do
  semSignalWord (left c) sm 1#32
  semSignalWord (right c) sm 1#32
  semWaitWord sm 2#32

/-- One step for every member of a list, in order. -/
def forL {α : Type} (f : α → Prog (Eff F) PUnit) : List α → Prog (Eff F) PUnit
  | [] => pure ⟨⟩
  | a :: l => f a >>= fun _ => forL f l

abbrev rows : List (Fin 8) := [0, 1, 2, 3, 4, 5, 6, 7]

/-- The sixteen lanes in the order the kernel takes them. -/
abbrev lanes : List (Fin 8 × Fin 2) :=
  [(0, 0), (0, 1), (1, 0), (1, 1), (2, 0), (2, 1), (3, 0), (3, 1), (4, 0), (4, 1), (5, 0), (5, 1), (6, 0), (6, 1), (7, 0), (7, 1)]

/-- A send of the reduce-scatter: hop `h`, from slot `s` into the peer's slot `s'`. -/
abbrev rsSend (c : Dev nD) (h : Fin 3) (s s' : Fin 2) (j : Fin 8) (d : Fin 2) : Prog (Eff F) PUnit :=
  send (tgt d c) (comm d) (comm_whole d) s (comm d) (comm_whole d) s' j (rsS d h j) (rsR d h j)

/-- Wait until hop `h`'s send from slot `s` has left. -/
abbrev rsSent (h : Fin 3) (s s' : Fin 2) (j : Fin 8) (d : Fin 2) : Prog (Eff F) PUnit :=
  waitL (rsS d h j) (comm d) (comm_whole d) s' (comm d) (comm_whole d) s j

/-- Wait until hop `h`'s row block has landed in slot `s'`. -/
abbrev rsGot (h : Fin 3) (s s' : Fin 2) (j : Fin 8) (d : Fin 2) : Prog (Eff F) PUnit :=
  waitL (rsR d h j) (comm d) (comm_whole d) s (comm d) (comm_whole d) s' j

/-- Add this device's contribution to the row block in slot `s`. -/
def addL (s : Fin 2) (j : Fin 8) (d : Fin 2) : Prog (Eff F) PUnit := do
  let a ← loadL (comm d) s j
  let b ← loadL epi d j
  let _ ← loadL (comm d) s j
  storeL (comm d) (comm_whole d) s j (usq (addf (sq a) (sq b)))

/-- The parity of a row block. -/
abbrev par (j : Fin 8) : Fin 2 := ⟨j.val % 2, Nat.mod_lt _ (by omega)⟩

/-- The stage and row block of the copy before, through the same staging block. -/
def prevT (t : Fin 4) (j : Fin 8) : Fin 4 × Fin 8 :=
  bif decide (2 ≤ j.val) then (t, ⟨(j.val - 2) % 8, Nat.mod_lt _ (by omega)⟩)
  else (⟨(t.val - 1) % 4, Nat.mod_lt _ (by omega)⟩, ⟨(j.val + 6) % 8, Nat.mod_lt _ (by omega)⟩)

/-- Wait for the copy of stage `t`'s row block `j` to the result. -/
def outWait (c : Dev nD) (d : Fin 2) (t : Fin 4) (j : Fin 8) : Prog (Eff F) PUnit :=
  Prog.lift (.waitDma2 (outS d (par j)) (fsM d (par j)) (outM c d t j)
    ((View.wordExact_bits rfl).reshape _ _) (View.wordExact_bits rfl))

/-- Put a row block in its staging block, once the copy before has left it, and start its copy to the result. -/
def outL (c : Dev nD) (d : Fin 2) (t : Fin 4) (j : Fin 8) (v : FVec F S128x1024 .f32) : Prog (Eff F) PUnit := do
  bif decide (t.val = 0) && decide (j.val < 2) then pure ⟨⟩ else outWait c d (prevT t j).1 (prevT t j).2
  let _ : Vec F S1x1x128x1024 .f32 ← Prog.lift (.load fsB (fsR d (par j)).toLoadRect (View.loadsAt_vmem h_S1x1x128x1024))
  Prog.lift (.store fsB (fsR d (par j)) (shapeCast S1x1x128x1024 v shapeCasts_S128x1024_S1x1x128x1024 : FVec F S1x1x128x1024 .f32) Finset.univ
    (View.stores_vmem_bits_univ h_S1x1x128x1024 rfl) (.inl rfl))
  Prog.lift (.enqueueDma (fsM d (par j)) (.here (outM c d t j)) (.dma (outS d (par j)))
    ((View.wordExact_bits rfl).reshape _ _) (View.wordExact_bits rfl) ⟨Or.inl rfl, trivial⟩)

/-- The last sum, the activation, and the two ways its row block goes. -/
def finL (c : Dev nD) (s : F .f32) (j : Fin 8) (d : Fin 2) : Prog (Eff F) PUnit := do
  rsGot 2 0 1 j d
  let a ← loadL (comm d) 1 j
  let b ← loadL epi d j
  let _ ← loadL epi d j
  storeL epi (Memref.isWhole_whole _) d j (usq (truncf .bf16 (resV s (sq a) (sq b)) bitsLt_bf16_f32))
  send (tgt d c) epi (Memref.isWhole_whole _) d (gath d) (gath_whole d) 0 j (agS d 0 j) (agR d 0 j)
  outL c d 0 j (resV s (sq a) (sq b))

/-- The `h`-th hop of the all-gather on a lane. -/
def agL (c : Dev nD) (h : Fin 3) (j : Fin 8) (d : Fin 2) : Prog (Eff F) PUnit := do
  (match h with
    | 0 => waitL (agR d 0 j) epi (Memref.isWhole_whole _) d (gath d) (gath_whole d) 0 j
    | 1 => waitL (agR d 1 j) (gath d) (gath_whole d) 0 (gath d) (gath_whole d) 1 j
    | 2 => waitL (agR d 2 j) (gath d) (gath_whole d) 1 (gath d) (gath_whole d) 2 j)
  (match h with
    | 0 => send (tgt d c) (gath d) (gath_whole d) 0 (gath d) (gath_whole d) 1 j (agS d 1 j) (agR d 1 j)
    | 1 => send (tgt d c) (gath d) (gath_whole d) 1 (gath d) (gath_whole d) 2 j (agS d 2 j) (agR d 2 j)
    | 2 => pure ⟨⟩)
  let g ← loadL (gath d) h j
  outL c d h.succ j (extf .f32 (sq g) bitsLt_bf16_f32)

/-- Wait until hop `h`'s send of the all-gather has left. -/
def agSent (h : Fin 3) (j : Fin 8) (d : Fin 2) : Prog (Eff F) PUnit :=
  match h with
  | 0 => waitL (agS d 0 j) (gath d) (gath_whole d) 0 epi (Memref.isWhole_whole _) d j
  | 1 => waitL (agS d 1 j) (gath d) (gath_whole d) 1 (gath d) (gath_whole d) 0 j
  | 2 => waitL (agS d 2 j) (gath d) (gath_whole d) 2 (gath d) (gath_whole d) 1 j

/-- The product of the two scales. -/
def scaleL : Prog (Eff F) (F .f32) := do
  let a : Elt F .f32 ← smemLoad sxB (Rect.unit (s := S1) ![0] S1.size inb_S1_S1_0) numel1_S1 rfl
  let b : Elt F .f32 ← smemLoad swB (Rect.unit (s := S1) ![0] S1.size inb_S1_S1_0) numel1_S1 rfl
  pure (Scalar.mulf a b)

/-- The reduce-scatter's first hop. -/
def phA (c : Dev nD) : Prog (Eff F) PUnit := do
  exchange c barS
  gemm c 0 0 (comm 0) (comm_whole 0) 0
  forL (fun j => rsSend c 0 0 1 j 0) rows
  gemm c 1 0 (comm 1) (comm_whole 1) 0
  forL (fun j => rsSend c 0 0 1 j 1) rows
  gemm c 0 1 epi (Memref.isWhole_whole _) 0
  gemm c 1 1 epi (Memref.isWhole_whole _) 1
  forL (fun p => rsSent 0 0 1 p.1 p.2) lanes
  exchange c credS

/-- Its second and third. -/
def phB (c : Dev nD) : Prog (Eff F) PUnit := do
  forL (fun p => do rsGot 0 0 1 p.1 p.2; addL 1 p.1 p.2; rsSend c 1 1 0 p.1 p.2) lanes
  gemm c 0 2 epi (Memref.isWhole_whole _) 0
  gemm c 1 2 epi (Memref.isWhole_whole _) 1
  forL (fun p => do rsGot 1 1 0 p.1 p.2; addL 0 p.1 p.2) lanes
  forL (fun p => rsSent 1 1 0 p.1 p.2) lanes
  exchange c credS
  forL (fun p => rsSend c 2 0 1 p.1 p.2) lanes
  gemm c 0 3 epi (Memref.isWhole_whole _) 0
  gemm c 1 3 epi (Memref.isWhole_whole _) 1

/-- The activation, the all-gather and the last waits. -/
def phC (c : Dev nD) : Prog (Eff F) PUnit := do
  let s ← scaleL
  forL (fun p => finL c s p.1 p.2) lanes
  forL (fun p => agL c 0 p.1 p.2) lanes
  forL (fun p => agL c 1 p.1 p.2) lanes
  forL (fun p => agL c 2 p.1 p.2) lanes
  forL (fun p => agSent 0 p.1 p.2) lanes
  forL (fun p => agSent 1 p.1 p.2) lanes
  forL (fun p => agSent 2 p.1 p.2) lanes
  forL (fun p => rsSent 2 0 1 p.1 p.2) lanes
  outWait c 0 3 6
  outWait c 1 3 6
  outWait c 0 3 7
  outWait c 1 3 7

def body : Prog (Eff F) PUnit := do
  let c : Dev nD ← Prog.lift .deviceId
  phA c
  phB c
  phC c

set_option maxRecDepth 65536 in
/-- The printed body is the program above. -/
theorem body_eq : cc0_body (F := F) xB (Memref.isWhole_whole _) wB (Memref.isWhole_whole _) sxB (Memref.isWhole_whole _)
    swB (Memref.isWhole_whole _) outB (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10
    cc0_scratch11 cc0_scratch12 cc0_scratch13 cc0_scratch14 cc0_scratch15 = body := by
  chain_rfl

end Cert.Coll

end
-- ==== Proof.Base.lean ====
/-
  The logic the proof of the ring kernel is written in: its ghost state, the weakest precondition of a
  device's program, and the rule for a step repeated over a list.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 2)
abbrev UU : Type := UR sig nD τ × UB

/-- The propositions of the logic. -/
abbrev MM (F : FTy → Type) : Type := MT nD τ sig (Fin 2) (Elt F) ℕ UU ℕ

abbrev EP : Emb (UR sig nD τ) (MM F) := embL
abbrev ER : Emb UB (MM F) := embR

abbrev 𝒱₀ : Variants := Variants.none

/-- What must hold before device `c` runs `p` for `Q` to hold after it. -/
abbrev wpc (c : Dev nD) {α : Type} (p : Prog (Eff F) α) (Q : α → sProp (MM F)) : sProp (MM F) :=
  wp frame (wpE (defs₀ (F := F)) 𝒱₀ (c : Thread nD τ) none) Set.univ p Q

theorem sepL_cons {I : Type} (i : I) (l : List I) (Φ : I → sProp (MM F)) : bigSepL (i :: l) Φ = iprop(Φ i ∗ bigSepL l Φ) :=
  bigSepL_cons i l Φ
theorem sepL_nil {I : Type} (Φ : I → sProp (MM F)) : bigSepL [] Φ = iprop(emp) := rfl

theorem bigSepL_sep {I : Type} (l : List I) (Φ Ψ : I → sProp (MM F)) :
    bigSepL l (fun i => iprop(Φ i ∗ Ψ i)) ⊣⊢ iprop(bigSepL l Φ ∗ bigSepL l Ψ) := by
  induction l with
  | nil =>
    constructor
    · simp only [sepL_nil]; iintro -; isplitl <;> iempintro
    · simp only [sepL_nil]; iintro -; iempintro
  | cons a l ih =>
    constructor
    · rw [sepL_cons, sepL_cons, sepL_cons]
      iintro ⟨⟨H1, H2⟩, H3⟩
      ihave H := ih.1 $$ H3
      icases H with ⟨H3, H4⟩
      isplitl [H1 H3]
      · isplitl [H1] <;> iassumption
      · isplitl [H2] <;> iassumption
    · rw [sepL_cons, sepL_cons, sepL_cons]
      iintro ⟨⟨H1, H2⟩, H3, H4⟩
      isplitl [H1 H3]
      · isplitl [H1] <;> iassumption
      · iapply ih.2; isplitl [H2] <;> iassumption

theorem bigSepL_mono {I : Type} (l : List I) (Φ Ψ : I → sProp (MM F)) (h : ∀ i ∈ l, Φ i ⊢ Ψ i) :
    bigSepL l Φ ⊢ bigSepL l Ψ := by
  induction l with
  | nil => exact .rfl
  | cons a l ih =>
    rw [sepL_cons, sepL_cons]
    exact BI.sep_mono (h a List.mem_cons_self) (ih fun i hi => h i (List.mem_cons_of_mem _ hi))

/-- A step repeated over a list: the invariant `R` is told how much of the list is left. -/
theorem forL_rule (c : Dev nD) {I : Type} (f : I → Prog (Eff F) PUnit) (R : List I → sProp (MM F)) (pre post : I → sProp (MM F))
    (l₀ : List I)
    (h : ∀ a l, a :: l <:+ l₀ → ∀ Q : PUnit → sProp (MM F), iprop(R (a :: l) ∗ pre a) ⊢ iprop(((R l ∗ post a) -∗ Q ⟨⟩) -∗ wpc c (f a) Q))
    (Q : PUnit → sProp (MM F)) :
    iprop(R l₀ ∗ bigSepL l₀ pre) ⊢ iprop(((R [] ∗ bigSepL l₀ post) -∗ Q ⟨⟩) -∗ wpc c (forL f l₀) Q) := by
  have key : ∀ l, l <:+ l₀ → ∀ Q : PUnit → sProp (MM F),
      iprop(R l ∗ bigSepL l pre) ⊢ iprop(((R [] ∗ bigSepL l post) -∗ Q ⟨⟩) -∗ wpc c (forL f l) Q) := by
    intro l
    induction l with
    | nil =>
      intro _ Q
      unfold wpc forL
      simp only [Prog.pure_eq_ret, wp_ret]
      iintro H Hk
      imodintro
      iapply Hk; iexact H
    | cons a l ih =>
      intro hl Q
      have hl' : l <:+ l₀ := (List.suffix_cons a l).trans hl
      rw [sepL_cons, sepL_cons]
      unfold wpc forL
      rw [wp_bind]
      iintro ⟨HR, Ha, Hl⟩ Hk
      iapply (h a l hl _) $$ [HR Ha]
      · isplitl [HR] <;> iassumption
      iintro ⟨HR, Hp⟩
      iapply (ih hl' Q) $$ [HR Hl]
      · isplitl [HR] <;> iassumption
      iintro ⟨HR, Hl⟩
      iapply Hk
      isplitl [HR]; · iexact HR
      isplitl [Hp] <;> iassumption
  exact key l₀ (List.suffix_refl _) Q

/-- The sixteen lanes are the eight row blocks of each direction. -/
theorem lanes_rows (Φ : Fin 8 × Fin 2 → sProp (MM F)) :
    bigSepL lanes Φ ⊣⊢ iprop(bigSepL rows (fun j => Φ (j, 0)) ∗ bigSepL rows (fun j => Φ (j, 1))) := by
  have h : bigSepL lanes Φ ⊣⊢ bigSepL rows (fun j => iprop(Φ (j, 0) ∗ Φ (j, 1))) := by
    have key : ∀ l : List (Fin 8), bigSepL (l.flatMap fun j => [(j, 0), (j, 1)]) Φ ⊣⊢ bigSepL l (fun j => iprop(Φ (j, 0) ∗ Φ (j, 1))) := by
      intro l
      induction l with
      | nil => exact ⟨.rfl, .rfl⟩
      | cons a l ih =>
        rw [List.flatMap_cons, sepL_cons]
        simp only [List.cons_append, List.nil_append]
        rw [sepL_cons, sepL_cons]
        constructor
        · iintro ⟨H1, H2, H3⟩
          isplitl [H1 H2]
          · isplitl [H1] <;> iassumption
          iapply ih.1; iexact H3
        · iintro ⟨⟨H1, H2⟩, H3⟩
          isplitl [H1]; · iexact H1
          isplitl [H2]; · iexact H2
          iapply ih.2; iexact H3
    exact key rows
  exact ⟨h.1.trans (bigSepL_sep _ _ _).1, (bigSepL_sep _ _ _).2.trans h.2⟩

end Cert.Coll

end
-- ==== Proof.Geo.lean ====
/-
  Row blocks of the buffers: loads, stores and matrix products in terms of the sixteen-lane ownership.
-/
module

public import proofs.«01_k».proof.Proof.Base

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Pieces of one buffer -/

section Pieces

variable {ℓ : Loc nD τ sig} {q : PosShare TreeShare} {T : Type} [DecidableEq T] (K : T → Finset (Idx ℓ)) (l : List T)
  (hl : l.Nodup) (hd : ∀ t ∈ l, ∀ t' ∈ l, t ≠ t' → Disjoint (K t) (K t'))

include hl hd

/-- A buffer's elements held are its pieces held. -/
theorem pieces_eq (f : Buf (Elt F) ℓ) :
    (ℓ ↦[l.toFinset.biUnion K]{q} f : sProp (MM F)) = bigSepL l (fun t => ℓ ↦[K t]{q} f) := by
  rw [pointsTo_biUnion _ _ (fun t ht t' ht' => hd t (List.mem_toFinset.mp ht) t' (List.mem_toFinset.mp ht')), bigSep_eq_bigSepL l hl]

/-- Pieces held at any contents are the buffer's elements held at some. -/
theorem pieces_any (hne : l ≠ []) :
    bigSepL l (fun t => iprop(∃ f, ℓ ↦[K t]{q} f)) ⊢ (iprop(∃ g, ℓ ↦[l.toFinset.biUnion K]{q} g) : sProp (MM F)) := by
  induction l with
  | nil => exact absurd rfl hne
  | cons a l ih =>
    obtain ⟨ha, hl'⟩ := List.nodup_cons.mp hl
    rw [List.toFinset_cons, Finset.biUnion_insert]
    cases l with
    | nil =>
      rw [List.toFinset_nil, Finset.biUnion_empty, Finset.union_empty]; exact .rfl
    | cons b l =>
      have ih' := ih hl' (fun t ht t' ht' => hd t (List.mem_cons_of_mem _ ht) t' (List.mem_cons_of_mem _ ht')) (by simp)
      have hdu : Disjoint (K a) ((b :: l).toFinset.biUnion K) :=
        (Finset.disjoint_biUnion_right _ _ _).mpr fun t ht =>
          hd a List.mem_cons_self t (List.mem_cons_of_mem _ (List.mem_toFinset.mp ht)) (fun e => ha (e ▸ List.mem_toFinset.mp ht))
      rw [sepL_cons]
      iintro ⟨⟨%f, Ha⟩, Hl⟩
      ihave H := ih' $$ Hl
      icases H with ⟨%g, Hl⟩
      iexists _
      iapply (pointsTo_join hdu)
      isplitl [Ha] <;> iassumption

end Pieces

/-! ## Row blocks -/

section Lanes

variable {n : ℕ} (M : Memref sig .tc .vmem (SN n) .bf16) (s : Fin n) (j : Fin 8)

/-- Row block `j` of slot `s` held at the matrix `X`. -/
abbrev lnO (c : Dev nD) (q : PosShare TreeShare) (X : FVec F S128x1024 .bf16) : sProp (MM F) :=
  owns (Val := Elt F) (c : Thread nD τ) (lane M s j) q X

/-- Row block `j` of slot `s` held whole, at some matrix. -/
abbrev lnAny (c : Dev nD) : sProp (MM F) := iprop(∃ X : FVec F S128x1024 .bf16, lnO M s j c fullShare X)

theorem sq_usq (v : FVec F S128x1024 .bf16) : sq (usq v) = v := by
  funext y
  show v (Shape.reshapeEquiv _ (Shape.reshapeEquiv _ y)) = v y
  rw [Shape.reshapeEquiv_reshapeEquiv, Shape.reshapeEquiv_self]

theorem usq_sq (v : Vec F S1x128x1024 .bf16) : usq (sq v) = v := by
  funext y
  show v (Shape.reshapeEquiv _ (Shape.reshapeEquiv _ y)) = v y
  rw [Shape.reshapeEquiv_reshapeEquiv, Shape.reshapeEquiv_self]

theorem lane_set : (lane M s j).view.set = (M.access (laneR s j)).set := View.set_reshape _ _

theorem lane_read (f : M.view.ty.Contents (Elt F)) :
    (lane M s j).view.read (Elt F) f = sq ((M.access (laneR s j)).read (Elt F) f) := rfl

theorem wp_loadL (c : Dev nD) (q : PosShare TreeShare) (X : FVec F S128x1024 .bf16) (Q : Vec F S1x128x1024 .bf16 → sProp (MM F)) :
    lnO M s j c q X ⊢ iprop((lnO M s j c q X -∗ Q (usq X)) -∗ wpc c (loadL M s j) Q) := by
  unfold lnO owns wpc loadL Prog.lift
  iintro ⟨%f, %hf, H⟩ Hk
  iapply (wp_load_rect 𝒱₀ (c : Thread nD τ) none Set.univ (m := M) (r := laneR s j) (S := (lane M s j).view.set)
    (lane_set M s j).ge) $$ H
  iintro H
  rw [wp_ret]; imodintro
  have h : (M.access (laneR s j)).read (Elt F) f = usq X := by rw [← hf, lane_read, usq_sq]
  rw [h]
  iapply Hk
  iexists f
  isplitr
  · ipureintro; exact hf
  iexact H

theorem lane_stored (f : M.view.ty.Contents (Elt F)) (v : FVec F S128x1024 .bf16) :
    (lane M s j).view.read (Elt F) ((M.access (laneR s j)).write (Elt F) f (usq v) Finset.univ) = v := by
  rw [lane_read]
  exact (congrArg sq (View.read_write_univ (v := M.access (laneR s j)) f (usq v))).trans (sq_usq v)

theorem wp_storeL (hM : M.IsWhole) (c : Dev nD) (X v : FVec F S128x1024 .bf16) (Q : PUnit → sProp (MM F)) :
    lnO M s j c fullShare X ⊢ iprop((lnO M s j c fullShare v -∗ Q ⟨⟩) -∗ wpc c (storeL M hM s j (usq v)) Q) := by
  unfold lnO owns wpc storeL Prog.lift
  iintro ⟨%f, %hf, H⟩ Hk
  iapply (wp_store 𝒱₀ (c : Thread nD τ) none Set.univ (m := M) (r := laneR s j) (w := usq v) (Mk := Finset.univ)
    (S := (lane M s j).view.set) (f := f) (lane_set M s j).ge) $$ H
  iintro H
  rw [wp_ret]; imodintro
  iapply Hk
  iexists ((M.access (laneR s j)).write (Elt F) f (usq v) Finset.univ)
  isplitr
  · ipureintro
    exact lane_stored M s j f v
  iexact H

/-- A row block written through another view of the same shape holds what was written. -/
theorem lane_written (c : Dev nD) (fd : M.view.ty.Contents (Elt F)) (X : FVec F S128x1024 .bf16) :
    ((lane M s j).view.loc (c : Thread nD τ) ↦[(lane M s j).view.set]{fullShare} (lane M s j).view.write (Elt F) fd X Finset.univ : sProp (MM F))
      ⊢ lnO M s j c fullShare X := by
  unfold lnO owns
  iintro H
  iexists ((lane M s j).view.write (Elt F) fd X Finset.univ)
  isplitr
  · ipureintro; exact View.read_write_univ (v := (lane M s j).view) fd X
  iexact H

/-- Row block `j` of a square matrix. -/
theorem rb_inb : ∀ a, (![128 * j.val, 0] : Fin 2 → Nat) a + S128x1024.size a ≤ S1024x1024.size a := by
  intro a; have := j.isLt
  fin_cases a <;> simp; omega
abbrev rbR : Rect S1024x1024 := Rect.unit (s := S1024x1024) ![128 * j.val, 0] S128x1024.size (rb_inb j)
def rowBlk (V : FVec F S1024x1024 .bf16) : FVec F S128x1024 .bf16 := fun y => V ((rbR j).emb y)

omit [FloatOps F] in
theorem rows_mem (j : Fin 8) : j ∈ rows.toFinset := by revert j; decide

theorem slot_set : (M.access (slotR s)).set = (rows.toFinset).biUnion (fun j => (M.access (laneR s j)).set) := by
  simp only [View.set_slice]
  ext i
  simp only [Finset.mem_biUnion, Finset.mem_map]
  constructor
  · rintro ⟨x, hx, rfl⟩
    rw [Rect.mem_set_unit] at hx
    have h1 := hx 1
    have h0 := hx 0
    have h2 := hx 2
    simp at h0 h1 h2
    refine ⟨⟨(x 1).val / 128, by omega⟩, rows_mem _, x, ?_, rfl⟩
    rw [Rect.mem_set_unit]
    intro a
    fin_cases a <;> simp <;> omega
  · rintro ⟨j, -, x, hx, rfl⟩
    refine ⟨x, ?_, rfl⟩
    rw [Rect.mem_set_unit] at hx ⊢
    have h1 := hx 1
    have h0 := hx 0
    have h2 := hx 2
    have := j.isLt
    simp at h0 h1 h2
    intro a
    fin_cases a <;> simp <;> omega

theorem lane_disj (j' : Fin 8) (s' : Fin n) (h : (s, j) ≠ (s', j')) : Disjoint (M.access (laneR s j)).set (M.access (laneR s' j')).set := by
  rw [View.set_slice, View.set_slice]
  refine (Finset.disjoint_map _).mpr ?_
  by_cases hs : s = s'
  · have hj : j ≠ j' := fun e => h (by rw [hs, e])
    have hj' : j.val ≠ j'.val := fun e => hj (Fin.ext e)
    refine Rect.unit_disjoint (s := SN n) (1 : Fin 3) ?_
    show 128 * j.val + 128 ≤ 128 * j'.val ∨ 128 * j'.val + 128 ≤ 128 * j.val
    omega
  · have hs' : s.val ≠ s'.val := fun e => hs (Fin.ext e)
    refine Rect.unit_disjoint (s := SN n) (0 : Fin 3) ?_
    show s.val + 1 ≤ s'.val ∨ s'.val + 1 ≤ s.val
    omega

theorem lane_slot_emb (y : S128x1024.Idx) :
    (laneR s j).emb (Shape.reshapeEquiv squeezes_S1x128x1024_S128x1024.numel_eq y)
      = (slotR s).emb ((Shape.reshapeEquiv (show S1024x1024.numel = S1x1024x1024.numel by decide)) ((rbR j).emb y)) := by
  have e1 : Shape.reshapeEquiv squeezes_S1x128x1024_S128x1024.numel_eq y = Fin.cons ⟨0, Nat.one_pos⟩ y :=
    Shape.reshapeEquiv_cons_one (n := 2) (d := ![128, 1024]) _ y
  have e2 : (Shape.reshapeEquiv (show S1024x1024.numel = S1x1024x1024.numel by decide)) ((rbR j).emb y) = Fin.cons ⟨0, Nat.one_pos⟩ ((rbR j).emb y) :=
    Shape.reshapeEquiv_cons_one (n := 2) (d := ![1024, 1024]) _ _
  rw [e1, e2]
  funext a
  apply Fin.ext
  fin_cases a
  · rfl
  · show 128 * j.val + 1 * (y 0).val = 0 + 1 * (128 * j.val + 1 * (y 0).val)
    omega
  · show 0 + 1 * (y 1).val = 0 + 1 * (0 + 1 * (y 1).val)
    omega

/-- Eight row blocks held are their slot held, at some contents. -/
theorem slot_of_lanes (c : Dev nD) :
    bigSepL rows (fun j => lnAny (F := F) M s j c)
      ⊢ iprop(∃ g, M.view.loc (c : Thread nD τ) ↦[(M.access (slotR s)).set]{fullShare} g) := by
  rw [slot_set]
  refine (bigSepL_mono _ _ (fun j => iprop(∃ f, M.view.loc (c : Thread nD τ) ↦[(M.access (laneR s j)).set]{fullShare} f)) fun j _ => ?_).trans
    (pieces_any (F := F) (ℓ := M.view.loc (c : Thread nD τ)) (fun j => (M.access (laneR s j)).set) rows (by decide)
      (fun t _ t' _ h => lane_disj M s t t' s fun e => h (Prod.ext_iff.mp e).2) (by decide))
  unfold lnAny lnO owns
  iintro ⟨%X, %f, -, H⟩
  iexists f
  rw [← lane_set]
  iexact H

theorem lane_of_slot (g : M.view.ty.Contents (Elt F)) (V : FVec F S1024x1024 .bf16) :
    (lane M s j).view.read (Elt F)
      ((M.access (slotR s)).write (Elt F) g (shapeCast S1x1024x1024 V shapeCasts_S1024x1024_S1x1024x1024 : FVec F S1x1024x1024 .bf16) Finset.univ)
      = rowBlk j V := by
  funext y
  have h1 := View.read_slice_write_emb (Val := Elt F) (v := M.view) (slotR s) g
    (shapeCast S1x1024x1024 V shapeCasts_S1024x1024_S1x1024x1024 : FVec F S1x1024x1024 .bf16) (M := Finset.univ)
    (x := (Shape.reshapeEquiv (show S1024x1024.numel = S1x1024x1024.numel by decide)) ((rbR j).emb y)) (Finset.mem_univ _)
  rw [← lane_slot_emb s j y] at h1
  refine h1.trans ?_
  show V (Shape.reshapeEquiv _ (Shape.reshapeEquiv _ _)) = _
  rw [Shape.reshapeEquiv_reshapeEquiv, Shape.reshapeEquiv_self]
  rfl

/-- A slot written with a matrix is its eight row blocks held at the matrix's. -/
theorem lanes_of_slot (c : Dev nD) (g : M.view.ty.Contents (Elt F)) (V : FVec F S1024x1024 .bf16) :
    (M.view.loc (c : Thread nD τ) ↦[(M.access (slotR s)).set]{fullShare}
        (M.access (slotR s)).write (Elt F) g (shapeCast S1x1024x1024 V shapeCasts_S1024x1024_S1x1024x1024 : FVec F S1x1024x1024 .bf16) Finset.univ : sProp (MM F))
      ⊢ bigSepL rows (fun j => lnO M s j c fullShare (rowBlk j V)) := by
  rw [slot_set, pieces_eq (F := F) (ℓ := M.view.loc (c : Thread nD τ)) (fun j => (M.access (laneR s j)).set) rows (by decide)
      (fun t _ t' _ h => lane_disj M s t t' s fun e => h (Prod.ext_iff.mp e).2)]
  refine bigSepL_mono _ _ _ fun j _ => ?_
  unfold lnO owns
  iintro H
  iexists ((M.access (slotR s)).write (Elt F) g (shapeCast S1x1024x1024 V shapeCasts_S1024x1024_S1x1024x1024 : FVec F S1x1024x1024 .bf16) Finset.univ)
  isplitr
  · ipureintro
    exact lane_of_slot M s j g V
  rw [lane_set]
  iexact H

end Lanes

/-! ## A partial product -/

/-- The partial product of device `c` for stage `t` of direction `d`, from its block `x` of columns and `w` of rows. -/
def pgm (x : Vec F S4096x1024 .i8) (w : Vec F S1024x2048 .i8) (c : Dev nD) (d : Fin 2) (t : Fin 4) : FVec F S1024x1024 .bf16 :=
  pgV (fun i => x ((xR c d t).emb i)) (fun i => w ((wR d).emb i))

theorem pgm_eq (x : Vec F S4096x1024 .i8) (w : Vec F S1024x2048 .i8) (c : Dev nD) (d : Fin 2) (t : Fin 4) :
    pgm x w c d t = pgV ((xB.access (xR c d t)).read (Elt F) x) ((wB.access (wR d)).read (Elt F) w) := rfl

/-- The inputs of a device, held. -/
abbrev xwO (c : Dev nD) (x : Vec F S4096x1024 .i8) (w : Vec F S1024x2048 .i8) : sProp (MM F) :=
  iprop((((c : Thread nD τ).loc cc0_stg0_0) ↦{fullShare} (x : Buf (Elt F) ((c : Thread nD τ).loc cc0_stg0_0)))
    ∗ (((c : Thread nD τ).loc cc0_stg1_0) ↦{fullShare} (w : Buf (Elt F) ((c : Thread nD τ).loc cc0_stg1_0))))

theorem wp_gemm (c : Dev nD) (d : Fin 2) (t : Fin 4) (A : Memref sig .tc .vmem (SN 2) .bf16) (hA : A.IsWhole) (s : Fin 2)
    (x : Vec F S4096x1024 .i8) (w : Vec F S1024x2048 .i8) (Q : PUnit → sProp (MM F)) :
    iprop(xwO c x w ∗ bigSepL rows (fun j => lnAny (F := F) A s j c))
      ⊢ iprop(((xwO c x w ∗ bigSepL rows (fun j => lnO A s j c fullShare (rowBlk j (pgm x w c d t)))) -∗ Q ⟨⟩) -∗ wpc c (gemm c d t A hA s) Q) := by
  unfold wpc gemm Prog.lift
  simp only [Prog.bind_op, Prog.bind_ret]
  iintro ⟨⟨Hx, Hw⟩, HA⟩ Hk
  iapply (wp_load_rect 𝒱₀ (c : Thread nD τ) none Set.univ (m := xB) (r := xR c d t) (S := Finset.univ) (Finset.subset_univ _)) $$ Hx
  iintro Hx
  iapply (wp_load_rect 𝒱₀ (c : Thread nD τ) none Set.univ (m := wB) (r := wR d) (S := Finset.univ) (Finset.subset_univ _)) $$ Hw
  iintro Hw
  ihave HA' := (slot_of_lanes A s c) $$ HA
  icases HA' with ⟨%g, HA⟩
  iapply (wp_load_rect 𝒱₀ (c : Thread nD τ) none Set.univ (m := A) (r := slotR s) (S := (A.access (slotR s)).set) (Finset.Subset.refl _)) $$ HA
  iintro HA
  iapply (wp_store 𝒱₀ (c : Thread nD τ) none Set.univ (m := A) (r := slotR s) (Mk := Finset.univ) (S := (A.access (slotR s)).set) (Finset.Subset.refl _)) $$ HA
  iintro HA
  rw [wp_ret]; imodintro
  rw [← pgm_eq]
  ihave HL := (lanes_of_slot A s c g (pgm x w c d t)) $$ HA
  iapply Hk
  isplitl [Hx Hw]
  · isplitl [Hx] <;> iassumption
  iexact HL

/-! ## The staging blocks of the result -/

/-- A staging block held at `X`; a block of the result held at `X`. -/
abbrev fsO (c : Dev nD) (d p : Fin 2) (X : FVec F S128x1024 .f32) : sProp (MM F) :=
  owns (Val := Elt F) (c : Thread nD τ) (fsM d p) fullShare X
abbrev outO (c : Dev nD) (d : Fin 2) (t : Fin 4) (j : Fin 8) (X : FVec F S128x1024 .f32) : sProp (MM F) :=
  owns (Val := Elt F) (c : Thread nD τ) (outM c d t j) fullShare X
abbrev fsAny (c : Dev nD) (d p : Fin 2) : sProp (MM F) := iprop(∃ X : FVec F S128x1024 .f32, fsO c d p X)
abbrev outAny (c : Dev nD) (d : Fin 2) (t : Fin 4) (j : Fin 8) : sProp (MM F) := iprop(∃ X : FVec F S128x1024 .f32, outO c d t j X)

omit [FloatOps F] in
theorem fs_set (d p : Fin 2) : (fsM d p).view.set = (fsB.access (fsR d p)).set := View.set_reshape _ _

theorem fs_stored (d p : Fin 2) (f : fsB.view.ty.Contents (Elt F)) (v : FVec F S128x1024 .f32) :
    (fsM d p).view.read (Elt F) ((fsB.access (fsR d p)).write (Elt F) f
      (shapeCast S1x1x128x1024 v shapeCasts_S128x1024_S1x1x128x1024 : FVec F S1x1x128x1024 .f32) Finset.univ) = v := by
  have h := View.read_write_univ (Val := Elt F) (v := fsB.access (fsR d p)) f
    (shapeCast S1x1x128x1024 v shapeCasts_S128x1024_S1x1x128x1024 : FVec F S1x1x128x1024 .f32)
  have e : ∀ g, (fsM d p).view.read (Elt F) g = fun y => (fsB.access (fsR d p)).read (Elt F) g (Shape.reshapeEquiv squeezes_S1x1x128x1024_S128x1024.numel_eq y) :=
    fun _ => rfl
  rw [e, h]
  funext y
  show v (Shape.reshapeEquiv _ (Shape.reshapeEquiv _ y)) = v y
  rw [Shape.reshapeEquiv_reshapeEquiv, Shape.reshapeEquiv_self]

/-- The dead load of a staging block and the store into it. -/
def stageL (d : Fin 2) (j : Fin 8) (v : FVec F S128x1024 .f32) : Prog (Eff F) PUnit := do
  let _ : Vec F S1x1x128x1024 .f32 ← Prog.lift (.load fsB (fsR d (par j)).toLoadRect (View.loadsAt_vmem h_S1x1x128x1024))
  Prog.lift (.store fsB (fsR d (par j)) (shapeCast S1x1x128x1024 v shapeCasts_S128x1024_S1x1x128x1024 : FVec F S1x1x128x1024 .f32) Finset.univ
    (View.stores_vmem_bits_univ h_S1x1x128x1024 rfl) (.inl rfl))

theorem wp_stageL (c : Dev nD) (d : Fin 2) (j : Fin 8) (v : FVec F S128x1024 .f32) (Q : PUnit → sProp (MM F)) :
    fsAny (F := F) c d (par j) ⊢ iprop((fsO c d (par j) v -∗ Q ⟨⟩) -∗ wpc c (stageL d j v) Q) := by
  unfold fsAny fsO owns wpc stageL Prog.lift
  simp only [Prog.bind_op, Prog.bind_ret]
  iintro ⟨%X, %f, -, H⟩ Hk
  iapply (wp_load_rect 𝒱₀ (c : Thread nD τ) none Set.univ (m := fsB) (r := fsR d (par j)) (S := (fsM d (par j)).view.set)
    (fs_set d (par j)).ge) $$ H
  iintro H
  iapply (wp_store 𝒱₀ (c : Thread nD τ) none Set.univ (m := fsB) (r := fsR d (par j)) (Mk := Finset.univ)
    (S := (fsM d (par j)).view.set) (f := f) (fs_set d (par j)).ge) $$ H
  iintro H
  rw [wp_ret]; imodintro
  iapply Hk
  iexists ((fsB.access (fsR d (par j))).write (Elt F) f
      (shapeCast S1x1x128x1024 v shapeCasts_S128x1024_S1x1x128x1024 : FVec F S1x1x128x1024 .f32) Finset.univ)
  isplitr
  · ipureintro
    exact fs_stored d (par j) f v
  iexact H

/-- A block of the result written with `X` holds `X`. -/
theorem out_written (c : Dev nD) (d : Fin 2) (t : Fin 4) (j : Fin 8) (fd : outB.view.ty.Contents (Elt F)) (X : FVec F S128x1024 .f32) :
    ((outM c d t j).view.loc (c : Thread nD τ) ↦[(outM c d t j).view.set]{fullShare} (outM c d t j).view.write (Elt F) fd X Finset.univ : sProp (MM F))
      ⊢ outO c d t j X := by
  unfold outO owns
  iintro H
  iexists ((outM c d t j).view.write (Elt F) fd X Finset.univ)
  isplitr
  · ipureintro; exact View.read_write_univ (v := (outM c d t j).view) fd X
  iexact H

end Cert.Coll

end
-- ==== Proof.Sched.lean ====
/-
  The protocol of the ring kernel: for each semaphore who signals it, in which round, by how much, and what is
  handed over; what is computed on the way; what each device owes at launch and the order of the waits.

  * barrier, one round, one unit from each neighbour: the device direction `d` sends to hands over slot 1 of its
    reduce-scatter buffer and its whole all-gather buffer of that direction;
  * credit, two rounds, one unit from each neighbour: the first hands over slot 0 of the peer's reduce-scatter
    buffer, the second slot 1, each free again;
  * send semaphores: the source of the copy comes back; receive semaphores: the row block that landed comes;
  * result semaphores, sixteen rounds on each: the finished block of the result and its staging block come back.
-/
module

public import proofs.«01_k».proof.Proof.Geo

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device direction `d` receives from. -/
abbrev src (d : Fin 2) (c : Dev nD) : Dev nD := match d with | 0 => left c | 1 => right c

theorem right_left (c : Dev nD) : right (left c) = c := by
  apply Fin.ext
  have h1 := k0_dev2_eq (left c)
  have h2 := k0_dev1_eq c
  have := c.isLt
  show k0_dev2 (left c) = c.val
  rw [h1]; show (k0_dev1 c + 1) % 4 = c.val
  rw [h2]; simp only [nD] at this; omega
theorem left_right (c : Dev nD) : left (right c) = c := by
  apply Fin.ext
  have h1 := k0_dev1_eq (right c)
  have h2 := k0_dev2_eq c
  have := c.isLt
  show k0_dev1 (right c) = c.val
  rw [h1]; show (k0_dev2 c + 3) % 4 = c.val
  rw [h2]; simp only [nD] at this; omega

theorem tgt_src (d : Fin 2) (c : Dev nD) : tgt d (src d c) = c := by
  fin_cases d
  · exact right_left c
  · exact left_right c
theorem src_tgt (d : Fin 2) (c : Dev nD) : src d (tgt d c) = c := by
  fin_cases d
  · exact left_right c
  · exact right_left c

/-! ## What is computed -/

/-- What the devices hold at the start: their columns of the first matrix, their rows of the second, the scale. -/
structure Inp (F : FTy → Type) where
  x : Dev nD → Vec F S4096x1024 .i8
  w : Dev nD → Vec F S1024x2048 .i8
  s : Dev nD → F .f32

variable (I : Inp F)

/-- Row block `j` of the partial product of stage `t`. -/
def pgl (d : Fin 2) (c : Dev nD) (t : Fin 4) (j : Fin 8) : FVec F S128x1024 .bf16 := rowBlk j (pgm (I.x c) (I.w c) c d t)

/-- What hop `h` of the reduce-scatter sends. -/
def AV : Fin 3 → Fin 2 → Dev nD → Fin 8 → FVec F S128x1024 .bf16
  | 0, d, c, j => pgl I d c 0 j
  | 1, d, c, j => addf (pgl I d (src d c) 0 j) (pgl I d c 1 j)
  | 2, d, c, j => addf (addf (pgl I d (src d (src d c)) 0 j) (pgl I d (src d c) 1 j)) (pgl I d c 2 j)

/-- The row block of the result that this device finishes. -/
def RS (d : Fin 2) (c : Dev nD) (j : Fin 8) : FVec F S128x1024 .f32 := resV (I.s c) (AV I 2 d (src d c) j) (pgl I d c 3 j)

/-- The same, rounded for its way round the ring. -/
def G0 (d : Fin 2) (c : Dev nD) (j : Fin 8) : FVec F S128x1024 .bf16 := truncf .bf16 (RS I d c j) bitsLt_bf16_f32

/-- What hop `h` of the all-gather brings. -/
def GV : Fin 3 → Fin 2 → Dev nD → Fin 8 → FVec F S128x1024 .bf16
  | 0, d, c, j => G0 I d (src d c) j
  | 1, d, c, j => G0 I d (src d (src d c)) j
  | 2, d, c, j => G0 I d (src d (src d (src d c))) j

/-- The row block that stage `t` writes to the result. -/
def outV : Fin 4 → Fin 2 → Dev nD → Fin 8 → FVec F S128x1024 .f32
  | 0, d, c, j => RS I d c j
  | 1, d, c, j => extf .f32 (GV I 0 d c j) bitsLt_bf16_f32
  | 2, d, c, j => extf .f32 (GV I 1 d c j) bitsLt_bf16_f32
  | 3, d, c, j => extf .f32 (GV I 2 d c j) bitsLt_bf16_f32

/-! ## The cells -/

abbrev barC (c : Dev nD) : GSem nD τ sig := ((c : Thread nD τ), .reg barS)
abbrev creC (c : Dev nD) : GSem nD τ sig := ((c : Thread nD τ), .reg credS)
abbrev dmaC (c : Dev nD) (q : DmaSem sig) : GSem nD τ sig := ((c : Thread nD τ), .dma q)

/-- The use a semaphore is put to. -/
inductive Ck where
  | non | bar | crd
  | rsS (d : Fin 2) (h : Fin 3) (j : Fin 8)
  | rsR (d : Fin 2) (h : Fin 3) (j : Fin 8)
  | agS (d : Fin 2) (h : Fin 3) (j : Fin 8)
  | agR (d : Fin 2) (h : Fin 3) (j : Fin 8)
  | out (d p : Fin 2)
  deriving DecidableEq

/-- The use of a copy semaphore, by its number. -/
def ckN (n : ℕ) : Ck :=
  if n < 4 then .non
  else if n < 196 then
    let d : Fin 2 := ⟨(n - 4) / 48 % 2, Nat.mod_lt _ (by decide)⟩
    let h : Fin 3 := ⟨(n - 4) % 24 / 8 % 3, Nat.mod_lt _ (by decide)⟩
    let j : Fin 8 := ⟨(n - 4) % 8, Nat.mod_lt _ (by decide)⟩
    if (n - 4) / 96 = 0 then (if (n - 4) / 24 % 2 = 0 then .rsS d h j else .rsR d h j)
    else (if (n - 4) / 24 % 2 = 0 then .agS d h j else .agR d h j)
  else .out ⟨(n - 196) / 2 % 2, Nat.mod_lt _ (by decide)⟩ ⟨(n - 196) % 2, Nat.mod_lt _ (by decide)⟩

def ck : SemLoc sig → Ck
  | .reg q => if q = barS then .bar else .crd
  | .dma q => ckN q.val

theorem ck_bar : ck (.reg barS) = .bar := by decide
theorem ck_crd : ck (.reg credS) = .crd := by decide
theorem ck_rsS (d : Fin 2) (h : Fin 3) (j : Fin 8) : ck (.dma (rsS d h j)) = .rsS d h j := by revert d h j; decide
theorem ck_rsR (d : Fin 2) (h : Fin 3) (j : Fin 8) : ck (.dma (rsR d h j)) = .rsR d h j := by revert d h j; decide
theorem ck_agS (d : Fin 2) (h : Fin 3) (j : Fin 8) : ck (.dma (agS d h j)) = .agS d h j := by revert d h j; decide
theorem ck_agR (d : Fin 2) (h : Fin 3) (j : Fin 8) : ck (.dma (agR d h j)) = .agR d h j := by revert d h j; decide
theorem ck_out (d p : Fin 2) : ck (.dma (outS d p)) = .out d p := by revert d p; decide

/-- What a row block credits, and a block of the result. -/
abbrev N : ℕ := (lane (comm 0) 0 0).view.dmaCredit
abbrev NO : ℕ := (outM 0 0 0 0).view.dmaCredit
theorem N_pos : 0 < N := View.dmaCredit_pos _ (by decide)
theorem NO_pos : 0 < NO := View.dmaCredit_pos _ (by decide)

omit [FloatOps F] in
theorem comm_credit (d s : Fin 2) (j : Fin 8) : (lane (comm d) s j).view.dmaCredit = N := by fin_cases d <;> rfl
omit [FloatOps F] in
theorem epi_credit (s : Fin 2) (j : Fin 8) : (lane epi s j).view.dmaCredit = N := rfl
omit [FloatOps F] in
theorem gath_credit (d : Fin 2) (s : Fin 3) (j : Fin 8) : (lane (gath d) s j).view.dmaCredit = N := by fin_cases d <;> rfl

/-! ## The schedule -/

/-- The slot hop `h` of the reduce-scatter sends from, and the one it fills. -/
abbrev slS : Fin 3 → Fin 2 | 0 => 0 | 1 => 1 | 2 => 0
abbrev slR : Fin 3 → Fin 2 | 0 => 1 | 1 => 0 | 2 => 1

/-- The stage and the row block of round `k` of result semaphore `(d, p)`. -/
abbrev rdT (k : ℕ) : Fin 4 := ⟨k / 4 % 4, Nat.mod_lt _ (by decide)⟩
abbrev rdJ (k : ℕ) (p : Fin 2) : Fin 8 := ⟨(2 * (k % 4) + p.val) % 8, Nat.mod_lt _ (by decide)⟩

def barPay (c : Dev nD) (d : Fin 2) : sProp (MM F) :=
  bigSepL rows fun j => iprop(lnAny (comm d) 1 j (tgt d c) ∗ lnAny (gath d) 0 j (tgt d c) ∗ lnAny (gath d) 1 j (tgt d c)
    ∗ lnAny (gath d) 2 j (tgt d c))
/-- The slot a credit of round `r` frees. -/
abbrev crSlot (r : ℕ) : Fin 2 := if r = 0 then 0 else 1
def crePay (c : Dev nD) (r : ℕ) (d : Fin 2) : sProp (MM F) := bigSepL rows fun j => lnAny (comm d) (crSlot r) j (tgt d c)
def rsRPay (d : Fin 2) (h : Fin 3) (j : Fin 8) (c : Dev nD) : sProp (MM F) :=
  iprop(lnO (comm d) (slR h) j c fullShare (AV I h d (src d c) j) ∗ (if h = 1 then reached ER (creC (src d c)) 1 else iprop(emp)))
def agSPay (d : Fin 2) : Fin 3 → Fin 8 → Dev nD → sProp (MM F)
  | 0, j, c => lnO epi d j c fullShare (G0 I d c j)
  | 1, j, c => lnO (gath d) 0 j c fullShare.left (GV I 0 d c j)
  | 2, j, c => lnO (gath d) 1 j c fullShare.left (GV I 1 d c j)
def outPay (d p : Fin 2) (k : ℕ) (c : Dev nD) : sProp (MM F) :=
  iprop(outO c d (rdT k) (rdJ k p) (outV I (rdT k) d c (rdJ k p)) ∗ fsO c d p (outV I (rdT k) d c (rdJ k p)))

def payCk (c : Dev nD) (r : ℕ) (d : Fin 2) : Ck → sProp (MM F)
  | .non => iprop(emp)
  | .bar => barPay c d
  | .crd => crePay c r d
  | .rsS d h j => lnO (comm d) (slS h) j c fullShare (AV I h d c j)
  | .rsR d h j => rsRPay I d h j c
  | .agS d h j => agSPay I d h j c
  | .agR d h j => lnO (gath d) h j c fullShare (GV I h d c j)
  | .out d p => outPay I d p r c

def dutCk (r : ℕ) : Ck → Finset (Fin 2)
  | .non => ∅
  | .bar => if r < 1 then Finset.univ else ∅
  | .crd => if r < 2 then Finset.univ else ∅
  | .out _ _ => if r < 16 then {0} else ∅
  | .rsS _ _ _ | .rsR _ _ _ | .agS _ _ _ | .agR _ _ _ => if r < 1 then {0} else ∅

def amtCk : Ck → ℕ
  | .non | .bar | .crd => 1
  | .out _ _ => NO
  | .rsS _ _ _ | .rsR _ _ _ | .agS _ _ _ | .agR _ _ _ => N

def Rd : Rounds.Schedule (GSem nD τ sig) (Fin 2) (MM F) where
  duties g r := if g.1.2 = .tc then dutCk r (ck g.2) else ∅
  unitless _ := False
  amount g _ _ := amtCk (ck g.2)
  payload g r d := payCk I g.1.1 r d (ck g.2)
  amount_pos g _ _ _ := by
    cases ck g.2 <;> simp only [amtCk] <;> first | exact Nat.one_pos | exact N_pos | exact NO_pos

instance bigSepL_storable {T : Type} (l : List T) (Φ : T → sProp (MM F)) [h : ∀ t, BI.Storable (upEmb : UEmb _ (MM F)) (Φ t)] :
    BI.Storable (upEmb : UEmb _ (MM F)) (bigSepL l Φ) := by
  induction l with
  | nil => rw [sepL_nil]; infer_instance
  | cons a l ih => rw [sepL_cons]; infer_instance

instance barPay_storable (c : Dev nD) (d : Fin 2) : BI.Storable (upEmb : UEmb _ (MM F)) (barPay c d) := by
  unfold barPay; infer_instance
instance crePay_storable (c : Dev nD) (r : ℕ) (d : Fin 2) : BI.Storable (upEmb : UEmb _ (MM F)) (crePay c r d) := by
  unfold crePay; infer_instance
instance rsRPay_storable (d : Fin 2) (h : Fin 3) (j : Fin 8) (c : Dev nD) : BI.Storable (upEmb : UEmb _ (MM F)) (rsRPay I d h j c) := by
  unfold rsRPay; split <;> infer_instance
instance agSPay_storable (d : Fin 2) (h : Fin 3) (j : Fin 8) (c : Dev nD) : BI.Storable (upEmb : UEmb _ (MM F)) (agSPay I d h j c) := by
  fin_cases h <;> (unfold agSPay; infer_instance)
instance outPay_storable (d p : Fin 2) (k : ℕ) (c : Dev nD) : BI.Storable (upEmb : UEmb _ (MM F)) (outPay I d p k c) := by
  unfold outPay; infer_instance
instance payCk_storable (c : Dev nD) (r : ℕ) (d : Fin 2) (k : Ck) : BI.Storable (upEmb : UEmb _ (MM F)) (payCk I c r d k) := by
  cases k <;> (unfold payCk; infer_instance)

instance Rd_storable (g : GSem nD τ sig) (r : ℕ) (d : Fin 2) : BI.Storable (upEmb : UEmb _ (MM F)) ((Rd I).payload g r d) :=
  payCk_storable I g.1.1 r d (ck g.2)

theorem Rd_duties (c : Dev nD) (sm : SemLoc sig) (r : ℕ) : (Rd I).duties ((c : Thread nD τ), sm) r = dutCk r (ck sm) := by
  dsimp only [Rd]; exact if_pos rfl
theorem Rd_amount (c : Dev nD) (sm : SemLoc sig) (r : ℕ) (d : Fin 2) : (Rd I).amount ((c : Thread nD τ), sm) r d = amtCk (ck sm) := rfl
theorem Rd_payload (c : Dev nD) (sm : SemLoc sig) (r : ℕ) (d : Fin 2) : (Rd I).payload ((c : Thread nD τ), sm) r d = payCk I c r d (ck sm) := rfl

/-- One duty of the round, so the round's units are its amount and its payload the rest. -/
theorem Rd_expect_one (c : Dev nD) (sm : SemLoc sig) (r : ℕ) (h : dutCk r (ck sm) = {0}) :
    (Rd I).expect ((c : Thread nD τ), sm) r = amtCk (ck sm) := by
  unfold Schedule.expect Schedule.amountOf
  rw [Rd_duties, h, Finset.sum_singleton, Rd_amount]
theorem Rd_rest_one (c : Dev nD) (sm : SemLoc sig) (r : ℕ) (h : dutCk r (ck sm) = {0}) :
    bigSep ((Rd I).duties ((c : Thread nD τ), sm) r \ ∅) (fun d => (Rd I).payload ((c : Thread nD τ), sm) r d) = payCk I c r 0 (ck sm) := by
  rw [Finset.sdiff_empty, Rd_duties, h, bigSep_singleton]; rfl

theorem Rd_expect_two (c : Dev nD) (sm : SemLoc sig) (r : ℕ) (h : dutCk r (ck sm) = Finset.univ) (h1 : amtCk (ck sm) = 1) :
    (Rd I).expect ((c : Thread nD τ), sm) r = 2 := by
  unfold Schedule.expect Schedule.amountOf
  rw [Rd_duties, h, Finset.sum_congr rfl fun d _ => (Rd_amount I c sm r d).trans h1, Finset.sum_const, Finset.card_univ, Fintype.card_fin, smul_eq_mul]
theorem Rd_rest_two (c : Dev nD) (sm : SemLoc sig) (r : ℕ) (h : dutCk r (ck sm) = Finset.univ) :
    bigSep ((Rd I).duties ((c : Thread nD τ), sm) r \ ∅) (fun d => (Rd I).payload ((c : Thread nD τ), sm) r d)
      = iprop(payCk I c r 0 (ck sm) ∗ payCk I c r 1 (ck sm)) := by
  rw [Finset.sdiff_empty, Rd_duties, h, bigSep_univ_eq_bigSepL [0, 1] (by decide) (by decide), sepL_cons]; rfl

/-! ## What each device owes; the levels -/

def lvCk (i : Fin 2) : Ck → ℕ
  | .bar => 1
  | .crd => if i = 0 then 2 else 5
  | .rsR _ h _ => if h = 0 then 3 else if h = 1 then 4 else 6
  | .agR _ h _ => 7 + h.val
  | .non | .rsS _ _ _ | .agS _ _ _ | .out _ _ => 0

def L (g : GSem nD τ sig) : Finset (Fin 2) := if g.1.2 = .tc then Finset.univ else ∅
def lv (g : GSem nD τ sig) (i : Fin 2) : ℕ := lvCk i (ck g.2)

theorem L_of_ne (g : GSem nD τ sig) (h : g.1.2 ≠ .tc) : L g = ∅ := if_neg h
theorem L_tc (c : Dev nD) (sm : SemLoc sig) : L ((c : Thread nD τ), sm) = Finset.univ := if_pos rfl

/-- Units owed, as a list: the device, the semaphore, the index, the amount. -/
abbrev Ob : Type := List (Dev nD × SemLoc sig × Fin 2 × ℕ)

def owedL : Ob → CellTallies nD τ sig (Fin 2)
  | [] => 0
  | e :: l => owedL l + tallyAt ((e.1 : Thread nD τ), e.2.1) e.2.2.1 e.2.2.2

theorem owedL_pos {l : Ob} {g : GSem nD τ sig} {u : Fin 2} (h : 0 < owedL l g u) :
    ∃ e ∈ l, g = ((e.1 : Thread nD τ), e.2.1) ∧ u = e.2.2.1 := by
  induction l with
  | nil => exact absurd h (Nat.lt_irrefl 0)
  | cons e l ih =>
    unfold owedL at h
    rw [Pi.add_apply, Finsupp.add_apply, tallyAt_apply] at h
    by_cases hg : g = ((e.1 : Thread nD τ), e.2.1) ∧ u = e.2.2.1
    · exact ⟨e, List.mem_cons_self, hg⟩
    · rw [if_neg hg, Nat.add_zero] at h
      obtain ⟨e', he', h'⟩ := ih h
      exact ⟨e', List.mem_cons_of_mem _ he', h'⟩

/-- All units owed are at cells above `n`. -/
def above (n : ℕ) (l : Ob) : Prop := ∀ e ∈ l, n < lvCk e.2.2.1 (ck e.2.1)

theorem mayWait (c : Dev nD) (sm : SemLoc sig) (i : Fin 2) (l : Ob) (h : above (lvCk i (ck sm)) l) :
    (levAts L lv : sProp (MM F)) ⊢ MayWait (c : Thread nD τ) sm i (owedL l) :=
  MayOwe.of_cut (L := L) (lev := lv) (lvCk i (ck sm)) (fun p hp => by rw [Finset.mem_singleton.mp hp, L_tc]; exact Finset.mem_univ _)
    (fun g u hg => by
      obtain ⟨e, -, rfl, rfl⟩ := owedL_pos hg
      rw [L_tc]; exact Finset.mem_univ _)
    (fun p hp => by rw [Finset.mem_singleton.mp hp]; exact le_rfl)
    (fun g u hg => by
      obtain ⟨e, he, rfl, rfl⟩ := owedL_pos hg
      exact h e he)

end Cert.Coll

end
-- ==== Proof.Steps.lean ====
/-
  One rule for each kind of step of the kernel: a send, a wait for a row block, a signal, the exchange with both
  neighbours, the copies to the result.
-/
module

public import proofs.«01_k».proof.Proof.Sched

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

/-! ## What every device knows -/

/-- The cells of the protocol. -/
def cells : Finset (GSem nD τ sig) := Finset.univ.filter fun g => g.1.2 = .tc ∧ ck g.2 ≠ .non

theorem mem_cells (c : Dev nD) (sm : SemLoc sig) (h : ck sm ≠ .non) : ((c : Thread nD τ), sm) ∈ cells :=
  Finset.mem_filter.mpr ⟨Finset.mem_univ _, rfl, h⟩

def Ctx : sProp (MM F) :=
  iprop(levAts L lv ∗ bigSep cells (fun g => cellInv ER (Rd I) (K g) g) ∗ bigSep cells (fun g => reached ER g 0))

instance Ctx_persistent : BI.Persistent (Ctx I K) := by unfold Ctx; infer_instance

theorem Ctx_inv (c : Dev nD) (sm : SemLoc sig) (h : ck sm ≠ .non) :
    Ctx I K ⊢ cellInv ER (Rd I) (K ((c : Thread nD τ), sm)) ((c : Thread nD τ), sm) := by
  unfold Ctx
  iintro ⟨-, H, -⟩
  iapply (show _ ⊢ _ from bigSep_elim (Φ := fun g => cellInv ER (Rd I) (K g) g) (mem_cells c sm h)); iexact H

theorem Ctx_reached (c : Dev nD) (sm : SemLoc sig) (h : ck sm ≠ .non) :
    Ctx I K ⊢ (reached ER ((c : Thread nD τ), sm) 0 : sProp (MM F)) := by
  unfold Ctx
  iintro ⟨-, -, H⟩
  iapply (show _ ⊢ _ from bigSep_elim (Φ := fun g => reached ER g 0) (mem_cells c sm h)); iexact H

theorem Ctx_lev : Ctx I K ⊢ (levAts L lv : sProp (MM F)) := by
  unfold Ctx
  iintro ⟨H, -, -⟩; iexact H

/-- Units owed, whatever was waited for so far. -/
abbrev owesX (c : Dev nD) (l : Ob) : sProp (MM F) := iprop(∃ W, owes (c : Thread nD τ) (owedL l) W)

/-! ## A send -/

theorem wp_sendL {n m : ℕ} (c dv : Dev nD) (A : Memref sig .tc .vmem (SN n) .bf16) (hA : A.IsWhole) (s : Fin n)
    (B : Memref sig .tc .vmem (SN m) .bf16) (hB : B.IsWhole) (s' : Fin m) (j : Fin 8) (sS sR : DmaSem sig)
    (hN : (lane B s' j).view.dmaCredit = N)
    (hS : dutCk 0 (ck (.dma sS)) = {0}) (hS' : amtCk (ck (.dma sS)) = N) (hSn : ck (.dma sS) ≠ .non)
    (hR : dutCk 0 (ck (.dma sR)) = {0}) (hR' : amtCk (ck (.dma sR)) = N) (hRn : ck (.dma sR) ≠ .non)
    (q : PosShare TreeShare) (X : FVec F S128x1024 .bf16) (Fr : sProp (MM F))
    (hp : lnO A s j c q X ⊢ payCk I c 0 0 (ck (.dma sS)))
    (hp' : iprop(lnO B s' j dv fullShare X ∗ Fr) ⊢ payCk I dv 0 0 (ck (.dma sR)))
    (l : Ob) (Q : PUnit → sProp (MM F)) :
    iprop(Ctx I K ∗ lnO A s j c q X ∗ lnAny (F := F) B s' j dv ∗ Fr ∗ owesX c ((dv, .dma sR, 0, N) :: l)
        ∗ dutyTok ER (dmaC c sS) 0 0 ∗ dutyTok ER (dmaC dv sR) 0 0)
      ⊢ iprop(((cred (tallyAt (dmaC c sS) 0 N) ∗ owesX c l) -∗ Q ⟨⟩) -∗ wpc c (send dv A hA s B hB s' j sS sR) Q) := by
  iintro ⟨#HC, Hsrc, ⟨%Y, Hdst⟩, HF, ⟨%W, HO⟩, HtS, HtR⟩ Hk
  unfold lnO owns
  icases Hsrc with ⟨%fs, %hfs, Hsrc⟩
  icases Hdst with ⟨%fd, -, Hdst⟩
  subst hfs
  unfold wpc send Prog.lift
  iapply (Rounds.wp_send_pointsTo_with 𝒱₀ ER (Rd I) (c : Thread nD τ) none (F := Fr)
    (κ₁ := K (dmaC c sS)) (κ₂ := K (dmaC dv sR)) (r₁ := 0) (r₂ := 0) (d₁ := (0 : Fin 2)) (d₂ := (0 : Fin 2)) (fs := fs) (fd := fd)
    (by rw [Rd_duties, hS]; exact Finset.mem_singleton_self _) (by rw [Rd_duties, hR]; exact Finset.mem_singleton_self _)
    (0 : Fin 2) (0 : Fin 2) N (by exact hN) (by rw [Rd_amount, hS']) (by rw [Rd_amount, hR']) (owedL l) rfl (W := W)
    (by
      rw [Rd_payload]
      refine BI.Entails.trans ?_ hp
      exact owns_intro (c : Thread nD τ) (lane A s j) q fs)
    (by
      rw [Rd_payload]
      refine BI.Entails.trans (BI.sep_mono ?_ (BI.Entails.refl _)) hp'
      exact lane_written B s' j dv fd ((lane A s j).view.read (Elt F) fs))) $$ [Hsrc Hdst HF HO HtS HtR]
  · isplitr; · iapply (Ctx_inv I K c _ hSn); iexact HC
    isplitr; · iapply (Ctx_inv I K dv _ hRn); iexact HC
    isplitl [Hsrc]; · iexact Hsrc
    isplitl [Hdst HF]
    · isplitl [Hdst]; · iexact Hdst
      iexact HF
    isplitl [HO]; · iexact HO
    isplitl [HtS]; · iexact HtS
    isplitr; · iapply (Ctx_reached I K c _ hSn); iexact HC
    isplitl [HtR]; · iexact HtR
    iapply (Ctx_reached I K dv _ hRn); iexact HC
  iintro ⟨Hc, HO⟩
  rw [wp_ret]; imodintro
  iapply Hk
  isplitl [Hc]; · iexact Hc
  iexists W; iexact HO

/-! ## A wait for a row block -/

theorem wp_waitLane {n m : ℕ} (c : Dev nD) (sm : DmaSem sig) (A : Memref sig .tc .vmem (SN n) .bf16) (hA : A.IsWhole) (s : Fin n)
    (B : Memref sig .tc .vmem (SN m) .bf16) (hB : B.IsWhole) (s' : Fin m) (j : Fin 8)
    (hN : (lane B s' j).view.dmaCredit = N)
    (hS : dutCk 0 (ck (.dma sm)) = {0}) (hS' : amtCk (ck (.dma sm)) = N) (hSn : ck (.dma sm) ≠ .non)
    (l : Ob) (hl : above (lvCk 0 (ck (.dma sm))) l) (Q : PUnit → sProp (MM F)) :
    iprop(Ctx I K ∗ cred (tallyAt (dmaC c sm) 0 N) ∗ owesX c l ∗ atPos ER (dmaC c sm) 0 ∅ 0)
      ⊢ iprop(((owesX c l ∗ atPos ER (dmaC c sm) 1 ∅ 0 ∗ payCk I c 0 0 (ck (.dma sm))) -∗ Q ⟨⟩)
          -∗ wpc c (waitL sm A hA s B hB s' j) Q) := by
  iintro ⟨#HC, Hc, ⟨%W, HO⟩, Hat⟩ Hk
  unfold wpc waitL Prog.lift
  iapply (Rounds.wp_wait_rest_token 𝒱₀ ER (Rd I) (c : Thread nD τ) none (κ := K (dmaC c sm))
      (wpE_waitDma2_eq 𝒱₀ (c : Thread nD τ) none Set.univ) (Set.mem_univ _) (0 : Fin 2) (O := owedL l) (W := W) (R := 0) (m := 0) (T := ∅)
      (by rw [Nat.zero_add, hN, Rd_expect_one I c _ 0 hS, hS'])) $$ [Hc HO Hat]
  · isplitr; · iapply (Ctx_inv I K c _ hSn); iexact HC
    isplitl [Hc]; · rw [hN]; iexact Hc
    isplitl [HO]; · iexact HO
    isplitr
    · iapply (mayWait c _ 0 l hl); iapply (Ctx_lev I K); iexact HC
    iexact Hat
  iintro ⟨HO, Hat, -, Hpay⟩
  rw [wp_ret]; imodintro
  iapply Hk
  isplitl [HO]; · iexists _; iexact HO
  isplitl [Hat]; · iexact Hat
  iapply (Entails.of_eq (Rd_rest_one I c _ 0 hS)); iexact Hpay

/-! ## The exchanges -/

theorem wp_exchange (c : Dev nD) (sm : Sem sig) (r : ℕ) (i : Fin 2) (P : sProp (MM F))
    (hd : dutCk r (ck (.reg sm)) = Finset.univ) (ha : amtCk (ck (.reg sm)) = 1) (hn : ck (.reg sm) ≠ .non)
    (l : Ob) (hl : above (lvCk i (ck (.reg sm))) l) (Q : PUnit → sProp (MM F)) :
    iprop(Ctx I K ∗ reached ER ((left c : Thread nD τ), .reg sm) r ∗ reached ER ((right c : Thread nD τ), .reg sm) r
        ∗ cred (tallyAt ((c : Thread nD τ), .reg sm) i 2) ∗ owesX c ((left c, .reg sm, i, 1) :: (right c, .reg sm, i, 1) :: l)
        ∗ atPos ER ((c : Thread nD τ), .reg sm) r ∅ 0
        ∗ dutyTok ER ((left c : Thread nD τ), .reg sm) r 0 ∗ dutyTok ER ((right c : Thread nD τ), .reg sm) r 1
        ∗ payCk I (left c) r 0 (ck (.reg sm)) ∗ payCk I (right c) r 1 (ck (.reg sm)))
      ⊢ iprop(((owesX c l ∗ atPos ER ((c : Thread nD τ), .reg sm) (r + 1) ∅ 0 ∗ reached ER ((c : Thread nD τ), .reg sm) (r + 1)
            ∗ payCk I c r 0 (ck (.reg sm)) ∗ payCk I c r 1 (ck (.reg sm))) -∗ Q ⟨⟩)
          -∗ wpc c (exchange c sm) Q) := by
  iintro ⟨#HC, #HrL, #HrR, Hc, ⟨%W, HO⟩, Hat, HtL, HtR, HpL, HpR⟩ Hk
  unfold wpc exchange
  simp only [semSignalWord, semWaitWord, Prog.lift, Prog.bind_op, Prog.bind_ret]
  iapply (Rounds.wp_signal 𝒱₀ ER (Rd I) (c : Thread nD τ) none (dst := (left c : Thread nD τ)) (κ := K ((left c : Thread nD τ), .reg sm)) (r := r)
      (d := (0 : Fin 2)) (by rw [Rd_duties, hd]; exact Finset.mem_univ _) (by rw [Rd_amount, ha]; rfl) i
      (owedL ((right c, .reg sm, i, 1) :: l)) rfl (W := W)) $$ [HO HtL HpL]
  · isplitr; · iapply (Ctx_inv I K (left c) _ hn); iexact HC
    isplitl [HO]; · iexact HO
    isplitl [HtL]; · iexact HtL
    isplitl [HpL]; · rw [Rd_payload]; iexact HpL
    iexact HrL
  iintro HO
  iapply (Rounds.wp_signal 𝒱₀ ER (Rd I) (c : Thread nD τ) none (dst := (right c : Thread nD τ)) (κ := K ((right c : Thread nD τ), .reg sm)) (r := r)
      (d := (1 : Fin 2)) (by rw [Rd_duties, hd]; exact Finset.mem_univ _) (by rw [Rd_amount, ha]; rfl) i
      (owedL l) rfl (W := W)) $$ [HO HtR HpR]
  · isplitr; · iapply (Ctx_inv I K (right c) _ hn); iexact HC
    isplitl [HO]; · iexact HO
    isplitl [HtR]; · iexact HtR
    isplitl [HpR]; · rw [Rd_payload]; iexact HpR
    iexact HrR
  iintro HO
  iapply (Rounds.wp_wait_rest_token 𝒱₀ ER (Rd I) (c : Thread nD τ) none (κ := K ((c : Thread nD τ), .reg sm))
      (wpE_semWait_eq 𝒱₀ (c : Thread nD τ) none Set.univ) (Set.mem_univ _) i (O := owedL l) (W := W) (R := r) (m := 0) (T := ∅)
      (by rw [Rd_expect_two I c _ r hd ha]; decide)) $$ [Hc HO Hat]
  · isplitr; · iapply (Ctx_inv I K c _ hn); iexact HC
    isplitl [Hc]; · iexact Hc
    isplitl [HO]; · iexact HO
    isplitr
    · iapply (mayWait c _ i l hl); iapply (Ctx_lev I K); iexact HC
    iexact Hat
  iintro ⟨HO, Hat, Hre, Hpay⟩
  ihave Hp := (Entails.of_eq (Rd_rest_two I c _ r hd)) $$ Hpay
  icases Hp with ⟨Hp0, Hp1⟩
  rw [wp_ret]; imodintro
  iapply Hk
  isplitl [HO]; · iexists _; iexact HO
  isplitl [Hat]; · iexact Hat
  isplitl [Hre]; · iexact Hre
  isplitl [Hp0] <;> iassumption

end Cert.Coll

end
-- ==== Proof.Lanes.lean ====
/-
  The steps of a lane: the reduce-scatter's send, wait and sum, the copies to the result, the activation and the
  all-gather.
-/
module

public import proofs.«01_k».proof.Proof.Steps
public import Idealize.ShloMosaic.Lib.MemrefSat

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

/-! ## The reduce-scatter -/

/-- What pays for a send, and for its landing. -/
abbrev rsTok (d : Fin 2) (h : Fin 3) (j : Fin 8) (c : Dev nD) : sProp (MM F) :=
  iprop(dutyTok ER (dmaC c (rsS d h j)) 0 0 ∗ dutyTok ER (dmaC (tgt d c) (rsR d h j)) 0 0)
abbrev agTok (d : Fin 2) (h : Fin 3) (j : Fin 8) (c : Dev nD) : sProp (MM F) :=
  iprop(dutyTok ER (dmaC c (agS d h j)) 0 0 ∗ dutyTok ER (dmaC (tgt d c) (agR d h j)) 0 0)
/-- What lets a semaphore be waited for. -/
abbrev gotTok (q : DmaSem sig) (c : Dev nD) : sProp (MM F) := iprop(cred (tallyAt (dmaC c q) 0 N) ∗ atPos ER (dmaC c q) 0 ∅ 0)
/-- Nothing is left to wait for. -/
abbrev doneAt (q : DmaSem sig) (c : Dev nD) : sProp (MM F) := atPos ER (dmaC c q) 1 ∅ 0

theorem wp_rsSend (c : Dev nD) (h : Fin 3) (s s' : Fin 2) (hs : s = slS h) (hs' : s' = slR h) (j : Fin 8) (d : Fin 2) (l : Ob)
    (Q : PUnit → sProp (MM F)) :
    iprop(Ctx I K ∗ lnO (comm d) s j c fullShare (AV I h d c j) ∗ lnAny (F := F) (comm d) s' j (tgt d c)
        ∗ (if h = 1 then reached ER (creC c) 1 else iprop(emp))
        ∗ owesX c ((tgt d c, .dma (rsR d h j), 0, N) :: l) ∗ rsTok d h j c)
      ⊢ iprop(((cred (tallyAt (dmaC c (rsS d h j)) 0 N) ∗ owesX c l) -∗ Q ⟨⟩) -∗ wpc c (rsSend c h s s' j d) Q) := by
  subst hs; subst hs'
  refine BIBase.Entails.trans ?_ (wp_sendL I K c (tgt d c) (comm d) (comm_whole d) (slS h) (comm d) (comm_whole d) (slR h) j (rsS d h j) (rsR d h j)
    (comm_credit d _ j) (by rw [ck_rsS]; rfl) (by rw [ck_rsS]; rfl) (by rw [ck_rsS]; nofun) (by rw [ck_rsR]; rfl) (by rw [ck_rsR]; rfl)
    (by rw [ck_rsR]; nofun) fullShare (AV I h d c j) (if h = 1 then reached ER (creC c) 1 else iprop(emp))
    (by rw [ck_rsS]; exact .rfl)
    (by rw [ck_rsR]; dsimp only [payCk]; unfold rsRPay; rw [src_tgt]) l Q)
  iintro ⟨H1, H2, H3, H4, H5, H6, H7⟩
  isplitl [H1]; · iexact H1
  isplitl [H2]; · iexact H2
  isplitl [H3]; · iexact H3
  isplitl [H4]; · iexact H4
  isplitl [H5]; · iexact H5
  isplitl [H6] <;> iassumption

theorem wp_rsSent (c : Dev nD) (h : Fin 3) (s s' : Fin 2) (hs : s = slS h) (j : Fin 8) (d : Fin 2) (l : Ob) (hl : above 0 l)
    (Q : PUnit → sProp (MM F)) :
    iprop(Ctx I K ∗ owesX c l ∗ gotTok (rsS d h j) c)
      ⊢ iprop(((owesX c l ∗ doneAt (rsS d h j) c ∗ lnO (comm d) s j c fullShare (AV I h d c j)) -∗ Q ⟨⟩)
          -∗ wpc c (rsSent h s s' j d) Q) := by
  subst hs
  have key := wp_waitLane I K c (rsS d h j) (comm d) (comm_whole d) s' (comm d) (comm_whole d) (slS h) j
    (comm_credit d _ j) (by rw [ck_rsS]; rfl) (by rw [ck_rsS]; rfl) (by rw [ck_rsS]; nofun) l (by rw [ck_rsS]; exact hl) Q
  rw [ck_rsS] at key
  refine BIBase.Entails.trans ?_ key
  iintro ⟨H1, H2, H3, H4⟩
  isplitl [H1]; · iexact H1
  isplitl [H3]; · iexact H3
  isplitl [H2] <;> iassumption

theorem wp_rsGot (c : Dev nD) (h : Fin 3) (s s' : Fin 2) (hs : s' = slR h) (j : Fin 8) (d : Fin 2) (l : Ob)
    (hl : above (lvCk 0 (.rsR d h j)) l) (Q : PUnit → sProp (MM F)) :
    iprop(Ctx I K ∗ owesX c l ∗ gotTok (rsR d h j) c)
      ⊢ iprop(((owesX c l ∗ doneAt (rsR d h j) c ∗ lnO (comm d) s' j c fullShare (AV I h d (src d c) j)
            ∗ (if h = 1 then reached ER (creC (src d c)) 1 else iprop(emp))) -∗ Q ⟨⟩)
          -∗ wpc c (rsGot h s s' j d) Q) := by
  subst hs
  have key := wp_waitLane I K c (rsR d h j) (comm d) (comm_whole d) s (comm d) (comm_whole d) (slR h) j
    (comm_credit d _ j) (by rw [ck_rsR]; rfl) (by rw [ck_rsR]; rfl) (by rw [ck_rsR]; nofun) l (by rw [ck_rsR]; exact hl) Q
  rw [ck_rsR] at key
  refine BIBase.Entails.trans ?_ key
  iintro ⟨H1, H2, H3, H4⟩
  isplitl [H1]; · iexact H1
  isplitl [H3]; · iexact H3
  isplitl [H2] <;> iassumption

theorem wp_addL (c : Dev nD) (s : Fin 2) (j : Fin 8) (d : Fin 2) (X Y : FVec F S128x1024 .bf16) (Q : PUnit → sProp (MM F)) :
    iprop(lnO (comm d) s j c fullShare X ∗ lnO epi d j c fullShare Y)
      ⊢ iprop(((lnO (comm d) s j c fullShare (addf X Y) ∗ lnO epi d j c fullShare Y) -∗ Q ⟨⟩) -∗ wpc c (addL s j d) Q) := by
  unfold addL
  unfold wpc
  simp only [wp_bind]
  iintro ⟨HX, HY⟩ Hk
  iapply (wp_loadL (comm d) s j c fullShare X _) $$ HX
  iintro HX
  iapply (wp_loadL epi d j c fullShare Y _) $$ HY
  iintro HY
  iapply (wp_loadL (comm d) s j c fullShare X _) $$ HX
  iintro HX
  rw [sq_usq, sq_usq]
  iapply (wp_storeL (comm d) s j (comm_whole d) c X (addf X Y) _) $$ HX
  iintro HX
  iapply Hk
  isplitl [HX] <;> iassumption

/-! ## The copies to the result -/

/-- Round of staging semaphore `(d, par j)` in which stage `t` copies row block `j`. -/
abbrev rnd (t : Fin 4) (j : Fin 8) : ℕ := 4 * t.val + j.val / 2

abbrev outC (c : Dev nD) (d p : Fin 2) : GSem nD τ sig := dmaC c (outS d p)

/-- The block of the result that round `k` brings. -/
abbrev outK (c : Dev nD) (d p : Fin 2) (k : ℕ) : sProp (MM F) := outO c d (rdT k) (rdJ k p) (outV I (rdT k) d c (rdJ k p))

/-- A staging block after `k` copies were started from it: the last of them may still be under way. -/
def outSt (c : Dev nD) (d p : Fin 2) : ℕ → sProp (MM F)
  | 0 => iprop(fsAny c d p ∗ atPos ER (outC c d p) 0 ∅ 0)
  | k + 1 => iprop(cred (tallyAt (outC c d p) 0 NO) ∗ atPos ER (outC c d p) k ∅ 0 ∗ bigSep (Finset.range k) (outK I c d p))

/-- What pays for a copy to the result, and the block it overwrites. -/
abbrev outTok (c : Dev nD) (d : Fin 2) (t : Fin 4) (j : Fin 8) : sProp (MM F) :=
  iprop(dutyTok ER (outC c d (par j)) (rnd t j) 0 ∗ outAny c d t j)

/-- A staging block once the last copy has left it, and no copy is left to wait for. -/
abbrev outEnd (c : Dev nD) (d p : Fin 2) (k : ℕ) : sProp (MM F) :=
  iprop(fsAny c d p ∗ atPos ER (outC c d p) k ∅ 0 ∗ reached ER (outC c d p) k ∗ bigSep (Finset.range k) (outK I c d p))

theorem range_cons (c : Dev nD) (d p : Fin 2) (k : ℕ) :
    iprop(outK I c d p k ∗ bigSep (Finset.range k) (outK I c d p)) = bigSep (insert k (Finset.range k)) (outK I c d p) :=
  (bigSep_insert (Finset.notMem_range_self)).symm

theorem out_credit (c : Dev nD) (d : Fin 2) (t : Fin 4) (j : Fin 8) : (outM c d t j).view.dmaCredit = NO := rfl

theorem wp_outWait (c : Dev nD) (d : Fin 2) (t : Fin 4) (j : Fin 8) (k : ℕ) (hk : k < 16) (l : Ob) (hl : above 0 l)
    (Q : PUnit → sProp (MM F)) :
    iprop(Ctx I K ∗ owesX c l ∗ outSt I c d (par j) (k + 1))
      ⊢ iprop(((owesX c l ∗ outEnd I c d (par j) (k + 1)) -∗ Q ⟨⟩) -∗ wpc c (outWait c d t j) Q) := by
  have hd : dutCk k (ck (.dma (outS d (par j)))) = {0} := by rw [ck_out]; exact if_pos hk
  unfold wpc outWait Prog.lift outSt
  iintro ⟨#HC, ⟨%W, HO⟩, Hc, Hat, Hfin⟩ Hk
  iapply (Rounds.wp_wait_rest_token 𝒱₀ ER (Rd I) (c : Thread nD τ) none (κ := K (outC c d (par j)))
      (wpE_waitDma2_eq 𝒱₀ (c : Thread nD τ) none Set.univ) (Set.mem_univ _) (0 : Fin 2) (O := owedL l) (W := W) (R := k) (m := 0) (T := ∅)
      (by rw [Nat.zero_add, out_credit, Rd_expect_one I c _ k hd, ck_out]; rfl)) $$ [Hc HO Hat]
  · isplitr; · iapply (Ctx_inv I K c _ (by rw [ck_out]; nofun)); iexact HC
    isplitl [Hc]; · rw [out_credit]; iexact Hc
    isplitl [HO]; · iexact HO
    isplitr
    · iapply (mayWait c _ 0 l (by rw [ck_out]; exact hl)); iapply (Ctx_lev I K); iexact HC
    iexact Hat
  iintro ⟨HO, Hat, Hre, Hpay⟩
  ihave Hp := (Entails.of_eq (Rd_rest_one I c _ k hd)) $$ Hpay
  rw [wp_ret]; imodintro
  iapply Hk
  isplitl [HO]; · iexists _; iexact HO
  rw [ck_out]
  dsimp only [payCk]; unfold outPay
  icases Hp with ⟨Hp, Hf⟩
  isplitl [Hf]; · iexists (outV I (rdT k) d c (rdJ k (par j))); iexact Hf
  isplitl [Hat]; · iexact Hat
  isplitl [Hre]; · iexact Hre
  rw [Finset.range_add_one]
  iapply (Entails.of_eq (range_cons I c d (par j) k)); isplitl [Hp] <;> iassumption

theorem rdT_rnd (t : Fin 4) (j : Fin 8) : rdT (rnd t j) = t := by revert t j; decide
theorem rdJ_rnd (t : Fin 4) (j : Fin 8) : rdJ (rnd t j) (par j) = j := by revert t j; decide
theorem par_prev (t : Fin 4) (j : Fin 8) : par (prevT t j).2 = par j := by revert t j; decide
theorem rnd_zero (t : Fin 4) (j : Fin 8) : (decide (t.val = 0) && decide (j.val < 2)) = decide (rnd t j = 0) := by revert t j; decide
theorem rnd_lt (t : Fin 4) (j : Fin 8) : rnd t j < 16 := by revert t j; decide

/-- The wait for the copy before, if there was one. -/
def outPre (c : Dev nD) (d : Fin 2) (t : Fin 4) (j : Fin 8) : Prog (Eff F) PUnit :=
  bif decide (t.val = 0) && decide (j.val < 2) then pure ⟨⟩ else outWait c d (prevT t j).1 (prevT t j).2

theorem outL_eq (c : Dev nD) (d : Fin 2) (t : Fin 4) (j : Fin 8) (v : FVec F S128x1024 .f32) :
    outL c d t j v = (do
      outPre c d t j
      stageL d j v
      Prog.lift (.enqueueDma (fsM d (par j)) (.here (outM c d t j)) (.dma (outS d (par j)))
        ((View.wordExact_bits rfl).reshape _ _) (View.wordExact_bits rfl) ⟨Or.inl rfl, trivial⟩)) := rfl

theorem wp_outPre (c : Dev nD) (d : Fin 2) (t : Fin 4) (j : Fin 8) (l : Ob) (hl : above 0 l) (Q : PUnit → sProp (MM F)) :
    iprop(Ctx I K ∗ owesX c l ∗ outSt I c d (par j) (rnd t j))
      ⊢ iprop(((owesX c l ∗ outEnd I c d (par j) (rnd t j)) -∗ Q ⟨⟩) -∗ wpc c (outPre c d t j) Q) := by
  unfold outPre
  rw [rnd_zero]
  obtain hr | ⟨k, hr⟩ : rnd t j = 0 ∨ ∃ k, rnd t j = k + 1 := by
    cases h : rnd t j with
    | zero => exact .inl rfl
    | succ k => exact .inr ⟨k, rfl⟩
  · rw [hr]
    unfold wpc outSt
    simp only [decide_true, cond_true, Prog.pure_eq_ret, wp_ret]
    iintro ⟨#HC, HO, Hf, Hat⟩ Hk
    imodintro
    iapply Hk
    isplitl [HO]; · iexact HO
    isplitl [Hf]; · iexact Hf
    isplitl [Hat]; · iexact Hat
    isplitr; · iapply (Ctx_reached I K c _ (by rw [ck_out]; nofun)); iexact HC
    rw [Finset.range_zero, bigSep_empty]
    iempintro
  · have h16 := rnd_lt t j
    rw [hr] at h16 ⊢
    have hd : decide (k + 1 = 0) = false := rfl
    rw [hd, cond_false, ← par_prev t j]
    exact wp_outWait I K c d (prevT t j).1 (prevT t j).2 k (by omega) l hl Q

theorem wp_outL (c : Dev nD) (d : Fin 2) (t : Fin 4) (j : Fin 8) (l : Ob) (hl : above 0 l) (Q : PUnit → sProp (MM F)) :
    iprop(Ctx I K ∗ owesX c l ∗ outSt I c d (par j) (rnd t j) ∗ outTok c d t j)
      ⊢ iprop(((owesX c l ∗ outSt I c d (par j) (rnd t j + 1)) -∗ Q ⟨⟩) -∗ wpc c (outL c d t j (outV I t d c j)) Q) := by
  rw [outL_eq]
  unfold wpc
  simp only [wp_bind]
  iintro ⟨#HC, HO, Hst, Htok, %Y, Hout⟩ Hk
  unfold outO owns
  icases Hout with ⟨%fd, -, Hout⟩
  iapply (wp_outPre I K c d t j l hl _) $$ [HO Hst]
  · isplitr; · iexact HC
    isplitl [HO] <;> iassumption
  iintro ⟨HO, Hf, Hat, Hre, Hfin⟩
  iapply (wp_stageL c d j (outV I t d c j) _) $$ Hf
  unfold fsO owns
  iintro ⟨%fs, %hfs, Hf⟩
  unfold Prog.lift
  iapply (Rounds.wp_copy_pointsTo 𝒱₀ ER (Rd I) (c : Thread nD τ) none (κ := K (outC c d (par j))) (r := rnd t j) (d := (0 : Fin 2)) (fs := fs) (fd := fd)
    (by rw [Rd_duties, ck_out]; unfold dutCk; rw [if_pos (rnd_lt t j)]; exact Finset.mem_singleton_self _) (0 : Fin 2) NO (by exact out_credit c d t j)
    (by rw [Rd_amount, ck_out]; rfl)
    (by
      rw [Rd_payload, ck_out]
      dsimp only [payCk]; unfold outPay
      rw [rdT_rnd, rdJ_rnd, ← hfs]
      refine BI.sep_mono (out_written c d t j fd _) ?_
      exact owns_intro (c : Thread nD τ) (fsM d (par j)) fullShare fs)) $$ [Hf Hout Htok Hre]
  · isplitr; · iapply (Ctx_inv I K c _ (by rw [ck_out]; nofun)); iexact HC
    isplitl [Hf]; · iexact Hf
    isplitl [Hout]; · iexact Hout
    isplitl [Htok] <;> iassumption
  iintro Hc
  rw [wp_ret]; imodintro
  iapply Hk
  isplitl [HO]; · iexact HO
  unfold outSt
  isplitl [Hc]; · iexact Hc
  isplitl [Hat] <;> iassumption

/-! ## The activation -/

theorem GV0_tgt (d : Fin 2) (c : Dev nD) (j : Fin 8) : GV I 0 d (tgt d c) j = G0 I d c j := by
  show G0 I d (src d (tgt d c)) j = _
  rw [src_tgt]
theorem GV1_tgt (d : Fin 2) (c : Dev nD) (j : Fin 8) : GV I 1 d (tgt d c) j = GV I 0 d c j := by
  show G0 I d (src d (src d (tgt d c))) j = G0 I d (src d c) j
  rw [src_tgt]
theorem GV2_tgt (d : Fin 2) (c : Dev nD) (j : Fin 8) : GV I 2 d (tgt d c) j = GV I 1 d c j := by
  show G0 I d (src d (src d (src d (tgt d c)))) j = G0 I d (src d (src d c)) j
  rw [src_tgt]

theorem wp_agSend (c : Dev nD) (h : Fin 3) (j : Fin 8) (d : Fin 2) {n : ℕ} (A : Memref sig .tc .vmem (SN n) .bf16) (hA : A.IsWhole) (s : Fin n)
    (q : PosShare TreeShare) (X : FVec F S128x1024 .bf16) (hp : lnO A s j c q X ⊢ agSPay I d h j c) (hX : GV I h d (tgt d c) j = X) (l : Ob)
    (Q : PUnit → sProp (MM F)) :
    iprop(Ctx I K ∗ lnO A s j c q X ∗ lnAny (F := F) (gath d) h j (tgt d c)
        ∗ owesX c ((tgt d c, .dma (agR d h j), 0, N) :: l) ∗ agTok d h j c)
      ⊢ iprop(((cred (tallyAt (dmaC c (agS d h j)) 0 N) ∗ owesX c l) -∗ Q ⟨⟩)
          -∗ wpc c (send (tgt d c) A hA s (gath d) (gath_whole d) h j (agS d h j) (agR d h j)) Q) := by
  refine BIBase.Entails.trans ?_ (wp_sendL I K c (tgt d c) A hA s (gath d) (gath_whole d) h j (agS d h j) (agR d h j)
    (gath_credit d _ j) (by rw [ck_agS]; rfl) (by rw [ck_agS]; rfl) (by rw [ck_agS]; nofun) (by rw [ck_agR]; rfl) (by rw [ck_agR]; rfl)
    (by rw [ck_agR]; nofun) q X iprop(emp) (by rw [ck_agS]; exact hp)
    (by
      rw [ck_agR]; dsimp only [payCk]; rw [hX]
      iintro ⟨H, -⟩; iexact H) l Q)
  iintro ⟨H1, H2, H3, H5, H6, H7⟩
  isplitl [H1]; · iexact H1
  isplitl [H2]; · iexact H2
  isplitl [H3]; · iexact H3
  isplitr; · iempintro
  isplitl [H5]; · iexact H5
  isplitl [H6] <;> iassumption

/-- What the last step of the reduce-scatter takes on a lane. -/
abbrev finPre (c : Dev nD) (j : Fin 8) (d : Fin 2) : sProp (MM F) :=
  iprop(gotTok (rsR d 2 j) c ∗ lnO epi d j c fullShare (pgl I d c 3 j) ∗ agTok d 0 j c ∗ lnAny (F := F) (gath d) 0 j (tgt d c) ∗ outTok c d 0 j)
/-- What it leaves. -/
abbrev finPost (c : Dev nD) (j : Fin 8) (d : Fin 2) : sProp (MM F) :=
  iprop(doneAt (rsR d 2 j) c ∗ lnO (comm d) 1 j c fullShare (AV I 2 d (src d c) j) ∗ cred (tallyAt (dmaC c (agS d 0 j)) 0 N))

theorem wp_finL (c : Dev nD) (j : Fin 8) (d : Fin 2) (l : Ob) (hl : above 6 ((tgt d c, .dma (agR d 0 j), 0, N) :: l)) (Q : PUnit → sProp (MM F)) :
    iprop(Ctx I K ∗ owesX c ((tgt d c, .dma (agR d 0 j), 0, N) :: l) ∗ outSt I c d (par j) (rnd 0 j) ∗ finPre I c j d)
      ⊢ iprop(((owesX c l ∗ outSt I c d (par j) (rnd 0 j + 1) ∗ finPost I c j d) -∗ Q ⟨⟩) -∗ wpc c (finL c (I.s c) j d) Q) := by
  unfold finL
  unfold wpc
  simp only [wp_bind]
  iintro ⟨#HC, HO, Hst, Hgot, HY, Htok, Hg, Hout⟩ Hk
  iapply (wp_rsGot I K c 2 0 1 rfl j d _ (by exact hl) _) $$ [HO Hgot]
  · isplitr; · iexact HC
    isplitl [HO] <;> iassumption
  iintro ⟨HO, Hdone, HX, -⟩
  iapply (wp_loadL (comm d) 1 j c fullShare (AV I 2 d (src d c) j) _) $$ HX
  iintro HX
  iapply (wp_loadL epi d j c fullShare (pgl I d c 3 j) _) $$ HY
  iintro HY
  iapply (wp_loadL epi d j c fullShare (pgl I d c 3 j) _) $$ HY
  iintro HY
  rw [sq_usq, sq_usq]
  iapply (wp_storeL epi d j (Memref.isWhole_whole _) c (pgl I d c 3 j) (G0 I d c j) _) $$ HY
  iintro HY
  iapply (wp_agSend I K c 0 j d epi (Memref.isWhole_whole _) d fullShare (G0 I d c j) .rfl
    (GV0_tgt I d c j) l _) $$ [HY Hg HO Htok]
  · isplitr; · iexact HC
    isplitl [HY]; · iexact HY
    isplitl [Hg]; · iexact Hg
    isplitl [HO] <;> iassumption
  iintro ⟨Hc, HO⟩
  iapply (wp_outL I K c d 0 j l (fun e he => lt_of_le_of_lt (Nat.zero_le 6) (hl e (List.mem_cons_of_mem _ he))) _) $$ [HO Hst Hout]
  · isplitr; · iexact HC
    isplitl [HO]; · iexact HO
    isplitl [Hst] <;> iassumption
  iintro ⟨HO, Hst⟩
  iapply Hk
  isplitl [HO]; · iexact HO
  isplitl [Hst]; · iexact Hst
  isplitl [Hdone]; · iexact Hdone
  isplitl [HX] <;> iassumption

/-! ## The all-gather -/

/-- What hop `h` of the all-gather takes on a lane. -/
abbrev agPre (c : Dev nD) (j : Fin 8) (d : Fin 2) : Fin 3 → sProp (MM F)
  | 0 => iprop(gotTok (agR d 0 j) c ∗ agTok d 1 j c ∗ lnAny (F := F) (gath d) 1 j (tgt d c) ∗ outTok c d (0 : Fin 3).succ j)
  | 1 => iprop(gotTok (agR d 1 j) c ∗ agTok d 2 j c ∗ lnAny (F := F) (gath d) 2 j (tgt d c) ∗ outTok c d (1 : Fin 3).succ j)
  | 2 => iprop(gotTok (agR d 2 j) c ∗ outTok c d (2 : Fin 3).succ j)
/-- What it leaves. -/
abbrev agPost (c : Dev nD) (j : Fin 8) (d : Fin 2) : Fin 3 → sProp (MM F)
  | 0 => iprop(doneAt (agR d 0 j) c ∗ lnO (gath d) 0 j c fullShare.right (GV I 0 d c j) ∗ cred (tallyAt (dmaC c (agS d 1 j)) 0 N))
  | 1 => iprop(doneAt (agR d 1 j) c ∗ lnO (gath d) 1 j c fullShare.right (GV I 1 d c j) ∗ cred (tallyAt (dmaC c (agS d 2 j)) 0 N))
  | 2 => iprop(doneAt (agR d 2 j) c ∗ lnO (gath d) 2 j c fullShare (GV I 2 d c j))
/-- What it still owes at its start, given what comes later. -/
abbrev agOb (c : Dev nD) (j : Fin 8) (d : Fin 2) (l : Ob) : Fin 3 → Ob
  | 0 => (tgt d c, .dma (agR d 1 j), 0, N) :: l
  | 1 => (tgt d c, .dma (agR d 2 j), 0, N) :: l
  | 2 => l

theorem lane_halves {n : ℕ} (A : Memref sig .tc .vmem (SN n) .bf16) (s : Fin n) (j : Fin 8) (c : Dev nD) (X : FVec F S128x1024 .bf16) :
    lnO A s j c fullShare X ⊣⊢ iprop(lnO A s j c fullShare.left X ∗ lnO A s j c fullShare.right X) :=
  owns_halves (Val := Elt F) (c : Thread nD τ) (lane A s j) fullShare X

theorem wp_agGot {n : ℕ} (c : Dev nD) (h : Fin 3) (j : Fin 8) (d : Fin 2) (A : Memref sig .tc .vmem (SN n) .bf16) (hA : A.IsWhole) (s : Fin n) (l : Ob)
    (hl : above (7 + h.val) l) (Q : PUnit → sProp (MM F)) :
    iprop(Ctx I K ∗ owesX c l ∗ gotTok (agR d h j) c)
      ⊢ iprop(((owesX c l ∗ doneAt (agR d h j) c ∗ lnO (gath d) h j c fullShare (GV I h d c j)) -∗ Q ⟨⟩)
          -∗ wpc c (waitL (agR d h j) A hA s (gath d) (gath_whole d) h j) Q) := by
  have key := wp_waitLane I K c (agR d h j) A hA s (gath d) (gath_whole d) h j
    (gath_credit d _ j) (by rw [ck_agR]; rfl) (by rw [ck_agR]; rfl) (by rw [ck_agR]; nofun) l (by rw [ck_agR]; exact hl) Q
  rw [ck_agR] at key
  refine BIBase.Entails.trans ?_ key
  iintro ⟨H1, H2, H3, H4⟩
  isplitl [H1]; · iexact H1
  isplitl [H3]; · iexact H3
  isplitl [H2] <;> iassumption

theorem wp_agL (c : Dev nD) (h : Fin 3) (j : Fin 8) (d : Fin 2) (l : Ob) (hl : above (7 + h.val) (agOb c j d l h)) (Q : PUnit → sProp (MM F)) :
    iprop(Ctx I K ∗ owesX c (agOb c j d l h) ∗ outSt I c d (par j) (rnd h.succ j) ∗ agPre c j d h)
      ⊢ iprop(((owesX c l ∗ outSt I c d (par j) (rnd h.succ j + 1) ∗ agPost I c j d h) -∗ Q ⟨⟩) -∗ wpc c (agL c h j d) Q) := by
  match h with
  | 0 =>
    have h0 : above 0 l := fun e he => lt_of_le_of_lt (Nat.zero_le _) (hl e (List.mem_cons_of_mem _ he))
    unfold agL
    unfold wpc
    simp only [wp_bind]
    iintro ⟨#HC, HO, Hst, Hgot, Htok, Hg, Hout⟩ Hk
    iapply (wp_agGot I K c 0 j d epi (Memref.isWhole_whole _) d _ hl _) $$ [HO Hgot]
    · isplitr; · iexact HC
      isplitl [HO] <;> iassumption
    iintro ⟨HO, Hdone, HX⟩
    ihave HX2 := (lane_halves (gath d) 0 j c (GV I 0 d c j)).1 $$ HX
    icases HX2 with ⟨HXl, HX⟩
    iapply (wp_agSend I K c 1 j d (gath d) (gath_whole d) 0 fullShare.left (GV I 0 d c j) .rfl (GV1_tgt I d c j) l _) $$ [HXl Hg HO Htok]
    · isplitr; · iexact HC
      isplitl [HXl]; · iexact HXl
      isplitl [Hg]; · iexact Hg
      isplitl [HO] <;> iassumption
    iintro ⟨Hc, HO⟩
    iapply (wp_loadL (gath d) 0 j c fullShare.right (GV I 0 d c j) _) $$ HX
    iintro HX
    rw [sq_usq]
    iapply (wp_outL I K c d (0 : Fin 3).succ j l h0 _) $$ [HO Hst Hout]
    · isplitr; · iexact HC
      isplitl [HO]; · iexact HO
      isplitl [Hst] <;> iassumption
    iintro ⟨HO, Hst⟩
    iapply Hk
    isplitl [HO]; · iexact HO
    isplitl [Hst]; · iexact Hst
    isplitl [Hdone]; · iexact Hdone
    isplitl [HX] <;> iassumption
  | 1 =>
    have h0 : above 0 l := fun e he => lt_of_le_of_lt (Nat.zero_le _) (hl e (List.mem_cons_of_mem _ he))
    unfold agL
    unfold wpc
    simp only [wp_bind]
    iintro ⟨#HC, HO, Hst, Hgot, Htok, Hg, Hout⟩ Hk
    iapply (wp_agGot I K c 1 j d (gath d) (gath_whole d) 0 _ hl _) $$ [HO Hgot]
    · isplitr; · iexact HC
      isplitl [HO] <;> iassumption
    iintro ⟨HO, Hdone, HX⟩
    ihave HX2 := (lane_halves (gath d) 1 j c (GV I 1 d c j)).1 $$ HX
    icases HX2 with ⟨HXl, HX⟩
    iapply (wp_agSend I K c 2 j d (gath d) (gath_whole d) 1 fullShare.left (GV I 1 d c j) .rfl (GV2_tgt I d c j) l _) $$ [HXl Hg HO Htok]
    · isplitr; · iexact HC
      isplitl [HXl]; · iexact HXl
      isplitl [Hg]; · iexact Hg
      isplitl [HO] <;> iassumption
    iintro ⟨Hc, HO⟩
    iapply (wp_loadL (gath d) 1 j c fullShare.right (GV I 1 d c j) _) $$ HX
    iintro HX
    rw [sq_usq]
    iapply (wp_outL I K c d (1 : Fin 3).succ j l h0 _) $$ [HO Hst Hout]
    · isplitr; · iexact HC
      isplitl [HO]; · iexact HO
      isplitl [Hst] <;> iassumption
    iintro ⟨HO, Hst⟩
    iapply Hk
    isplitl [HO]; · iexact HO
    isplitl [Hst]; · iexact Hst
    isplitl [Hdone]; · iexact Hdone
    isplitl [HX] <;> iassumption
  | 2 =>
    have h0 : above 0 l := fun e he => lt_of_le_of_lt (Nat.zero_le _) (hl e he)
    unfold agL
    unfold wpc
    simp only [wp_bind, Prog.pure_eq_ret, wp_ret]
    iintro ⟨#HC, HO, Hst, Hgot, Hout⟩ Hk
    iapply (wp_agGot I K c 2 j d (gath d) (gath_whole d) 1 _ hl _) $$ [HO Hgot]
    · isplitr; · iexact HC
      isplitl [HO] <;> iassumption
    iintro ⟨HO, Hdone, HX⟩
    imodintro
    iapply (wp_loadL (gath d) 2 j c fullShare (GV I 2 d c j) _) $$ HX
    iintro HX
    rw [sq_usq]
    iapply (wp_outL I K c d (2 : Fin 3).succ j l h0 _) $$ [HO Hst Hout]
    · isplitr; · iexact HC
      isplitl [HO]; · iexact HO
      isplitl [Hst] <;> iassumption
    iintro ⟨HO, Hst⟩
    iapply Hk
    isplitl [HO]; · iexact HO
    isplitl [Hst]; · iexact Hst
    isplitl [Hdone] <;> iassumption

theorem wp_agSent (c : Dev nD) (h : Fin 3) (j : Fin 8) (d : Fin 2) (l : Ob) (hl : above 0 l) (Q : PUnit → sProp (MM F)) :
    iprop(Ctx I K ∗ owesX c l ∗ gotTok (agS d h j) c)
      ⊢ iprop(((owesX c l ∗ doneAt (agS d h j) c ∗ agSPay I d h j c) -∗ Q ⟨⟩) -∗ wpc c (agSent h j d) Q) := by
  have key : ∀ {n m : ℕ} (A : Memref sig .tc .vmem (SN n) .bf16) (hA : A.IsWhole) (s : Fin n) (B : Memref sig .tc .vmem (SN m) .bf16) (hB : B.IsWhole)
      (s' : Fin m) (hN : (lane B s' j).view.dmaCredit = N), iprop(Ctx I K ∗ owesX c l ∗ gotTok (agS d h j) c)
      ⊢ iprop(((owesX c l ∗ doneAt (agS d h j) c ∗ agSPay I d h j c) -∗ Q ⟨⟩) -∗ wpc c (waitL (agS d h j) A hA s B hB s' j) Q) := by
    intro n m A hA s B hB s' hN
    have key := wp_waitLane I K c (agS d h j) A hA s B hB s' j
      hN (by rw [ck_agS]; rfl) (by rw [ck_agS]; rfl) (by rw [ck_agS]; nofun) l (by rw [ck_agS]; exact hl) Q
    rw [ck_agS] at key
    refine BIBase.Entails.trans ?_ key
    iintro ⟨H1, H2, H3, H4⟩
    isplitl [H1]; · iexact H1
    isplitl [H3]; · iexact H3
    isplitl [H2] <;> iassumption
  match h with
  | 0 => exact key (gath d) (gath_whole d) 0 epi (Memref.isWhole_whole _) d (epi_credit _ _)
  | 1 => exact key (gath d) (gath_whole d) 1 (gath d) (gath_whole d) 0 (gath_credit _ _ _)
  | 2 => exact key (gath d) (gath_whole d) 2 (gath d) (gath_whole d) 1 (gath_credit _ _ _)

end Cert.Coll

end
-- ==== Proof.Loops.lean ====
/-
  The loops over the sixteen lanes, one after the other.
-/
module

public import proofs.«01_k».proof.Proof.Lanes

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

/-! ## What is owed -/

abbrev eRS (h : Fin 3) (c : Dev nD) (p : Fin 8 × Fin 2) : Dev nD × SemLoc sig × Fin 2 × ℕ := (tgt p.2 c, .dma (rsR p.2 h p.1), 0, N)
abbrev eAG (h : Fin 3) (c : Dev nD) (p : Fin 8 × Fin 2) : Dev nD × SemLoc sig × Fin 2 × ℕ := (tgt p.2 c, .dma (agR p.2 h p.1), 0, N)
abbrev eX (s : Sem sig) (i : Fin 2) (c : Dev nD) : Ob := [(left c, .reg s, i, 1), (right c, .reg s, i, 1)]

abbrev o9 (c : Dev nD) : Ob := lanes.map (eAG 2 c) ++ []
abbrev o8 (c : Dev nD) : Ob := lanes.map (eAG 1 c) ++ o9 c
abbrev o7 (c : Dev nD) : Ob := lanes.map (eAG 0 c) ++ o8 c
abbrev o6 (c : Dev nD) : Ob := lanes.map (eRS 2 c) ++ o7 c
abbrev o5 (c : Dev nD) : Ob := eX credS 1 c ++ o6 c
abbrev o4 (c : Dev nD) : Ob := lanes.map (eRS 1 c) ++ o5 c
abbrev o3 (c : Dev nD) : Ob := eX credS 0 c ++ o4 c
abbrev o2 (c : Dev nD) : Ob := rows.map (fun j => eRS 0 c (j, 1)) ++ o3 c
abbrev o1 (c : Dev nD) : Ob := rows.map (fun j => eRS 0 c (j, 0)) ++ o2 c
abbrev o0 (c : Dev nD) : Ob := eX barS 0 c ++ o1 c

theorem above_append {n : ℕ} {l l' : Ob} (h : above n l) (h' : above n l') : above n (l ++ l') := by
  intro e he
  rcases List.mem_append.mp he with he | he
  · exact h e he
  · exact h' e he
theorem above_nil (n : ℕ) : above n [] := fun e he => by cases he
theorem above_rs {n : ℕ} {T : Type} (h : Fin 3) (c : Dev nD) (g : T → Fin 8 × Fin 2) (l : List T) (hn : n < lvCk 0 (.rsR 0 h 0)) :
    above n (l.map fun t => eRS h c (g t)) := by
  intro e he
  obtain ⟨t, -, rfl⟩ := List.mem_map.mp he
  dsimp only
  rw [ck_rsR]; exact hn
theorem above_ag {n : ℕ} (h : Fin 3) (c : Dev nD) (l : List (Fin 8 × Fin 2)) (hn : n < 7 + h.val) : above n (l.map (eAG h c)) := by
  intro e he
  obtain ⟨t, -, rfl⟩ := List.mem_map.mp he
  dsimp only
  rw [ck_agR]; exact hn
theorem above_x {n : ℕ} (s : Sem sig) (i : Fin 2) (c : Dev nD) (hn : n < lvCk i (ck (.reg s))) : above n (eX s i c) := by
  intro e he
  rcases List.mem_cons.mp he with rfl | he
  · exact hn
  · rcases List.mem_cons.mp he with rfl | he
    · exact hn
    · cases he

theorem above_o9 (c : Dev nD) {n : ℕ} (h : n < 9) : above n (o9 c) := above_append (above_ag 2 c _ h) (above_nil _)
theorem above_o8 (c : Dev nD) {n : ℕ} (h : n < 8) : above n (o8 c) := above_append (above_ag 1 c _ h) (above_o9 c (by omega))
theorem above_o7 (c : Dev nD) {n : ℕ} (h : n < 7) : above n (o7 c) := above_append (above_ag 0 c _ h) (above_o8 c (by omega))
theorem above_o6 (c : Dev nD) {n : ℕ} (h : n < 6) : above n (o6 c) := above_append (above_rs 2 c id _ h) (above_o7 c (by omega))
theorem above_o5 (c : Dev nD) {n : ℕ} (h : n < 5) : above n (o5 c) := above_append (above_x credS 1 c (by rw [ck_crd]; exact h)) (above_o6 c (by omega))
theorem above_o4 (c : Dev nD) {n : ℕ} (h : n < 4) : above n (o4 c) := above_append (above_rs 1 c id _ h) (above_o5 c (by omega))
theorem above_o3 (c : Dev nD) {n : ℕ} (h : n < 2) : above n (o3 c) := above_append (above_x credS 0 c (by rw [ck_crd]; exact h)) (above_o4 c (by omega))
theorem above_o2 (c : Dev nD) {n : ℕ} (h : n < 2) : above n (o2 c) := above_append (above_rs 0 c (fun j => (j, 1)) _ (by show n < 3; omega)) (above_o3 c h)
theorem above_o1 (c : Dev nD) {n : ℕ} (h : n < 2) : above n (o1 c) := above_append (above_rs 0 c (fun j => (j, 0)) _ (by show n < 3; omega)) (above_o2 c h)

/-! ## The reduce-scatter's loops -/

/-- One proposition for each lane. -/
abbrev bl (Φ : Fin 2 → Fin 8 → sProp (MM F)) : sProp (MM F) := bigSepL lanes fun p => Φ p.2 p.1

theorem lp_send0 (c : Dev nD) (d : Fin 2) (rest : Ob) (Q : PUnit → sProp (MM F)) :
    iprop((Ctx I K ∗ owesX c (rows.map (fun j => eRS 0 c (j, d)) ++ rest))
        ∗ bigSepL rows (fun j => iprop(lnO (comm d) 0 j c fullShare (pgl I d c 0 j) ∗ lnAny (F := F) (comm d) 1 j (tgt d c) ∗ rsTok d 0 j c)))
      ⊢ iprop((((Ctx I K ∗ owesX c rest) ∗ bigSepL rows (fun j => cred (tallyAt (dmaC c (rsS d 0 j)) 0 N))) -∗ Q ⟨⟩)
          -∗ wpc c (forL (fun j => rsSend c 0 0 1 j d) rows) Q) := by
  refine forL_rule c _ (fun l => iprop(Ctx I K ∗ owesX c (l.map (fun j => eRS 0 c (j, d)) ++ rest))) _ _ rows ?_ Q
  intro j l _ Q
  iintro ⟨⟨#HC, HO⟩, H1, H2, H3⟩ Hk
  iapply (wp_rsSend I K c 0 0 1 rfl rfl j d (l.map (fun j => eRS 0 c (j, d)) ++ rest) Q) $$ [HO H1 H2 H3]
  · isplitr; · iexact HC
    isplitl [H1]; · iexact H1
    isplitl [H2]; · iexact H2
    isplitr; · simp only [if_neg (show (0 : Fin 3) ≠ 1 by decide)]; iempintro
    isplitl [HO]; · iexact HO
    iexact H3
  iintro ⟨H1, HO⟩
  iapply Hk
  isplitl [HO]
  · isplitr; · iexact HC
    iexact HO
  iexact H1

theorem lp_sent (c : Dev nD) (h : Fin 3) (s s' : Fin 2) (hs : s = slS h) (rest : Ob) (hr : above 0 rest) (Q : PUnit → sProp (MM F)) :
    iprop((Ctx I K ∗ owesX c rest) ∗ bl (fun d j => gotTok (rsS d h j) c))
      ⊢ iprop((((Ctx I K ∗ owesX c rest) ∗ bl (fun d j => iprop(doneAt (rsS d h j) c ∗ lnO (comm d) s j c fullShare (AV I h d c j)))) -∗ Q ⟨⟩)
          -∗ wpc c (forL (fun p => rsSent h s s' p.1 p.2) lanes) Q) := by
  refine forL_rule c _ (fun l => iprop(Ctx I K ∗ owesX c rest)) _ _ lanes ?_ Q
  rintro ⟨j, d⟩ l _ Q
  iintro ⟨⟨#HC, HO⟩, H1⟩ Hk
  iapply (wp_rsSent I K c h s s' hs j d rest hr Q) $$ [HO H1]
  · isplitr; · iexact HC
    isplitl [HO]; · iexact HO
    iexact H1
  iintro ⟨HO, H1⟩
  iapply Hk
  isplitl [HO]
  · isplitr; · iexact HC
    iexact HO
  iexact H1

theorem lp_hop1 (c : Dev nD) (Q : PUnit → sProp (MM F)) :
    iprop((Ctx I K ∗ reached ER (creC c) 1 ∗ owesX c (o4 c))
        ∗ bl (fun d j => iprop(gotTok (rsR d 0 j) c ∗ lnO epi d j c fullShare (pgl I d c 1 j) ∗ rsTok d 1 j c ∗ lnAny (F := F) (comm d) 0 j (tgt d c))))
      ⊢ iprop((((Ctx I K ∗ reached ER (creC c) 1 ∗ owesX c (o5 c))
            ∗ bl (fun d j => iprop(doneAt (rsR d 0 j) c ∗ lnO epi d j c fullShare (pgl I d c 1 j) ∗ cred (tallyAt (dmaC c (rsS d 1 j)) 0 N)))) -∗ Q ⟨⟩)
          -∗ wpc c (forL (fun p => do rsGot 0 0 1 p.1 p.2; addL 1 p.1 p.2; rsSend c 1 1 0 p.1 p.2) lanes) Q) := by
  refine forL_rule c _ (fun l => iprop(Ctx I K ∗ reached ER (creC c) 1 ∗ owesX c (l.map (eRS 1 c) ++ o5 c))) _ _ lanes ?_ Q
  rintro ⟨j, d⟩ l _ Q
  unfold wpc
  simp only [wp_bind]
  iintro ⟨⟨#HC, #Hre, HO⟩, Hg, HY, Htok, Hd⟩ Hk
  iapply (wp_rsGot I K c 0 0 1 rfl j d (((j, d) :: l).map (eRS 1 c) ++ o5 c) (show above 3 _ from above_append (above_rs 1 c id ((j, d) :: l) (by decide)) (above_o5 c (by decide))) _) $$ [HO Hg]
  · isplitr; · iexact HC
    isplitl [HO] <;> iassumption
  iintro ⟨HO, Hdone, HX, -⟩
  iapply (wp_addL c 1 j d _ _ _) $$ [HX HY]
  · isplitl [HX] <;> iassumption
  iintro ⟨HX, HY⟩
  iapply (wp_rsSend I K c 1 1 0 rfl rfl j d (l.map (eRS 1 c) ++ o5 c) Q) $$ [HO HX Hd Htok]
  · isplitr; · iexact HC
    isplitl [HX]; · iexact HX
    isplitl [Hd]; · iexact Hd
    isplitr; · rw [if_pos rfl]; iexact Hre
    isplitl [HO]; · iexact HO
    iexact Htok
  iintro ⟨H1, HO⟩
  iapply Hk
  isplitl [HO]
  · isplitr; · iexact HC
    isplitr; · iexact Hre
    iexact HO
  isplitl [Hdone]; · iexact Hdone
  isplitl [HY] <;> iassumption

theorem lp_hop2 (c : Dev nD) (Q : PUnit → sProp (MM F)) :
    iprop((Ctx I K ∗ owesX c (o5 c))
        ∗ bl (fun d j => iprop(gotTok (rsR d 1 j) c ∗ lnO epi d j c fullShare (pgl I d c 2 j))))
      ⊢ iprop((((Ctx I K ∗ owesX c (o5 c))
            ∗ bl (fun d j => iprop(doneAt (rsR d 1 j) c ∗ lnO epi d j c fullShare (pgl I d c 2 j) ∗ lnO (comm d) 0 j c fullShare (AV I 2 d c j)
                ∗ reached ER (creC (src d c)) 1))) -∗ Q ⟨⟩)
          -∗ wpc c (forL (fun p => do rsGot 1 1 0 p.1 p.2; addL 0 p.1 p.2) lanes) Q) := by
  refine forL_rule c _ (fun l => iprop(Ctx I K ∗ owesX c (o5 c))) _ _ lanes ?_ Q
  rintro ⟨j, d⟩ l _ Q
  unfold wpc
  simp only [wp_bind]
  iintro ⟨⟨#HC, HO⟩, Hg, HY⟩ Hk
  iapply (wp_rsGot I K c 1 1 0 rfl j d _ (show above 4 _ from above_o5 c (by decide)) _) $$ [HO Hg]
  · isplitr; · iexact HC
    isplitl [HO] <;> iassumption
  rw [if_pos rfl]
  iintro ⟨HO, Hdone, HX, Hre⟩
  iapply (wp_addL c 0 j d _ _ _) $$ [HX HY]
  · isplitl [HX] <;> iassumption
  iintro ⟨HX, HY⟩
  iapply Hk
  isplitl [HO]
  · isplitr; · iexact HC
    iexact HO
  isplitl [Hdone]; · iexact Hdone
  isplitl [HY]; · iexact HY
  isplitl [HX]; · iexact HX
  iexact Hre

theorem lp_send2 (c : Dev nD) (Q : PUnit → sProp (MM F)) :
    iprop((Ctx I K ∗ owesX c (o6 c))
        ∗ bl (fun d j => iprop(lnO (comm d) 0 j c fullShare (AV I 2 d c j) ∗ lnAny (F := F) (comm d) 1 j (tgt d c) ∗ rsTok d 2 j c)))
      ⊢ iprop((((Ctx I K ∗ owesX c (o7 c)) ∗ bl (fun d j => cred (tallyAt (dmaC c (rsS d 2 j)) 0 N))) -∗ Q ⟨⟩)
          -∗ wpc c (forL (fun p => rsSend c 2 0 1 p.1 p.2) lanes) Q) := by
  refine forL_rule c _ (fun l => iprop(Ctx I K ∗ owesX c (l.map (eRS 2 c) ++ o7 c))) _ _ lanes ?_ Q
  rintro ⟨j, d⟩ l _ Q
  iintro ⟨⟨#HC, HO⟩, H1, H2, H3⟩ Hk
  iapply (wp_rsSend I K c 2 0 1 rfl rfl j d (l.map (eRS 2 c) ++ o7 c) Q) $$ [HO H1 H2 H3]
  · isplitr; · iexact HC
    isplitl [H1]; · iexact H1
    isplitl [H2]; · iexact H2
    isplitr; · simp only [if_neg (show (2 : Fin 3) ≠ 1 by decide)]; iempintro
    isplitl [HO]; · iexact HO
    iexact H3
  iintro ⟨H1, HO⟩
  iapply Hk
  isplitl [HO]
  · isplitr; · iexact HC
    iexact HO
  iexact H1

/-! ## The staging blocks -/

/-- How many copies were started from staging block `(d, p)` when `l` is left of stage `t`. -/
abbrev kk (t : Fin 4) (l : List (Fin 8 × Fin 2)) (d p : Fin 2) : ℕ :=
  4 * t.val + (4 - l.countP fun a => decide (a.2 = d) && decide (par a.1 = p))

def kkOk : List (Fin 8 × Fin 2) → Bool
  | [] => true
  | a :: l => decide (∀ t : Fin 4, kk t (a :: l) a.2 (par a.1) = rnd t a.1 ∧ kk t l a.2 (par a.1) = rnd t a.1 + 1
      ∧ ∀ d p : Fin 2, (d = a.2 ∧ p = par a.1) ∨ kk t l d p = kk t (a :: l) d p)

theorem kk_ok : ∀ m ∈ lanes.tails, kkOk m = true := by decide

theorem kk_step (a : Fin 8 × Fin 2) (l : List (Fin 8 × Fin 2)) (h : a :: l <:+ lanes) (t : Fin 4) :
    kk t (a :: l) a.2 (par a.1) = rnd t a.1 ∧ kk t l a.2 (par a.1) = rnd t a.1 + 1
      ∧ ∀ d p : Fin 2, (d = a.2 ∧ p = par a.1) ∨ kk t l d p = kk t (a :: l) d p := by
  have := kk_ok (a :: l) ((List.mem_tails _ _).mpr h)
  exact of_decide_eq_true this t

/-- The four staging blocks. -/
def outS4 (c : Dev nD) (k : Fin 2 → Fin 2 → ℕ) : sProp (MM F) :=
  iprop(outSt I c 0 0 (k 0 0) ∗ outSt I c 0 1 (k 0 1) ∗ outSt I c 1 0 (k 1 0) ∗ outSt I c 1 1 (k 1 1))

theorem outS4_focus (c : Dev nD) (k k' : Fin 2 → Fin 2 → ℕ) (d p : Fin 2) (h : ∀ d' p', (d' = d ∧ p' = p) ∨ k' d' p' = k d' p') :
    outS4 I c k ⊢ iprop(outSt I c d p (k d p) ∗ (outSt I c d p (k' d p) -∗ outS4 I c k')) := by
  unfold outS4
  match d, p with
  | 0, 0 =>
    rw [(h 0 1).resolve_left (by decide), (h 1 0).resolve_left (by decide), (h 1 1).resolve_left (by decide)]
    iintro ⟨H1, H2, H3, H4⟩
    isplitl [H1]; · iexact H1
    iintro H1
    isplitl [H1]; · iexact H1
    isplitl [H2]; · iexact H2
    isplitl [H3] <;> iassumption
  | 0, 1 =>
    rw [(h 0 0).resolve_left (by decide), (h 1 0).resolve_left (by decide), (h 1 1).resolve_left (by decide)]
    iintro ⟨H1, H2, H3, H4⟩
    isplitl [H2]; · iexact H2
    iintro H2
    isplitl [H1]; · iexact H1
    isplitl [H2]; · iexact H2
    isplitl [H3] <;> iassumption
  | 1, 0 =>
    rw [(h 0 1).resolve_left (by decide), (h 0 0).resolve_left (by decide), (h 1 1).resolve_left (by decide)]
    iintro ⟨H1, H2, H3, H4⟩
    isplitl [H3]; · iexact H3
    iintro H3
    isplitl [H1]; · iexact H1
    isplitl [H2]; · iexact H2
    isplitl [H3] <;> iassumption
  | 1, 1 =>
    rw [(h 0 1).resolve_left (by decide), (h 1 0).resolve_left (by decide), (h 0 0).resolve_left (by decide)]
    iintro ⟨H1, H2, H3, H4⟩
    isplitl [H4]; · iexact H4
    iintro H4
    isplitl [H1]; · iexact H1
    isplitl [H2]; · iexact H2
    isplitl [H3] <;> iassumption

/-- The copies of the lane at the head of what is left. -/
theorem outS4_step (c : Dev nD) (t : Fin 4) (j : Fin 8) (d : Fin 2) (l : List (Fin 8 × Fin 2)) (h : (j, d) :: l <:+ lanes) :
    outS4 I c (kk t ((j, d) :: l)) ⊢ iprop(outSt I c d (par j) (rnd t j) ∗ (outSt I c d (par j) (rnd t j + 1) -∗ outS4 I c (kk t l))) := by
  obtain ⟨h1, h2, h3⟩ := kk_step (j, d) l h t
  have := outS4_focus I c (kk t ((j, d) :: l)) (kk t l) d (par j) h3
  rwa [h1, h2] at this

/-! ## The loops of the last phase -/

theorem lp_fin (c : Dev nD) (Q : PUnit → sProp (MM F)) :
    iprop((Ctx I K ∗ owesX c (o7 c) ∗ outS4 I c (kk 0 lanes)) ∗ bl (fun d j => finPre I c j d))
      ⊢ iprop((((Ctx I K ∗ owesX c (o8 c) ∗ outS4 I c (kk 0 [])) ∗ bl (fun d j => finPost I c j d)) -∗ Q ⟨⟩)
          -∗ wpc c (forL (fun p => finL c (I.s c) p.1 p.2) lanes) Q) := by
  refine forL_rule c _ (fun l => iprop(Ctx I K ∗ owesX c (l.map (eAG 0 c) ++ o8 c) ∗ outS4 I c (kk 0 l))) _ _ lanes ?_ Q
  rintro ⟨j, d⟩ l hl Q
  iintro ⟨⟨#HC, HO, Hst⟩, Hp⟩ Hk
  ihave Hst2 := (outS4_step I c 0 j d l hl) $$ Hst
  icases Hst2 with ⟨Hst, Hback⟩
  iapply (wp_finL I K c j d (l.map (eAG 0 c) ++ o8 c)
    (above_append (above_ag 0 c ((j, d) :: l) (by decide)) (above_o8 c (by decide))) Q) $$ [HO Hst Hp]
  · isplitr; · iexact HC
    isplitl [HO]; · iexact HO
    isplitl [Hst] <;> iassumption
  iintro ⟨HO, Hst, Hp⟩
  iapply Hk
  isplitl [HO Hst Hback]
  · isplitr; · iexact HC
    isplitl [HO]; · iexact HO
    iapply Hback; iexact Hst
  iexact Hp

/-- What is owed after hop `h` of the all-gather, and before the lanes `l` of it. -/
abbrev agRest (c : Dev nD) : Fin 3 → Ob
  | 0 => o9 c
  | 1 => []
  | 2 => []
abbrev agMid (c : Dev nD) (l : List (Fin 8 × Fin 2)) : Fin 3 → Ob
  | 0 => l.map (eAG 1 c) ++ o9 c
  | 1 => l.map (eAG 2 c) ++ []
  | 2 => []

theorem agMid_cons (c : Dev nD) (j : Fin 8) (d : Fin 2) (l : List (Fin 8 × Fin 2)) (h : Fin 3) :
    agMid c ((j, d) :: l) h = agOb c j d (agMid c l h) h := by
  match h with
  | 0 => rfl
  | 1 => rfl
  | 2 => rfl

theorem agMid_above (c : Dev nD) (l : List (Fin 8 × Fin 2)) (h : Fin 3) : above (7 + h.val) (agMid c l h) := by
  match h with
  | 0 => exact above_append (above_ag 1 c l (by decide)) (above_o9 c (by decide))
  | 1 => exact above_append (above_ag 2 c l (by decide)) (above_nil _)
  | 2 => exact above_nil _

theorem lp_ag (c : Dev nD) (h : Fin 3) (Q : PUnit → sProp (MM F)) :
    iprop((Ctx I K ∗ owesX c (agMid c lanes h) ∗ outS4 I c (kk h.succ lanes)) ∗ bl (fun d j => agPre c j d h))
      ⊢ iprop((((Ctx I K ∗ owesX c (agMid c [] h) ∗ outS4 I c (kk h.succ [])) ∗ bl (fun d j => agPost I c j d h)) -∗ Q ⟨⟩)
          -∗ wpc c (forL (fun p => agL c h p.1 p.2) lanes) Q) := by
  refine forL_rule c _ (fun l => iprop(Ctx I K ∗ owesX c (agMid c l h) ∗ outS4 I c (kk h.succ l))) _ _ lanes ?_ Q
  rintro ⟨j, d⟩ l hl Q
  rw [agMid_cons]
  iintro ⟨⟨#HC, HO, Hst⟩, Hp⟩ Hk
  ihave Hst2 := (outS4_step I c h.succ j d l hl) $$ Hst
  icases Hst2 with ⟨Hst, Hback⟩
  iapply (wp_agL I K c h j d (agMid c l h) (by rw [← agMid_cons]; exact agMid_above c _ h) Q) $$ [HO Hst Hp]
  · isplitr; · iexact HC
    isplitl [HO]; · iexact HO
    isplitl [Hst] <;> iassumption
  iintro ⟨HO, Hst, Hp⟩
  iapply Hk
  isplitl [HO Hst Hback]
  · isplitr; · iexact HC
    isplitl [HO]; · iexact HO
    iapply Hback; iexact Hst
  iexact Hp

theorem lp_agSent (c : Dev nD) (h : Fin 3) (Q : PUnit → sProp (MM F)) :
    iprop((Ctx I K ∗ owesX c []) ∗ bl (fun d j => gotTok (agS d h j) c))
      ⊢ iprop((((Ctx I K ∗ owesX c []) ∗ bl (fun d j => iprop(doneAt (agS d h j) c ∗ agSPay I d h j c))) -∗ Q ⟨⟩)
          -∗ wpc c (forL (fun p => agSent h p.1 p.2) lanes) Q) := by
  refine forL_rule c _ (fun l => iprop(Ctx I K ∗ owesX c [])) _ _ lanes ?_ Q
  rintro ⟨j, d⟩ l _ Q
  iintro ⟨⟨#HC, HO⟩, H1⟩ Hk
  iapply (wp_agSent I K c h j d [] (above_nil _) Q) $$ [HO H1]
  · isplitr; · iexact HC
    isplitl [HO]; · iexact HO
    iexact H1
  iintro ⟨HO, H1⟩
  iapply Hk
  isplitl [HO]
  · isplitr; · iexact HC
    iexact HO
  iexact H1

end Cert.Coll

end
-- ==== Proof.Phases.lean ====
/-
  The three phases of the kernel.
-/
module

public import proofs.«01_k».proof.Proof.Loops

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

/-! ## Families of lanes -/

theorem bl2 {T : Type} (l : List T) (A B : T → sProp (MM F)) :
    iprop(bigSepL l A ∗ bigSepL l B) ⊢ bigSepL l (fun p => iprop(A p ∗ B p)) := (bigSepL_sep l A B).2
theorem bl3 {T : Type} (l : List T) (A B C : T → sProp (MM F)) :
    iprop(bigSepL l A ∗ bigSepL l B ∗ bigSepL l C) ⊢ bigSepL l (fun p => iprop(A p ∗ B p ∗ C p)) := by
  refine BIBase.Entails.trans ?_ (bl2 l A (fun p => iprop(B p ∗ C p)))
  iintro ⟨H1, H2⟩
  isplitl [H1]; · iexact H1
  iapply (bl2 l B C); iexact H2
theorem bl4 {T : Type} (l : List T) (A B C D : T → sProp (MM F)) :
    iprop(bigSepL l A ∗ bigSepL l B ∗ bigSepL l C ∗ bigSepL l D) ⊢ bigSepL l (fun p => iprop(A p ∗ B p ∗ C p ∗ D p)) := by
  refine BIBase.Entails.trans ?_ (bl2 l A (fun p => iprop(B p ∗ C p ∗ D p)))
  iintro ⟨H1, H2⟩
  isplitl [H1]; · iexact H1
  iapply (bl3 l B C D); iexact H2
theorem bl5 {T : Type} (l : List T) (A B C D E : T → sProp (MM F)) :
    iprop(bigSepL l A ∗ bigSepL l B ∗ bigSepL l C ∗ bigSepL l D ∗ bigSepL l E) ⊢ bigSepL l (fun p => iprop(A p ∗ B p ∗ C p ∗ D p ∗ E p)) := by
  refine BIBase.Entails.trans ?_ (bl2 l A (fun p => iprop(B p ∗ C p ∗ D p ∗ E p)))
  iintro ⟨H1, H2⟩
  isplitl [H1]; · iexact H1
  iapply (bl4 l B C D E); iexact H2

theorem ub2 {T : Type} (l : List T) (A B : T → sProp (MM F)) :
    bigSepL l (fun p => iprop(A p ∗ B p)) ⊢ iprop(bigSepL l A ∗ bigSepL l B) := (bigSepL_sep l A B).1
theorem ub3 {T : Type} (l : List T) (A B C : T → sProp (MM F)) :
    bigSepL l (fun p => iprop(A p ∗ B p ∗ C p)) ⊢ iprop(bigSepL l A ∗ bigSepL l B ∗ bigSepL l C) :=
  (ub2 l A _).trans (sep_mono_right (ub2 l B C))
theorem ub4 {T : Type} (l : List T) (A B C D : T → sProp (MM F)) :
    bigSepL l (fun p => iprop(A p ∗ B p ∗ C p ∗ D p)) ⊢ iprop(bigSepL l A ∗ bigSepL l B ∗ bigSepL l C ∗ bigSepL l D) :=
  (ub2 l A _).trans (sep_mono_right (ub3 l B C D))

/-! ## The exchanges -/

/-- The buffers lent at the barrier, of device `b`. -/
abbrev lent (b : Dev nD) (d : Fin 2) (j : Fin 8) : sProp (MM F) :=
  iprop(lnAny (comm d) 1 j b ∗ lnAny (gath d) 0 j b ∗ lnAny (gath d) 1 j b ∗ lnAny (gath d) 2 j b)

theorem bar_give (c : Dev nD) : bl (F := F) (fun d j => lent c d j) ⊢ iprop(barPay (left c) 0 ∗ barPay (right c) 1) := by
  have h0 : tgt 0 (left c) = c := right_left c
  have h1 : tgt 1 (right c) = c := left_right c
  unfold barPay
  rw [h0, h1]
  exact (lanes_rows _).1

theorem bar_take (c : Dev nD) : iprop(barPay c 0 ∗ barPay c 1) ⊢ bl (F := F) (fun d j => lent (tgt d c) d j) := by
  unfold barPay
  exact (lanes_rows (fun p => lent (tgt p.2 c) p.2 p.1)).2

theorem cre_give (c : Dev nD) (r : ℕ) :
    bl (F := F) (fun d j => lnAny (comm d) (crSlot r) j c) ⊢ iprop(crePay (left c) r 0 ∗ crePay (right c) r 1) := by
  have h0 : tgt 0 (left c) = c := right_left c
  have h1 : tgt 1 (right c) = c := left_right c
  unfold crePay
  rw [h0, h1]
  exact (lanes_rows _).1

theorem cre_take (c : Dev nD) (r : ℕ) :
    iprop(crePay c r 0 ∗ crePay c r 1) ⊢ bl (F := F) (fun d j => lnAny (comm d) (crSlot r) j (tgt d c)) := by
  unfold crePay
  exact (lanes_rows (fun p => lnAny (comm p.2) (crSlot r) p.1 (tgt p.2 c))).2

/-- What an exchange takes on semaphore `s` in round `r`. -/
abbrev exTok (c : Dev nD) (s : Sem sig) (r : ℕ) (i : Fin 2) : sProp (MM F) :=
  iprop(cred (tallyAt ((c : Thread nD τ), .reg s) i 2) ∗ dutyTok ER ((left c : Thread nD τ), .reg s) r 0 ∗ dutyTok ER ((right c : Thread nD τ), .reg s) r 1)

theorem wp_exBar (c : Dev nD) (Q : PUnit → sProp (MM F)) :
    iprop(Ctx I K ∗ owesX c (o0 c) ∗ exTok c barS 0 0 ∗ atPos ER (barC c) 0 ∅ 0 ∗ bl (fun d j => lent c d j))
      ⊢ iprop(((owesX c (o1 c) ∗ atPos ER (barC c) 1 ∅ 0 ∗ bl (fun d j => lent (tgt d c) d j)) -∗ Q ⟨⟩) -∗ wpc c (exchange c barS) Q) := by
  have key := wp_exchange I K c barS 0 0 iprop(emp) (by rw [ck_bar]; rfl) (by rw [ck_bar]; rfl) (by rw [ck_bar]; nofun) (o1 c)
    (by rw [ck_bar]; exact above_o1 c (by decide)) Q
  rw [ck_bar] at key
  dsimp only [payCk] at key
  iintro ⟨#HC, HO, ⟨Hc, HL, HR⟩, Hat, Hb⟩ Hk
  ihave Hb2 := (bar_give c) $$ Hb
  icases Hb2 with ⟨Hb0, Hb1⟩
  iapply key $$ [HO Hc HL HR Hat Hb0 Hb1]
  · isplitr; · iexact HC
    isplitr; · iapply (Ctx_reached I K (left c) _ (by rw [ck_bar]; nofun)); iexact HC
    isplitr; · iapply (Ctx_reached I K (right c) _ (by rw [ck_bar]; nofun)); iexact HC
    isplitl [Hc]; · iexact Hc
    isplitl [HO]; · iexact HO
    isplitl [Hat]; · iexact Hat
    isplitl [HL]; · iexact HL
    isplitl [HR]; · iexact HR
    isplitl [Hb0] <;> iassumption
  iintro ⟨HO, Hat, -, Hb⟩
  iapply Hk
  isplitl [HO]; · iexact HO
  isplitl [Hat]; · iexact Hat
  iapply (bar_take c); iexact Hb

theorem wp_exCre (c : Dev nD) (r : ℕ) (i : Fin 2) (hr : r < 2) (l : Ob) (hl : above (if i = 0 then 2 else 5) l) (Q : PUnit → sProp (MM F)) :
    iprop(Ctx I K ∗ reached ER (creC (left c)) r ∗ reached ER (creC (right c)) r ∗ owesX c (eX credS i c ++ l) ∗ exTok c credS r i
        ∗ atPos ER (creC c) r ∅ 0 ∗ bl (fun d j => lnAny (comm d) (crSlot r) j c))
      ⊢ iprop(((owesX c l ∗ atPos ER (creC c) (r + 1) ∅ 0 ∗ reached ER (creC c) (r + 1)
            ∗ bl (fun d j => lnAny (comm d) (crSlot r) j (tgt d c))) -∗ Q ⟨⟩) -∗ wpc c (exchange c credS) Q) := by
  have key := wp_exchange I K c credS r i iprop(emp) (by rw [ck_crd]; exact if_pos hr) (by rw [ck_crd]; rfl) (by rw [ck_crd]; nofun) l
    (by rw [ck_crd]; exact hl) Q
  rw [ck_crd] at key
  dsimp only [payCk] at key
  iintro ⟨#HC, #HrL, #HrR, HO, ⟨Hc, HL, HR⟩, Hat, Hb⟩ Hk
  ihave Hb2 := (cre_give c r) $$ Hb
  icases Hb2 with ⟨Hb0, Hb1⟩
  iapply key $$ [HO Hc HL HR Hat Hb0 Hb1]
  · isplitr; · iexact HC
    isplitr; · iexact HrL
    isplitr; · iexact HrR
    isplitl [Hc]; · iexact Hc
    isplitl [HO]; · iexact HO
    isplitl [Hat]; · iexact Hat
    isplitl [HL]; · iexact HL
    isplitl [HR]; · iexact HR
    isplitl [Hb0] <;> iassumption
  iintro ⟨HO, Hat, Hre, Hb⟩
  iapply Hk
  isplitl [HO]; · iexact HO
  isplitl [Hat]; · iexact Hat
  isplitl [Hre]; · iexact Hre
  iapply (cre_take c r); iexact Hb

/-! ## Partial products -/

/-- The two input blocks of device `c`. -/
abbrev xw (c : Dev nD) : sProp (MM F) := xwO c (I.x c) (I.w c)

theorem wp_gemmL (c : Dev nD) (d : Fin 2) (t : Fin 4) (A : Memref sig .tc .vmem (SN 2) .bf16) (hA : A.IsWhole) (s : Fin 2) (Q : PUnit → sProp (MM F)) :
    iprop(xw I c ∗ bigSepL rows (fun j => lnAny A s j c))
      ⊢ iprop(((xw I c ∗ bigSepL rows (fun j => lnO A s j c fullShare (pgl I d c t j))) -∗ Q ⟨⟩) -∗ wpc c (gemm c d t A hA s) Q) :=
  wp_gemm c d t A hA s (I.x c) (I.w c) Q

/-- Both partial products of a stage that stay on this device. -/
def gemm2 (c : Dev nD) (t : Fin 4) : Prog (Eff F) PUnit := do
  gemm c 0 t epi (Memref.isWhole_whole _) 0
  gemm c 1 t epi (Memref.isWhole_whole _) 1

theorem wp_gemm2 (c : Dev nD) (t : Fin 4) (Q : PUnit → sProp (MM F)) :
    iprop(xw I c ∗ bl (fun d j => lnAny epi d j c))
      ⊢ iprop(((xw I c ∗ bl (fun d j => lnO epi d j c fullShare (pgl I d c t j))) -∗ Q ⟨⟩) -∗ wpc c (gemm2 c t) Q) := by
  unfold gemm2
  unfold wpc
  simp only [wp_bind]
  iintro ⟨Hx, H⟩ Hk
  ihave H2 := (lanes_rows (fun p => lnAny (F := F) epi p.2 p.1 c)).1 $$ H
  icases H2 with ⟨H0, H1⟩
  iapply (wp_gemmL I c 0 t epi (Memref.isWhole_whole _) 0 _) $$ [Hx H0]
  · isplitl [Hx]; · iexact Hx
    iexact H0
  iintro ⟨Hx, H0⟩
  iapply (wp_gemmL I c 1 t epi (Memref.isWhole_whole _) 1 _) $$ [Hx H1]
  · isplitl [Hx]; · iexact Hx
    iexact H1
  iintro ⟨Hx, H1⟩
  iapply Hk
  isplitl [Hx]; · iexact Hx
  iapply (lanes_rows (fun p => lnO epi p.2 p.1 c fullShare (pgl I p.2 c t p.1))).2
  isplitl [H0]; · iexact H0
  iexact H1

theorem any_of {n : ℕ} (A : Fin 2 → Memref sig .tc .vmem (SN n) .bf16) (s : Fin 2 → Fin n) (c : Dev nD) (X : Fin 2 → Fin 8 → FVec F S128x1024 .bf16) :
    bl (fun d j => lnO (A d) (s d) j c fullShare (X d j)) ⊢ bl (fun d j => lnAny (A d) (s d) j c) := by
  refine bigSepL_mono _ _ _ fun p _ => ?_
  iintro H
  iexists (X p.2 p.1); iexact H

/-! ## The phases -/

theorem phA_eq (c : Dev nD) : phA (F := F) c = (do
    exchange c barS
    gemm c 0 0 (comm 0) (comm_whole 0) 0
    forL (fun j => rsSend c 0 0 1 j 0) rows
    gemm c 1 0 (comm 1) (comm_whole 1) 0
    forL (fun j => rsSend c 0 0 1 j 1) rows
    gemm2 c 1
    forL (fun p => rsSent 0 0 1 p.1 p.2) lanes
    exchange c credS) := by
  unfold phA gemm2
  simp only [Prog.bind_assoc]

theorem wp_phA (c : Dev nD) (Q : PUnit → sProp (MM F)) :
    iprop(Ctx I K ∗ xw I c ∗ owesX c (o0 c) ∗ (exTok c barS 0 0 ∗ atPos ER (barC c) 0 ∅ 0) ∗ (exTok c credS 0 0 ∗ atPos ER (creC c) 0 ∅ 0)
        ∗ bl (fun d j => lnAny (comm d) 0 j c) ∗ bl (fun d j => lent c d j) ∗ bl (fun d j => lnAny epi d j c)
        ∗ bl (fun d j => rsTok d 0 j c) ∗ bl (fun d j => atPos ER (dmaC c (rsS d 0 j)) 0 ∅ 0))
      ⊢ iprop(((xw I c ∗ owesX c (o4 c) ∗ atPos ER (barC c) 1 ∅ 0 ∗ atPos ER (creC c) 1 ∅ 0 ∗ reached ER (creC c) 1
            ∗ bl (fun d j => lnO epi d j c fullShare (pgl I d c 1 j)) ∗ bl (fun d j => doneAt (rsS d 0 j) c)
            ∗ bl (fun d j => lnAny (comm d) 0 j (tgt d c))
            ∗ bl (fun d j => iprop(lnAny (gath d) 0 j (tgt d c) ∗ lnAny (gath d) 1 j (tgt d c) ∗ lnAny (gath d) 2 j (tgt d c)))) -∗ Q ⟨⟩)
          -∗ wpc c (phA c) Q) := by
  rw [phA_eq]
  unfold wpc
  simp only [wp_bind]
  iintro ⟨#HC, Hx, HO, ⟨Hb, Hbat⟩, ⟨Hcr, Hcrat⟩, Hc0, Hlent, Hepi, Htok, HatS⟩ Hk
  iapply (wp_exBar I K c _) $$ [HO Hb Hbat Hlent]
  · isplitr; · iexact HC
    isplitl [HO]; · iexact HO
    isplitl [Hb]; · iexact Hb
    isplitl [Hbat] <;> iassumption
  iintro ⟨HO, Hbat, Hlent⟩
  ihave Hl := (ub2 lanes (fun p => lnAny (F := F) (comm p.2) 1 p.1 (tgt p.2 c)) (fun p => iprop(lnAny (F := F) (gath p.2) 0 p.1 (tgt p.2 c)
    ∗ lnAny (gath p.2) 1 p.1 (tgt p.2 c) ∗ lnAny (gath p.2) 2 p.1 (tgt p.2 c)))) $$ Hlent
  icases Hl with ⟨Hc1, Hgath⟩
  ihave Hc1r := (lanes_rows (fun p => lnAny (F := F) (comm p.2) 1 p.1 (tgt p.2 c))).1 $$ Hc1
  icases Hc1r with ⟨Hc1a, Hc1b⟩
  ihave Htokr := (lanes_rows (fun p => rsTok (F := F) p.2 0 p.1 c)).1 $$ Htok
  icases Htokr with ⟨Htoka, Htokb⟩
  ihave Hc0r := (lanes_rows (fun p => lnAny (F := F) (comm p.2) 0 p.1 c)).1 $$ Hc0
  icases Hc0r with ⟨Hc0a, Hc0b⟩
  iapply (wp_gemmL I c 0 0 (comm 0) (comm_whole 0) 0 _) $$ [Hx Hc0a]
  · isplitl [Hx]; · iexact Hx
    iexact Hc0a
  iintro ⟨Hx, Hc0a⟩
  iapply (lp_send0 I K c 0 (o2 c) _) $$ [HO Hc0a Hc1a Htoka]
  · isplitl [HO]
    · isplitr; · iexact HC
      iexact HO
    iapply (bl3 rows (fun j => lnO (comm 0) 0 j c fullShare (pgl I 0 c 0 j)) (fun j => lnAny (F := F) (comm 0) 1 j (tgt 0 c)) (fun j => rsTok (F := F) 0 0 j c))
    isplitl [Hc0a]; · iexact Hc0a
    isplitl [Hc1a]; · iexact Hc1a
    iexact Htoka
  iintro ⟨⟨-, HO⟩, Hsa⟩
  iapply (wp_gemmL I c 1 0 (comm 1) (comm_whole 1) 0 _) $$ [Hx Hc0b]
  · isplitl [Hx]; · iexact Hx
    iexact Hc0b
  iintro ⟨Hx, Hc0b⟩
  iapply (lp_send0 I K c 1 (o3 c) _) $$ [HO Hc0b Hc1b Htokb]
  · isplitl [HO]
    · isplitr; · iexact HC
      iexact HO
    iapply (bl3 rows (fun j => lnO (comm 1) 0 j c fullShare (pgl I 1 c 0 j)) (fun j => lnAny (F := F) (comm 1) 1 j (tgt 1 c)) (fun j => rsTok (F := F) 1 0 j c))
    isplitl [Hc0b]; · iexact Hc0b
    isplitl [Hc1b]; · iexact Hc1b
    iexact Htokb
  iintro ⟨⟨-, HO⟩, Hsb⟩
  iapply (wp_gemm2 I c 1 _) $$ [Hx Hepi]
  · isplitl [Hx]; · iexact Hx
    iexact Hepi
  iintro ⟨Hx, Hepi⟩
  iapply (lp_sent I K c 0 0 1 rfl (o3 c) (above_o3 c (by decide)) _) $$ [HO Hsa Hsb HatS]
  · isplitl [HO]
    · isplitr; · iexact HC
      iexact HO
    iapply (bl2 lanes (fun p => cred (tallyAt (dmaC c (rsS p.2 0 p.1)) 0 N)) (fun p => atPos ER (dmaC c (rsS p.2 0 p.1)) 0 ∅ 0))
    isplitl [Hsa Hsb]
    · iapply (lanes_rows (fun p => cred (tallyAt (dmaC c (rsS p.2 0 p.1)) 0 N))).2
      isplitl [Hsa]; · iexact Hsa
      iexact Hsb
    iexact HatS
  iintro ⟨⟨-, HO⟩, Hs⟩
  ihave Hs2 := (ub2 lanes (fun p => doneAt (F := F) (rsS p.2 0 p.1) c) (fun p => lnO (comm p.2) 0 p.1 c fullShare (AV I 0 p.2 c p.1))) $$ Hs
  icases Hs2 with ⟨Hdone, Hc0⟩
  ihave Hc0 := (any_of comm (fun _ => 0) c (fun d j => AV I 0 d c j)) $$ Hc0
  iapply (wp_exCre I K c 0 0 (by decide) (o4 c) (above_o4 c (by decide)) _) $$ [HO Hcr Hcrat Hc0]
  · isplitr; · iexact HC
    isplitr; · iapply (Ctx_reached I K (left c) _ (by rw [ck_crd]; nofun)); iexact HC
    isplitr; · iapply (Ctx_reached I K (right c) _ (by rw [ck_crd]; nofun)); iexact HC
    isplitl [HO]; · iexact HO
    isplitl [Hcr]; · iexact Hcr
    isplitl [Hcrat]; · iexact Hcrat
    iexact Hc0
  iintro ⟨HO, Hcrat, Hre, Hc0⟩
  iapply Hk
  isplitl [Hx]; · iexact Hx
  isplitl [HO]; · iexact HO
  isplitl [Hbat]; · iexact Hbat
  isplitl [Hcrat]; · iexact Hcrat
  isplitl [Hre]; · iexact Hre
  isplitl [Hepi]; · iexact Hepi
  isplitl [Hdone]; · iexact Hdone
  isplitl [Hc0]; · iexact Hc0
  iexact Hgath

theorem phB_eq (c : Dev nD) : phB (F := F) c = (do
    forL (fun p => do rsGot 0 0 1 p.1 p.2; addL 1 p.1 p.2; rsSend c 1 1 0 p.1 p.2) lanes
    gemm2 c 2
    forL (fun p => do rsGot 1 1 0 p.1 p.2; addL 0 p.1 p.2) lanes
    forL (fun p => rsSent 1 1 0 p.1 p.2) lanes
    exchange c credS
    forL (fun p => rsSend c 2 0 1 p.1 p.2) lanes
    gemm2 c 3) := by
  unfold phB gemm2
  simp only [Prog.bind_assoc]

theorem re_take (c : Dev nD) :
    bl (F := F) (fun d j => reached ER (creC (src d c)) 1) ⊢ iprop(reached ER (creC (left c)) 1 ∗ reached ER (creC (right c)) 1) := by
  unfold bl lanes
  rw [sepL_cons, sepL_cons]
  iintro ⟨H1, H2, -⟩
  isplitl [H1]; · iexact H1
  iexact H2

theorem wp_phB (c : Dev nD) (Q : PUnit → sProp (MM F)) :
    iprop(Ctx I K ∗ xw I c ∗ owesX c (o4 c) ∗ (exTok c credS 1 1 ∗ atPos ER (creC c) 1 ∅ 0 ∗ reached ER (creC c) 1)
        ∗ bl (fun d j => lnO epi d j c fullShare (pgl I d c 1 j)) ∗ bl (fun d j => lnAny (comm d) 0 j (tgt d c))
        ∗ bl (fun d j => gotTok (rsR d 0 j) c) ∗ bl (fun d j => gotTok (rsR d 1 j) c)
        ∗ bl (fun d j => rsTok d 1 j c) ∗ bl (fun d j => rsTok d 2 j c) ∗ bl (fun d j => atPos ER (dmaC c (rsS d 1 j)) 0 ∅ 0))
      ⊢ iprop(((xw I c ∗ owesX c (o7 c) ∗ atPos ER (creC c) 2 ∅ 0
            ∗ bl (fun d j => lnO epi d j c fullShare (pgl I d c 3 j)) ∗ bl (fun d j => doneAt (rsR d 0 j) c) ∗ bl (fun d j => doneAt (rsR d 1 j) c)
            ∗ bl (fun d j => doneAt (rsS d 1 j) c) ∗ bl (fun d j => cred (tallyAt (dmaC c (rsS d 2 j)) 0 N))) -∗ Q ⟨⟩)
          -∗ wpc c (phB c) Q) := by
  rw [phB_eq]
  unfold wpc
  simp only [wp_bind]
  iintro ⟨#HC, Hx, HO, ⟨Hcr, Hcrat, #Hre⟩, Hepi, Hc0, Hg0, Hg1, Ht1, Ht2, HatS⟩ Hk
  iapply (lp_hop1 I K c _) $$ [HO Hepi Hc0 Hg0 Ht1]
  · isplitl [HO]
    · isplitr; · iexact HC
      isplitr; · iexact Hre
      iexact HO
    iapply (bl4 lanes (fun p => gotTok (F := F) (rsR p.2 0 p.1) c) (fun p => lnO epi p.2 p.1 c fullShare (pgl I p.2 c 1 p.1))
      (fun p => rsTok (F := F) p.2 1 p.1 c) (fun p => lnAny (F := F) (comm p.2) 0 p.1 (tgt p.2 c)))
    isplitl [Hg0]; · iexact Hg0
    isplitl [Hepi]; · iexact Hepi
    isplitl [Ht1]; · iexact Ht1
    iexact Hc0
  iintro ⟨⟨-, -, HO⟩, H⟩
  ihave H2 := (ub3 lanes (fun p => doneAt (F := F) (rsR p.2 0 p.1) c) (fun p => lnO epi p.2 p.1 c fullShare (pgl I p.2 c 1 p.1))
      (fun p => cred (tallyAt (dmaC c (rsS p.2 1 p.1)) 0 N))) $$ H
  icases H2 with ⟨Hd0, Hepi, HcS⟩
  ihave Hepi := (any_of (fun _ => epi) (fun d => d) c (fun d j => pgl I d c 1 j)) $$ Hepi
  iapply (wp_gemm2 I c 2 _) $$ [Hx Hepi]
  · isplitl [Hx]; · iexact Hx
    iexact Hepi
  iintro ⟨Hx, Hepi⟩
  iapply (lp_hop2 I K c _) $$ [HO Hepi Hg1]
  · isplitl [HO]
    · isplitr; · iexact HC
      iexact HO
    iapply (bl2 lanes (fun p => gotTok (F := F) (rsR p.2 1 p.1) c) (fun p => lnO epi p.2 p.1 c fullShare (pgl I p.2 c 2 p.1)))
    isplitl [Hg1]; · iexact Hg1
    iexact Hepi
  iintro ⟨⟨-, HO⟩, H⟩
  ihave H2 := (ub4 lanes (fun p => doneAt (F := F) (rsR p.2 1 p.1) c) (fun p => lnO epi p.2 p.1 c fullShare (pgl I p.2 c 2 p.1))
      (fun p => lnO (comm p.2) 0 p.1 c fullShare (AV I 2 p.2 c p.1)) (fun p => reached ER (creC (src p.2 c)) 1)) $$ H
  icases H2 with ⟨Hd1, Hepi, Hc0, Hrr⟩
  ihave Hrr := (re_take c) $$ Hrr
  icases Hrr with ⟨#HrL, #HrR⟩
  iapply (lp_sent I K c 1 1 0 rfl (o5 c) (above_o5 c (by decide)) _) $$ [HO HcS HatS]
  · isplitl [HO]
    · isplitr; · iexact HC
      iexact HO
    iapply (bl2 lanes (fun p => cred (tallyAt (dmaC c (rsS p.2 1 p.1)) 0 N)) (fun p => atPos ER (dmaC c (rsS p.2 1 p.1)) 0 ∅ 0))
    isplitl [HcS]; · iexact HcS
    iexact HatS
  iintro ⟨⟨-, HO⟩, Hs⟩
  ihave Hs2 := (ub2 lanes (fun p => doneAt (F := F) (rsS p.2 1 p.1) c) (fun p => lnO (comm p.2) 1 p.1 c fullShare (AV I 1 p.2 c p.1))) $$ Hs
  icases Hs2 with ⟨HdS, Hc1⟩
  ihave Hc1 := (any_of comm (fun _ => 1) c (fun d j => AV I 1 d c j)) $$ Hc1
  iapply (wp_exCre I K c 1 1 (by decide) (o6 c) (above_o6 c (by decide)) _) $$ [HO Hcr Hcrat Hc1]
  · isplitr; · iexact HC
    isplitr; · iexact HrL
    isplitr; · iexact HrR
    isplitl [HO]; · iexact HO
    isplitl [Hcr]; · iexact Hcr
    isplitl [Hcrat]; · iexact Hcrat
    iexact Hc1
  iintro ⟨HO, Hcrat, -, Hc1⟩
  iapply (lp_send2 I K c _) $$ [HO Hc0 Hc1 Ht2]
  · isplitl [HO]
    · isplitr; · iexact HC
      iexact HO
    iapply (bl3 lanes (fun p => lnO (comm p.2) 0 p.1 c fullShare (AV I 2 p.2 c p.1)) (fun p => lnAny (F := F) (comm p.2) 1 p.1 (tgt p.2 c))
      (fun p => rsTok (F := F) p.2 2 p.1 c))
    isplitl [Hc0]; · iexact Hc0
    isplitl [Hc1]; · iexact Hc1
    iexact Ht2
  iintro ⟨⟨-, HO⟩, HcS⟩
  ihave Hepi := (any_of (fun _ => epi) (fun d => d) c (fun d j => pgl I d c 2 j)) $$ Hepi
  iapply (wp_gemm2 I c 3 _) $$ [Hx Hepi]
  · isplitl [Hx]; · iexact Hx
    iexact Hepi
  iintro ⟨Hx, Hepi⟩
  iapply Hk
  isplitl [Hx]; · iexact Hx
  isplitl [HO]; · iexact HO
  isplitl [Hcrat]; · iexact Hcrat
  isplitl [Hepi]; · iexact Hepi
  isplitl [Hd0]; · iexact Hd0
  isplitl [Hd1]; · iexact Hd1
  isplitl [HdS]; · iexact HdS
  iexact HcS

end Cert.Coll

end
-- ==== Proof.Last.lean ====
/-
  The last phase, and the whole body.
-/
module

public import proofs.«01_k».proof.Proof.Phases

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

/-! ## The scales -/

/-- The two scales, held. -/
abbrev scO (c : Dev nD) (a b : Vec F S1 .f32) : sProp (MM F) :=
  iprop((((c : Thread nD τ).loc cc0_stg2_0) ↦{fullShare} (a : Buf (Elt F) ((c : Thread nD τ).loc cc0_stg2_0)))
    ∗ (((c : Thread nD τ).loc cc0_stg3_0) ↦{fullShare} (b : Buf (Elt F) ((c : Thread nD τ).loc cc0_stg3_0))))

/-- The one position of a one-element array. -/
abbrev i0 : S1.Idx := (Rect.unit (s := S1) ![0] S1.size inb_S1_S1_0).emb (Shape.Idx.first (numel1_S1.symm ▸ Nat.one_pos))

/-- The scales as they are read. -/
abbrev rdX (a : Vec F S1 .f32) : F .f32 :=
  (sxB.access (Rect.unit (s := S1) ![0] S1.size inb_S1_S1_0)).read (Elt F) a (Shape.Idx.first (numel1_S1.symm ▸ Nat.one_pos))
abbrev rdW (a : Vec F S1 .f32) : F .f32 :=
  (swB.access (Rect.unit (s := S1) ![0] S1.size inb_S1_S1_0)).read (Elt F) a (Shape.Idx.first (numel1_S1.symm ▸ Nat.one_pos))

theorem wp_scaleL' (c : Dev nD) (a b : Vec F S1 .f32) (Q : F .f32 → sProp (MM F)) :
    scO c a b ⊢ iprop((scO c a b -∗ Q (Scalar.mulf (rdX a) (rdW b))) -∗ wpc c scaleL Q) := by
  unfold wpc scaleL smemLoad
  simp only [Prog.bind_op, Prog.bind_ret, Prog.pure_eq_ret]
  iintro ⟨Ha, Hb⟩ Hk
  iapply (wp_load_rect 𝒱₀ (c : Thread nD τ) none Set.univ (m := sxB) (r := Rect.unit (s := S1) ![0] S1.size inb_S1_S1_0) (S := Finset.univ)
    (Finset.subset_univ _)) $$ Ha
  iintro Ha
  iapply (wp_load_rect 𝒱₀ (c : Thread nD τ) none Set.univ (m := swB) (r := Rect.unit (s := S1) ![0] S1.size inb_S1_S1_0) (S := Finset.univ)
    (Finset.subset_univ _)) $$ Hb
  iintro Hb
  iapply (show _ ⊢ wp frame (wpE' defs₀ 𝒱₀ (c : Thread nD τ) none PendingWaitsCtx.empty) Set.univ
      (Prog.ret (Scalar.mulf (rdX a) (rdW b))) Q from BI.Entails.refl _)
  rw [wp_ret]; imodintro
  iapply Hk
  isplitl [Ha]; · iexact Ha
  iexact Hb

theorem wp_scaleL (c : Dev nD) (a b : Vec F S1 .f32) (Q : F .f32 → sProp (MM F)) :
    scO c a b ⊢ iprop((scO c a b -∗ Q (Scalar.mulf (a i0) (b i0))) -∗ wpc c scaleL Q) :=
  wp_scaleL' c a b Q

/-! ## The last phase -/

/-- What the last phase leaves of a lane's buffers, and of its semaphores. -/
abbrev laneEnd (c : Dev nD) (d : Fin 2) (j : Fin 8) : sProp (MM F) :=
  iprop(lnAny (comm d) 0 j c ∗ lnAny (comm d) 1 j c ∗ lnAny epi d j c)
abbrev gathEnd (c : Dev nD) (d : Fin 2) (j : Fin 8) : sProp (MM F) :=
  iprop(lnAny (gath d) 0 j c ∗ lnAny (gath d) 1 j c ∗ lnAny (gath d) 2 j c)
abbrev semEnd (c : Dev nD) (d : Fin 2) (j : Fin 8) : sProp (MM F) :=
  iprop(doneAt (rsS d 2 j) c ∗ doneAt (rsR d 2 j) c ∗ doneAt (agS d 0 j) c ∗ doneAt (agS d 1 j) c ∗ doneAt (agS d 2 j) c)
abbrev semEnd' (c : Dev nD) (d : Fin 2) (j : Fin 8) : sProp (MM F) :=
  iprop(doneAt (agR d 0 j) c ∗ doneAt (agR d 1 j) c ∗ doneAt (agR d 2 j) c)
/-- The four staging blocks at the end. -/
abbrev outEnd4 (c : Dev nD) : sProp (MM F) :=
  iprop(outEnd I c 0 0 16 ∗ outEnd I c 0 1 16 ∗ outEnd I c 1 0 16 ∗ outEnd I c 1 1 16)

theorem wp_last (c : Dev nD) (Q : PUnit → sProp (MM F)) :
    iprop(Ctx I K ∗ owesX c [] ∗ outS4 I c (kk 3 []))
      ⊢ iprop(((owesX c [] ∗ outEnd4 I c) -∗ Q ⟨⟩)
          -∗ wpc c (do outWait c 0 3 6; outWait c 1 3 6; outWait c 0 3 7; outWait c 1 3 7) Q) := by
  unfold outS4
  unfold wpc
  simp only [wp_bind]
  iintro ⟨#HC, HO, H1, H2, H3, H4⟩ Hk
  iapply (wp_outWait I K c 0 3 6 15 (by decide) [] (above_nil _) _) $$ [HO H1]
  · isplitr; · iexact HC
    isplitl [HO]; · iexact HO
    iexact H1
  iintro ⟨HO, H1⟩
  iapply (wp_outWait I K c 1 3 6 15 (by decide) [] (above_nil _) _) $$ [HO H3]
  · isplitr; · iexact HC
    isplitl [HO]; · iexact HO
    iexact H3
  iintro ⟨HO, H3⟩
  iapply (wp_outWait I K c 0 3 7 15 (by decide) [] (above_nil _) _) $$ [HO H2]
  · isplitr; · iexact HC
    isplitl [HO]; · iexact HO
    iexact H2
  iintro ⟨HO, H2⟩
  iapply (wp_outWait I K c 1 3 7 15 (by decide) [] (above_nil _) _) $$ [HO H4]
  · isplitr; · iexact HC
    isplitl [HO]; · iexact HO
    iexact H4
  iintro ⟨HO, H4⟩
  iapply Hk
  isplitl [HO]; · iexact HO
  isplitl [H1]; · iexact H1
  isplitl [H2]; · iexact H2
  isplitl [H3]; · iexact H3
  iexact H4

theorem join_halves (s : Fin 3) (c : Dev nD) (X : Fin 2 → Fin 8 → FVec F S128x1024 .bf16) :
    iprop(bl (fun d j => lnO (gath d) s j c fullShare.left (X d j)) ∗ bl (fun d j => lnO (gath d) s j c fullShare.right (X d j)))
      ⊢ bl (fun d j => lnAny (gath d) s j c) := by
  refine BIBase.Entails.trans (bl2 lanes (fun p => lnO (gath p.2) s p.1 c fullShare.left (X p.2 p.1))
    (fun p => lnO (gath p.2) s p.1 c fullShare.right (X p.2 p.1))) ?_
  refine bigSepL_mono _ _ _ fun p _ => ?_
  iintro H
  iexists (X p.2 p.1)
  iapply (lane_halves (gath p.2) s p.1 c (X p.2 p.1)).2
  iexact H

theorem stage_next (c : Dev nD) (h : Fin 3) : kk h.castSucc [] = kk h.succ lanes := by
  funext d p; revert h d p; decide

theorem sent_0 (c : Dev nD) :
    bl (fun d j => iprop(doneAt (F := F) (agS d 0 j) c ∗ agSPay I d 0 j c))
      ⊢ iprop(bl (fun d j => doneAt (F := F) (agS d 0 j) c) ∗ bl (fun d j => lnO epi d j c fullShare (G0 I d c j))) :=
  ub2 lanes (fun p => doneAt (F := F) (agS p.2 0 p.1) c) (fun p => agSPay I p.2 0 p.1 c)
theorem sent_1 (c : Dev nD) :
    bl (fun d j => iprop(doneAt (F := F) (agS d 1 j) c ∗ agSPay I d 1 j c))
      ⊢ iprop(bl (fun d j => doneAt (F := F) (agS d 1 j) c) ∗ bl (fun d j => lnO (gath d) 0 j c fullShare.left (GV I 0 d c j))) :=
  ub2 lanes (fun p => doneAt (F := F) (agS p.2 1 p.1) c) (fun p => agSPay I p.2 1 p.1 c)
theorem sent_2 (c : Dev nD) :
    bl (fun d j => iprop(doneAt (F := F) (agS d 2 j) c ∗ agSPay I d 2 j c))
      ⊢ iprop(bl (fun d j => doneAt (F := F) (agS d 2 j) c) ∗ bl (fun d j => lnO (gath d) 1 j c fullShare.left (GV I 1 d c j))) :=
  ub2 lanes (fun p => doneAt (F := F) (agS p.2 2 p.1) c) (fun p => agSPay I p.2 2 p.1 c)

theorem wp_phC (c : Dev nD) (a b : Vec F S1 .f32) (hs : I.s c = Scalar.mulf (a i0) (b i0)) (Q : PUnit → sProp (MM F)) :
    iprop(Ctx I K ∗ scO c a b ∗ owesX c (o7 c) ∗ outS4 I c (kk 0 lanes)
        ∗ (bl (fun d j => gotTok (rsR d 2 j) c) ∗ bl (fun d j => lnO epi d j c fullShare (pgl I d c 3 j))
          ∗ bl (fun d j => cred (tallyAt (dmaC c (rsS d 2 j)) 0 N)) ∗ bl (fun d j => atPos ER (dmaC c (rsS d 2 j)) 0 ∅ 0))
        ∗ (bl (fun d j => agTok d 0 j c) ∗ bl (fun d j => agTok d 1 j c) ∗ bl (fun d j => agTok d 2 j c))
        ∗ (bl (fun d j => gotTok (agR d 0 j) c) ∗ bl (fun d j => gotTok (agR d 1 j) c) ∗ bl (fun d j => gotTok (agR d 2 j) c))
        ∗ (bl (fun d j => atPos ER (dmaC c (agS d 0 j)) 0 ∅ 0) ∗ bl (fun d j => atPos ER (dmaC c (agS d 1 j)) 0 ∅ 0)
          ∗ bl (fun d j => atPos ER (dmaC c (agS d 2 j)) 0 ∅ 0))
        ∗ bl (fun d j => iprop(lnAny (gath d) 0 j (tgt d c) ∗ lnAny (gath d) 1 j (tgt d c) ∗ lnAny (gath d) 2 j (tgt d c)))
        ∗ (bl (fun d j => outTok c d 0 j) ∗ bl (fun d j => outTok c d (0 : Fin 3).succ j) ∗ bl (fun d j => outTok c d (1 : Fin 3).succ j)
          ∗ bl (fun d j => outTok c d (2 : Fin 3).succ j)))
      ⊢ iprop(((scO c a b ∗ owesX c [] ∗ outEnd4 I c ∗ bl (fun d j => laneEnd c d j) ∗ bl (fun d j => gathEnd c d j)
            ∗ bl (fun d j => semEnd c d j) ∗ bl (fun d j => semEnd' c d j)) -∗ Q ⟨⟩)
          -∗ wpc c (phC c) Q) := by
  unfold phC
  unfold wpc
  simp only [wp_bind]
  iintro ⟨#HC, Hsc, HO, Hst, ⟨HgR2, Hepi, HcS2, HaS2⟩, ⟨Ht0, Ht1, Ht2⟩, ⟨Hg0, Hg1, Hg2⟩, ⟨Ha0, Ha1, Ha2⟩, Hga, ⟨Ho0, Ho1, Ho2, Ho3⟩⟩ Hk
  ihave Hga2 := (ub3 lanes (fun p => lnAny (F := F) (gath p.2) 0 p.1 (tgt p.2 c)) (fun p => lnAny (F := F) (gath p.2) 1 p.1 (tgt p.2 c))
    (fun p => lnAny (F := F) (gath p.2) 2 p.1 (tgt p.2 c))) $$ Hga
  icases Hga2 with ⟨Hga0, Hga1, Hga2⟩
  iapply (wp_scaleL c a b _) $$ Hsc
  iintro Hsc
  rw [← hs]
  iapply (lp_fin I K c _) $$ [HO Hst HgR2 Hepi Ht0 Hga0 Ho0]
  · isplitl [HO Hst]
    · isplitr; · iexact HC
      isplitl [HO]; · iexact HO
      iexact Hst
    iapply (bl5 lanes (fun p => gotTok (F := F) (rsR p.2 2 p.1) c) (fun p => lnO epi p.2 p.1 c fullShare (pgl I p.2 c 3 p.1)) (fun p => agTok (F := F) p.2 0 p.1 c)
      (fun p => lnAny (F := F) (gath p.2) 0 p.1 (tgt p.2 c)) (fun p => outTok (F := F) c p.2 0 p.1))
    isplitl [HgR2]; · iexact HgR2
    isplitl [Hepi]; · iexact Hepi
    isplitl [Ht0]; · iexact Ht0
    isplitl [Hga0]; · iexact Hga0
    iexact Ho0
  iintro ⟨⟨-, HO, Hst⟩, H⟩
  ihave H2 := (ub3 lanes (fun p => doneAt (F := F) (rsR p.2 2 p.1) c) (fun p => lnO (comm p.2) 1 p.1 c fullShare (AV I 2 p.2 (src p.2 c) p.1))
    (fun p => cred (tallyAt (dmaC c (agS p.2 0 p.1)) 0 N))) $$ H
  icases H2 with ⟨HdR2, Hc1, HcA0⟩
  rw [show kk 0 [] = kk (0 : Fin 3).succ lanes from stage_next c 0]
  iapply (lp_ag I K c 0 _) $$ [HO Hst Hg0 Ht1 Hga1 Ho1]
  · isplitl [HO Hst]
    · isplitr; · iexact HC
      isplitl [HO]; · iexact HO
      iexact Hst
    iapply (bl4 lanes (fun p => gotTok (F := F) (agR p.2 0 p.1) c) (fun p => agTok (F := F) p.2 1 p.1 c)
      (fun p => lnAny (F := F) (gath p.2) 1 p.1 (tgt p.2 c)) (fun p => outTok (F := F) c p.2 (0 : Fin 3).succ p.1))
    isplitl [Hg0]; · iexact Hg0
    isplitl [Ht1]; · iexact Ht1
    isplitl [Hga1]; · iexact Hga1
    iexact Ho1
  iintro ⟨⟨-, HO, Hst⟩, H⟩
  ihave H2 := (ub3 lanes (fun p => doneAt (F := F) (agR p.2 0 p.1) c) (fun p => lnO (gath p.2) 0 p.1 c fullShare.right (GV I 0 p.2 c p.1))
    (fun p => cred (tallyAt (dmaC c (agS p.2 1 p.1)) 0 N))) $$ H
  icases H2 with ⟨Hd0, Hr0, HcA1⟩
  rw [show kk (0 : Fin 3).succ [] = kk (1 : Fin 3).succ lanes from stage_next c 1]
  iapply (lp_ag I K c 1 _) $$ [HO Hst Hg1 Ht2 Hga2 Ho2]
  · isplitl [HO Hst]
    · isplitr; · iexact HC
      isplitl [HO]; · iexact HO
      iexact Hst
    iapply (bl4 lanes (fun p => gotTok (F := F) (agR p.2 1 p.1) c) (fun p => agTok (F := F) p.2 2 p.1 c)
      (fun p => lnAny (F := F) (gath p.2) 2 p.1 (tgt p.2 c)) (fun p => outTok (F := F) c p.2 (1 : Fin 3).succ p.1))
    isplitl [Hg1]; · iexact Hg1
    isplitl [Ht2]; · iexact Ht2
    isplitl [Hga2]; · iexact Hga2
    iexact Ho2
  iintro ⟨⟨-, HO, Hst⟩, H⟩
  ihave H2 := (ub3 lanes (fun p => doneAt (F := F) (agR p.2 1 p.1) c) (fun p => lnO (gath p.2) 1 p.1 c fullShare.right (GV I 1 p.2 c p.1))
    (fun p => cred (tallyAt (dmaC c (agS p.2 2 p.1)) 0 N))) $$ H
  icases H2 with ⟨Hd1, Hr1, HcA2⟩
  rw [show kk (1 : Fin 3).succ [] = kk (2 : Fin 3).succ lanes from stage_next c 2]
  iapply (lp_ag I K c 2 _) $$ [HO Hst Hg2 Ho3]
  · isplitl [HO Hst]
    · isplitr; · iexact HC
      isplitl [HO]; · iexact HO
      iexact Hst
    iapply (bl2 lanes (fun p => gotTok (F := F) (agR p.2 2 p.1) c) (fun p => outTok (F := F) c p.2 (2 : Fin 3).succ p.1))
    isplitl [Hg2]; · iexact Hg2
    iexact Ho3
  iintro ⟨⟨-, HO, Hst⟩, H⟩
  ihave H2 := (ub2 lanes (fun p => doneAt (F := F) (agR p.2 2 p.1) c) (fun p => lnO (gath p.2) 2 p.1 c fullShare (GV I 2 p.2 c p.1))) $$ H
  icases H2 with ⟨Hd2, Hga2⟩
  iapply (lp_agSent I K c 0 _) $$ [HO HcA0 Ha0]
  · isplitl [HO]
    · isplitr; · iexact HC
      iexact HO
    iapply (bl2 lanes (fun p => cred (tallyAt (dmaC c (agS p.2 0 p.1)) 0 N)) (fun p => atPos ER (dmaC c (agS p.2 0 p.1)) 0 ∅ 0))
    isplitl [HcA0]; · iexact HcA0
    iexact Ha0
  iintro ⟨⟨-, HO⟩, H⟩
  ihave H2 := (sent_0 I c) $$ H
  icases H2 with ⟨He0, Hepi⟩
  iapply (lp_agSent I K c 1 _) $$ [HO HcA1 Ha1]
  · isplitl [HO]
    · isplitr; · iexact HC
      iexact HO
    iapply (bl2 lanes (fun p => cred (tallyAt (dmaC c (agS p.2 1 p.1)) 0 N)) (fun p => atPos ER (dmaC c (agS p.2 1 p.1)) 0 ∅ 0))
    isplitl [HcA1]; · iexact HcA1
    iexact Ha1
  iintro ⟨⟨-, HO⟩, H⟩
  ihave H2 := (sent_1 I c) $$ H
  icases H2 with ⟨He1, Hl0⟩
  iapply (lp_agSent I K c 2 _) $$ [HO HcA2 Ha2]
  · isplitl [HO]
    · isplitr; · iexact HC
      iexact HO
    iapply (bl2 lanes (fun p => cred (tallyAt (dmaC c (agS p.2 2 p.1)) 0 N)) (fun p => atPos ER (dmaC c (agS p.2 2 p.1)) 0 ∅ 0))
    isplitl [HcA2]; · iexact HcA2
    iexact Ha2
  iintro ⟨⟨-, HO⟩, H⟩
  ihave H2 := (sent_2 I c) $$ H
  icases H2 with ⟨He2, Hl1⟩
  iapply (lp_sent I K c 2 0 1 rfl [] (above_nil _) _) $$ [HO HcS2 HaS2]
  · isplitl [HO]
    · isplitr; · iexact HC
      iexact HO
    iapply (bl2 lanes (fun p => cred (tallyAt (dmaC c (rsS p.2 2 p.1)) 0 N)) (fun p => atPos ER (dmaC c (rsS p.2 2 p.1)) 0 ∅ 0))
    isplitl [HcS2]; · iexact HcS2
    iexact HaS2
  iintro ⟨⟨-, HO⟩, H⟩
  ihave H2 := (ub2 lanes (fun p => doneAt (F := F) (rsS p.2 2 p.1) c) (fun p => lnO (comm p.2) 0 p.1 c fullShare (AV I 2 p.2 c p.1))) $$ H
  icases H2 with ⟨HdS2, Hc0⟩
  ihave Hc0 := (any_of comm (fun _ => 0) c (fun d j => AV I 2 d c j)) $$ Hc0
  ihave Hc1 := (any_of comm (fun _ => 1) c (fun d j => AV I 2 d (src d c) j)) $$ Hc1
  ihave Hepi := (any_of (fun _ => epi) (fun d => d) c (fun d j => G0 I d c j)) $$ Hepi
  ihave Hga2 := (any_of gath (fun _ => 2) c (fun d j => GV I 2 d c j)) $$ Hga2
  ihave Hga0 := (join_halves 0 c (fun d j => GV I 0 d c j)) $$ [Hl0 Hr0]
  · isplitl [Hl0]; · iexact Hl0
    iexact Hr0
  ihave Hga1 := (join_halves 1 c (fun d j => GV I 1 d c j)) $$ [Hl1 Hr1]
  · isplitl [Hl1]; · iexact Hl1
    iexact Hr1
  ihave Hlast := (wp_last I K c Q) $$ [HO Hst]
  · isplitr; · iexact HC
    isplitl [HO]; · iexact HO
    iexact Hst
  unfold wpc
  simp only [wp_bind]
  iapply Hlast
  iintro ⟨HO, Hend⟩
  iapply Hk
  isplitl [Hsc]; · iexact Hsc
  isplitl [HO]; · iexact HO
  isplitl [Hend]; · iexact Hend
  isplitl [Hc0 Hc1 Hepi]
  · iapply (bl3 lanes (fun p => lnAny (F := F) (comm p.2) 0 p.1 c) (fun p => lnAny (F := F) (comm p.2) 1 p.1 c) (fun p => lnAny (F := F) epi p.2 p.1 c))
    isplitl [Hc0]; · iexact Hc0
    isplitl [Hc1]; · iexact Hc1
    iexact Hepi
  isplitl [Hga0 Hga1 Hga2]
  · iapply (bl3 lanes (fun p => lnAny (F := F) (gath p.2) 0 p.1 c) (fun p => lnAny (F := F) (gath p.2) 1 p.1 c) (fun p => lnAny (F := F) (gath p.2) 2 p.1 c))
    isplitl [Hga0]; · iexact Hga0
    isplitl [Hga1]; · iexact Hga1
    iexact Hga2
  isplitl [HdS2 HdR2 He0 He1 He2]
  · iapply (bl5 lanes (fun p => doneAt (F := F) (rsS p.2 2 p.1) c) (fun p => doneAt (F := F) (rsR p.2 2 p.1) c) (fun p => doneAt (F := F) (agS p.2 0 p.1) c)
      (fun p => doneAt (F := F) (agS p.2 1 p.1) c) (fun p => doneAt (F := F) (agS p.2 2 p.1) c))
    isplitl [HdS2]; · iexact HdS2
    isplitl [HdR2]; · iexact HdR2
    isplitl [He0]; · iexact He0
    isplitl [He1]; · iexact He1
    iexact He2
  iapply (bl3 lanes (fun p => doneAt (F := F) (agR p.2 0 p.1) c) (fun p => doneAt (F := F) (agR p.2 1 p.1) c) (fun p => doneAt (F := F) (agR p.2 2 p.1) c))
  isplitl [Hd0]; · iexact Hd0
  isplitl [Hd1]; · iexact Hd1
  iexact Hd2

end Cert.Coll

end
-- ==== Proof.Bufs.lean ====
/-
  The buffers cut into row blocks, and put together again.
-/
module

public import proofs.«01_k».proof.Proof.Last
public import Idealize.ShloMosaic.Lib.Pipeline.BigSepL

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The slots of a buffer -/

section Slots

variable {n : ℕ} (M : Memref sig .tc .vmem (SN n) .bf16)

theorem whole_slots (hM : M.IsWhole) (l : List (Fin n)) (hl : ∀ s, s ∈ l) :
    (Finset.univ : Finset M.view.ty.Idx) = l.toFinset.biUnion (fun s => (M.access (slotR s)).set) := by
  rw [← hM.set_eq_univ]
  ext i
  rw [Finset.mem_biUnion]
  constructor
  · intro hi
    obtain ⟨x, -, rfl⟩ := Finset.mem_map.mp hi
    refine ⟨⟨(x 0).val, (x 0).isLt⟩, List.mem_toFinset.mpr (hl _), ?_⟩
    rw [View.set_slice]
    refine Finset.mem_map_of_mem _ ?_
    rw [Rect.mem_set_unit]
    have h1 : (x 1).val < 1024 := (x 1).isLt
    have h2 : (x 2).val < 1024 := (x 2).isLt
    intro a
    fin_cases a <;> simp <;> omega
  · rintro ⟨s, -, hi⟩
    rw [View.set_slice] at hi
    obtain ⟨x, -, rfl⟩ := Finset.mem_map.mp hi
    exact Finset.mem_map_of_mem _ (Finset.mem_univ _)

theorem slot_disj (s s' : Fin n) (h : s ≠ s') : Disjoint (M.access (slotR s)).set (M.access (slotR s')).set := by
  rw [View.set_slice, View.set_slice]
  refine (Finset.disjoint_map _).mpr ?_
  have hs' : s.val ≠ s'.val := fun e => h (Fin.ext e)
  refine Rect.unit_disjoint (s := SN n) (0 : Fin 3) ?_
  show s.val + 1 ≤ s'.val ∨ s'.val + 1 ≤ s.val
  omega

/-- A slot held is its eight row blocks held, at some matrices. -/
theorem lanes_of_any (s : Fin n) (c : Dev nD) (g : M.view.ty.Contents (Elt F)) :
    (M.view.loc (c : Thread nD τ) ↦[(M.access (slotR s)).set]{fullShare} g : sProp (MM F)) ⊢ bigSepL rows (fun j => lnAny (F := F) M s j c) := by
  rw [slot_set, pieces_eq (F := F) (ℓ := M.view.loc (c : Thread nD τ)) (fun j => (M.access (laneR s j)).set) rows (by decide)
      (fun t _ t' _ h => lane_disj M s t t' s fun e => h (Prod.ext_iff.mp e).2)]
  refine bigSepL_mono _ _ _ fun j _ => ?_
  unfold lnAny lnO owns
  iintro H
  iexists ((lane M s j).view.read (Elt F) g)
  iexists g
  isplitr
  · ipureintro; rfl
  rw [lane_set]
  iexact H

theorem lanes_of_buf (hM : M.IsWhole) (c : Dev nD) (l : List (Fin n)) (hl : ∀ s, s ∈ l) (hn : l.Nodup) (g : M.view.ty.Contents (Elt F)) :
    (M.view.loc (c : Thread nD τ) ↦{fullShare} g : sProp (MM F)) ⊢ bigSepL l (fun s => bigSepL rows (fun j => lnAny (F := F) M s j c)) := by
  refine (Entails.of_eq (congrArg (fun S => (M.view.loc (c : Thread nD τ) ↦[S]{fullShare} g : sProp (MM F))) (whole_slots M hM l hl))).trans ?_
  rw [pieces_eq (F := F) (ℓ := M.view.loc (c : Thread nD τ)) (fun s => (M.access (slotR s)).set) l hn
      (fun t _ t' _ h => slot_disj M t t' h)]
  exact bigSepL_mono _ _ _ fun s _ => lanes_of_any M s c g

theorem buf_of_lanes (hM : M.IsWhole) (c : Dev nD) (l : List (Fin n)) (hl : ∀ s, s ∈ l) (hn : l.Nodup) (he : l ≠ []) :
    bigSepL l (fun s => bigSepL rows (fun j => lnAny (F := F) M s j c)) ⊢ iprop(∃ g, M.view.loc (c : Thread nD τ) ↦{fullShare} g) := by
  refine (bigSepL_mono _ _ (fun s => iprop(∃ f, M.view.loc (c : Thread nD τ) ↦[(M.access (slotR s)).set]{fullShare} f)) fun s _ => slot_of_lanes M s c).trans ?_
  refine (pieces_any (F := F) (ℓ := M.view.loc (c : Thread nD τ)) (fun s => (M.access (slotR s)).set) l hn
      (fun t _ t' _ h => slot_disj M t t' h) he).trans ?_
  rw [← whole_slots M hM l hl]

end Slots

/-! ## The scratch buffers -/

/-- A buffer held whole at some contents. -/
abbrev anyB (c : Dev nD) (b : Ref sig .tc) : sProp (MM F) :=
  iprop(∃ f : Buf (Elt F) ((c : Thread nD τ).loc b), ((c : Thread nD τ).loc b) ↦{fullShare} f)

theorem two_eq (Φ : Fin 2 → sProp (MM F)) : bigSepL [0, 1] Φ = iprop(Φ 0 ∗ Φ 1) := by rw [sepL_cons]; rfl
theorem three_eq (Φ : Fin 3 → sProp (MM F)) : bigSepL [0, 1, 2] Φ = iprop(Φ 0 ∗ Φ 1 ∗ Φ 2) := by rw [sepL_cons, sepL_cons]; rfl

theorem bl_join (Φ : Fin 2 → Fin 8 → sProp (MM F)) :
    iprop(bigSepL rows (Φ 0) ∗ bigSepL rows (Φ 1)) ⊢ bl Φ := (lanes_rows fun p => Φ p.2 p.1).2
theorem bl_part (Φ : Fin 2 → Fin 8 → sProp (MM F)) :
    bl Φ ⊢ iprop(bigSepL rows (Φ 0) ∗ bigSepL rows (Φ 1)) := (lanes_rows fun p => Φ p.2 p.1).1

theorem comm_split (c : Dev nD) :
    iprop(anyB (F := F) c cc0_scratch0 ∗ anyB (F := F) c cc0_scratch1)
      ⊢ iprop(bl (fun d j => lnAny (F := F) (comm d) 0 j c) ∗ bl (fun d j => lnAny (F := F) (comm d) 1 j c)) := by
  iintro ⟨⟨%f, H0⟩, ⟨%g, H1⟩⟩
  ihave H0 := ((lanes_of_buf (F := F) (comm 0) (comm_whole 0) c [0, 1] (by decide) (by decide) f).trans (Entails.of_eq (two_eq _))) $$ H0
  ihave H1 := ((lanes_of_buf (F := F) (comm 1) (comm_whole 1) c [0, 1] (by decide) (by decide) g).trans (Entails.of_eq (two_eq _))) $$ H1
  icases H0 with ⟨H00, H01⟩
  icases H1 with ⟨H10, H11⟩
  isplitl [H00 H10]
  · iapply (bl_join fun d j => lnAny (F := F) (comm d) 0 j c)
    isplitl [H00]; · iexact H00
    iexact H10
  · iapply (bl_join fun d j => lnAny (F := F) (comm d) 1 j c)
    isplitl [H01]; · iexact H01
    iexact H11

theorem comm_whole_of (c : Dev nD) :
    iprop(bl (fun d j => lnAny (F := F) (comm d) 0 j c) ∗ bl (fun d j => lnAny (F := F) (comm d) 1 j c))
      ⊢ iprop(anyB (F := F) c cc0_scratch0 ∗ anyB (F := F) c cc0_scratch1) := by
  iintro ⟨H0, H1⟩
  ihave H0 := (bl_part fun d j => lnAny (F := F) (comm d) 0 j c) $$ H0
  ihave H1 := (bl_part fun d j => lnAny (F := F) (comm d) 1 j c) $$ H1
  icases H0 with ⟨H00, H10⟩
  icases H1 with ⟨H01, H11⟩
  isplitl [H00 H01]
  · iapply ((Entails.of_eq (two_eq _).symm).trans (buf_of_lanes (F := F) (comm 0) (comm_whole 0) c [0, 1] (by decide) (by decide) (by decide)))
    isplitl [H00]; · iexact H00
    iexact H01
  · iapply ((Entails.of_eq (two_eq _).symm).trans (buf_of_lanes (F := F) (comm 1) (comm_whole 1) c [0, 1] (by decide) (by decide) (by decide)))
    isplitl [H10]; · iexact H10
    iexact H11

theorem epi_split (c : Dev nD) : anyB (F := F) c cc0_scratch2 ⊢ bl (fun d j => lnAny (F := F) epi d j c) := by
  iintro ⟨%f, H0⟩
  ihave H0 := ((lanes_of_buf (F := F) epi (Memref.isWhole_whole _) c [0, 1] (by decide) (by decide) f).trans (Entails.of_eq (two_eq _))) $$ H0
  iapply (bl_join fun d j => lnAny (F := F) epi d j c)
  iexact H0

theorem epi_whole_of (c : Dev nD) : bl (fun d j => lnAny (F := F) epi d j c) ⊢ anyB (F := F) c cc0_scratch2 := by
  iintro H
  iapply ((Entails.of_eq (two_eq _).symm).trans (buf_of_lanes (F := F) epi (Memref.isWhole_whole _) c [0, 1] (by decide) (by decide) (by decide)))
  iapply (bl_part fun d j => lnAny (F := F) epi d j c)
  iexact H

theorem gath_split (c : Dev nD) :
    iprop(anyB (F := F) c cc0_scratch3 ∗ anyB (F := F) c cc0_scratch4)
      ⊢ iprop(bl (fun d j => lnAny (F := F) (gath d) 0 j c) ∗ bl (fun d j => lnAny (F := F) (gath d) 1 j c)
        ∗ bl (fun d j => lnAny (F := F) (gath d) 2 j c)) := by
  iintro ⟨⟨%f, H0⟩, ⟨%g, H1⟩⟩
  ihave H0 := ((lanes_of_buf (F := F) (gath 0) (gath_whole 0) c [0, 1, 2] (by decide) (by decide) f).trans (Entails.of_eq (three_eq _))) $$ H0
  ihave H1 := ((lanes_of_buf (F := F) (gath 1) (gath_whole 1) c [0, 1, 2] (by decide) (by decide) g).trans (Entails.of_eq (three_eq _))) $$ H1
  icases H0 with ⟨H00, H01, H02⟩
  icases H1 with ⟨H10, H11, H12⟩
  isplitl [H00 H10]
  · iapply (bl_join fun d j => lnAny (F := F) (gath d) 0 j c)
    isplitl [H00]; · iexact H00
    iexact H10
  isplitl [H01 H11]
  · iapply (bl_join fun d j => lnAny (F := F) (gath d) 1 j c)
    isplitl [H01]; · iexact H01
    iexact H11
  · iapply (bl_join fun d j => lnAny (F := F) (gath d) 2 j c)
    isplitl [H02]; · iexact H02
    iexact H12

theorem gath_whole_of (c : Dev nD) :
    bl (fun d j => gathEnd (F := F) c d j) ⊢ iprop(anyB (F := F) c cc0_scratch3 ∗ anyB (F := F) c cc0_scratch4) := by
  iintro H
  ihave H := (ub3 lanes (fun p => lnAny (F := F) (gath p.2) 0 p.1 c) (fun p => lnAny (F := F) (gath p.2) 1 p.1 c)
    (fun p => lnAny (F := F) (gath p.2) 2 p.1 c)) $$ H
  icases H with ⟨H0, H1, H2⟩
  ihave H0 := (bl_part fun d j => lnAny (F := F) (gath d) 0 j c) $$ H0
  ihave H1 := (bl_part fun d j => lnAny (F := F) (gath d) 1 j c) $$ H1
  ihave H2 := (bl_part fun d j => lnAny (F := F) (gath d) 2 j c) $$ H2
  icases H0 with ⟨H00, H10⟩
  icases H1 with ⟨H01, H11⟩
  icases H2 with ⟨H02, H12⟩
  isplitl [H00 H01 H02]
  · iapply ((Entails.of_eq (three_eq _).symm).trans (buf_of_lanes (F := F) (gath 0) (gath_whole 0) c [0, 1, 2] (by decide) (by decide) (by decide)))
    isplitl [H00]; · iexact H00
    isplitl [H01]; · iexact H01
    iexact H02
  · iapply ((Entails.of_eq (three_eq _).symm).trans (buf_of_lanes (F := F) (gath 1) (gath_whole 1) c [0, 1, 2] (by decide) (by decide) (by decide)))
    isplitl [H10]; · iexact H10
    isplitl [H11]; · iexact H11
    iexact H12

/-! ## The staging blocks -/

/-- Direction and parity of the four staging blocks. -/
abbrev dps : List (Fin 2 × Fin 2) := [(0, 0), (0, 1), (1, 0), (1, 1)]

theorem four_eq (Φ : Fin 2 × Fin 2 → sProp (MM F)) : bigSepL dps Φ = iprop(Φ (0, 0) ∗ Φ (0, 1) ∗ Φ (1, 0) ∗ Φ (1, 1)) := by
  rw [sepL_cons, sepL_cons, sepL_cons]; rfl

theorem fs_disj (t t' : Fin 2 × Fin 2) (h : t ≠ t') : Disjoint (fsB.access (fsR t.1 t.2)).set (fsB.access (fsR t'.1 t'.2)).set := by
  rw [View.set_slice, View.set_slice]
  refine (Finset.disjoint_map _).mpr ?_
  by_cases h1 : t.1 = t'.1
  · have h2 : t.2.val ≠ t'.2.val := fun e => h (Prod.ext h1 (Fin.ext e))
    refine Rect.unit_disjoint (s := S2x2x128x1024) (1 : Fin 4) ?_
    show t.2.val + 1 ≤ t'.2.val ∨ t'.2.val + 1 ≤ t.2.val
    omega
  · have h2 : t.1.val ≠ t'.1.val := fun e => h1 (Fin.ext e)
    refine Rect.unit_disjoint (s := S2x2x128x1024) (0 : Fin 4) ?_
    show t.1.val + 1 ≤ t'.1.val ∨ t'.1.val + 1 ≤ t.1.val
    omega

theorem fs_cover : (Finset.univ : Finset fsB.view.ty.Idx) = dps.toFinset.biUnion (fun t => (fsB.access (fsR t.1 t.2)).set) := by
  rw [← (Memref.isWhole_whole cc0_scratch5).set_eq_univ]
  ext i
  rw [Finset.mem_biUnion]
  constructor
  · intro hi
    obtain ⟨x, -, rfl⟩ := Finset.mem_map.mp hi
    have hd : ∀ t : Fin 2 × Fin 2, t ∈ dps.toFinset := by decide
    refine ⟨(⟨(x 0).val, (x 0).isLt⟩, ⟨(x 1).val, (x 1).isLt⟩), hd _, ?_⟩
    rw [View.set_slice]
    refine Finset.mem_map_of_mem _ ?_
    rw [Rect.mem_set_unit]
    have h1 : (x 2).val < 128 := (x 2).isLt
    have h2 : (x 3).val < 1024 := (x 3).isLt
    intro a
    fin_cases a <;> simp <;> omega
  · rintro ⟨s, -, hi⟩
    rw [View.set_slice] at hi
    obtain ⟨x, -, rfl⟩ := Finset.mem_map.mp hi
    exact Finset.mem_map_of_mem _ (Finset.mem_univ _)

theorem fs_split (c : Dev nD) : anyB (F := F) c cc0_scratch5 ⊢ bigSepL dps (fun t => fsAny (F := F) c t.1 t.2) := by
  iintro ⟨%f, H⟩
  ihave H := ((Entails.of_eq (congrArg (fun S => (fsB.view.loc (c : Thread nD τ) ↦[S]{fullShare} f : sProp (MM F))) fs_cover)).trans
    (Entails.of_eq (pieces_eq (F := F) (ℓ := fsB.view.loc (c : Thread nD τ)) (fun t : Fin 2 × Fin 2 => (fsB.access (fsR t.1 t.2)).set) dps (by decide)
      (fun t _ t' _ h => fs_disj t t' h) f))) $$ H
  iapply (bigSepL_mono dps _ (fun t => fsAny (F := F) c t.1 t.2) fun t _ =>
    (show (fsB.view.loc (c : Thread nD τ) ↦[(fsB.access (fsR t.1 t.2)).set]{fullShare} f : sProp (MM F)) ⊢ fsAny (F := F) c t.1 t.2 from by
      unfold fsAny fsO owns
      iintro H
      iexists ((fsM t.1 t.2).view.read (Elt F) f)
      iexists f
      isplitr
      · ipureintro; rfl
      rw [fs_set]
      iexact H))
  iexact H

theorem fs_whole_of (c : Dev nD) : bigSepL dps (fun t => fsAny (F := F) c t.1 t.2) ⊢ anyB (F := F) c cc0_scratch5 := by
  refine (bigSepL_mono dps _ (fun t => iprop(∃ f, fsB.view.loc (c : Thread nD τ) ↦[(fsB.access (fsR t.1 t.2)).set]{fullShare} f)) fun t _ => ?_).trans ?_
  · unfold fsAny fsO owns
    iintro ⟨%X, %f, -, H⟩
    iexists f
    rw [← fs_set]
    iexact H
  refine (pieces_any (F := F) (ℓ := fsB.view.loc (c : Thread nD τ)) (fun t : Fin 2 × Fin 2 => (fsB.access (fsR t.1 t.2)).set) dps (by decide)
      (fun t _ t' _ h => fs_disj t t' h) (by decide)).trans ?_
  rw [← fs_cover]

/-! ## The blocks of the result -/

/-- The chunk of the rows that stage `t` of direction `d` writes on device `c`. -/
def chk (c : Dev nD) (d : Fin 2) (t : Fin 4) : ℕ := match d with | 0 => (c.val + 8 - t.val) % 4 | 1 => (c.val + 8 + t.val) % 4

theorem outOff_eq (c : Dev nD) (d : Fin 2) (t : Fin 4) (j : Fin 8) : outOff c d t j = ![1024 * chk c d t + 128 * j.val, 1024 * d.val] := by
  have hc : c.val < 4 := c.isLt
  match d, t with
  | 0, 0 => refine (k0_off4_eq c j).trans ?_; simp [chk] <;> omega
  | 0, 1 => refine (k0_off6_eq c 0 j).trans ?_; simp [chk] <;> omega
  | 0, 2 => refine (k0_off6_eq c 1 j).trans ?_; simp [chk] <;> omega
  | 0, 3 => refine (k0_off6_eq c 2 j).trans ?_; simp [chk] <;> omega
  | 1, 0 => refine (k0_off5_eq c j).trans ?_; simp [chk] <;> omega
  | 1, 1 => refine (k0_off7_eq c 0 j).trans ?_; simp [chk] <;> omega
  | 1, 2 => refine (k0_off7_eq c 1 j).trans ?_; simp [chk] <;> omega
  | 1, 3 => refine (k0_off7_eq c 2 j).trans ?_; simp [chk] <;> omega

/-- The sixty-four blocks: by stage, then by lane. -/
abbrev ots (t : Fin 4) : List (Fin 4 × Fin 8 × Fin 2) := lanes.map fun p => (t, p)
abbrev outs : List (Fin 4 × Fin 8 × Fin 2) := ots 0 ++ (ots 1 ++ (ots 2 ++ ots 3))

theorem chk_inj (c : Dev nD) (d : Fin 2) (t t' : Fin 4) (h : chk c d t = chk c d t') : t = t' := by
  have hc : c.val < 4 := c.isLt
  have := t.isLt; have := t'.isLt
  apply Fin.ext
  match d with
  | 0 => simp only [chk] at h; omega
  | 1 => simp only [chk] at h; omega

theorem out_disj (c : Dev nD) (t t' : Fin 4 × Fin 8 × Fin 2) (h : t ≠ t') :
    Disjoint (outB.access (outR c t.2.2 t.1 t.2.1)).set (outB.access (outR c t'.2.2 t'.1 t'.2.1)).set := by
  rw [View.set_slice, View.set_slice]
  refine (Finset.disjoint_map _).mpr ?_
  by_cases hd : t.2.2 = t'.2.2
  · refine Rect.unit_disjoint (s := S4096x2048) (0 : Fin 2) ?_
    rw [outOff_eq, outOff_eq]
    show 1024 * chk c t.2.2 t.1 + 128 * t.2.1.val + 128 ≤ 1024 * chk c t'.2.2 t'.1 + 128 * t'.2.1.val ∨
      1024 * chk c t'.2.2 t'.1 + 128 * t'.2.1.val + 128 ≤ 1024 * chk c t.2.2 t.1 + 128 * t.2.1.val
    have h1 := t.2.1.isLt; have h2 := t'.2.1.isLt
    by_cases hk : chk c t.2.2 t.1 = chk c t'.2.2 t'.1
    · have ht : t.1 = t'.1 := chk_inj c t.2.2 t.1 t'.1 (hk.trans (by rw [hd]))
      have hj : t.2.1.val ≠ t'.2.1.val := fun e => h (Prod.ext ht (Prod.ext (Fin.ext e) hd))
      omega
    · omega
  · have hd' : t.2.2.val ≠ t'.2.2.val := fun e => hd (Fin.ext e)
    refine Rect.unit_disjoint (s := S4096x2048) (1 : Fin 2) ?_
    rw [outOff_eq, outOff_eq]
    show 1024 * t.2.2.val + 1024 ≤ 1024 * t'.2.2.val ∨ 1024 * t'.2.2.val + 1024 ≤ 1024 * t.2.2.val
    omega

theorem chk_surj (c : Dev nD) (d : Fin 2) (k : ℕ) (hk : k < 4) : ∃ t : Fin 4, chk c d t = k := by
  have hc : c.val < 4 := c.isLt
  match d with
  | 0 => exact ⟨⟨(c.val + 8 - k) % 4, Nat.mod_lt _ (by decide)⟩, by simp only [chk]; omega⟩
  | 1 => exact ⟨⟨(k + 8 - c.val) % 4, Nat.mod_lt _ (by decide)⟩, by simp only [chk]; omega⟩

theorem outs_mem (t : Fin 4 × Fin 8 × Fin 2) : t ∈ outs := by revert t; decide

/-- Every position of the result lies in a block. -/
theorem out_at (c : Dev nD) (x : S4096x2048.Idx) : ∃ d t j, ∃ y : S128x1024.Idx, (outR c d t j).emb y = x := by
  have h0 : (x 0).val < 4096 := (x 0).isLt
  have h1 : (x 1).val < 2048 := (x 1).isLt
  obtain ⟨t, ht⟩ := chk_surj c ⟨(x 1).val / 1024, by omega⟩ ((x 0).val / 1024) (by omega)
  have hm : x ∈ (outR c ⟨(x 1).val / 1024, by omega⟩ t ⟨(x 0).val % 1024 / 128, by omega⟩).set := by
    rw [Rect.mem_set_unit, outOff_eq, ht]
    intro a
    fin_cases a <;> simp <;> omega
  obtain ⟨y, hy⟩ := LoadRect.exists_idx_of_mem _ hm
  exact ⟨_, _, _, y, hy⟩

theorem emb_mem {s : Shape} (R : Rect s) (y : R.shape.Idx) : R.emb y ∈ R.set := by
  rw [← Rect.map_emb_univ]; exact Finset.mem_map_of_mem _ (Finset.mem_univ y)

theorem out_cover (c : Dev nD) : (Finset.univ : Finset outB.view.ty.Idx) = outs.toFinset.biUnion (fun t => (outB.access (outR c t.2.2 t.1 t.2.1)).set) := by
  rw [← (Memref.isWhole_whole main_v1).set_eq_univ]
  ext i
  rw [Finset.mem_biUnion]
  constructor
  · intro hi
    obtain ⟨x, -, rfl⟩ := Finset.mem_map.mp hi
    obtain ⟨d, t, j, y, rfl⟩ := out_at c x
    refine ⟨(t, j, d), List.mem_toFinset.mpr (outs_mem _), ?_⟩
    rw [View.set_slice]
    dsimp only
    exact Finset.mem_map_of_mem _ (emb_mem (outR c d t j) y)
  · rintro ⟨s, -, hi⟩
    rw [View.set_slice] at hi
    obtain ⟨x, -, rfl⟩ := Finset.mem_map.mp hi
    exact Finset.mem_map_of_mem _ (Finset.mem_univ _)

theorem out_split (c : Dev nD) (f : outB.view.ty.Contents (Elt F)) :
    (((c : Thread nD τ).loc main_v1) ↦{fullShare} f : sProp (MM F))
      ⊢ iprop(bl (fun d j => outAny (F := F) c d 0 j) ∗ bl (fun d j => outAny (F := F) c d 1 j) ∗ bl (fun d j => outAny (F := F) c d 2 j)
        ∗ bl (fun d j => outAny (F := F) c d 3 j)) := by
  refine BIBase.Entails.trans (Q := bigSepL outs fun t => outAny (F := F) c t.2.2 t.1 t.2.1) ?_ ?_
  · refine ((Entails.of_eq (congrArg (fun S => (outB.view.loc (c : Thread nD τ) ↦[S]{fullShare} f : sProp (MM F))) (out_cover c))).trans
      (Entails.of_eq (pieces_eq (F := F) (ℓ := outB.view.loc (c : Thread nD τ)) (fun t : Fin 4 × Fin 8 × Fin 2 => (outB.access (outR c t.2.2 t.1 t.2.1)).set) outs
        (by decide) (fun t _ t' _ h => out_disj c t t' h) f))).trans ?_
    refine bigSepL_mono _ _ _ fun t _ => ?_
    unfold outAny outO owns
    iintro H
    iexists ((outM c t.2.2 t.1 t.2.1).view.read (Elt F) f)
    iexists f
    isplitr
    · ipureintro; rfl
    iexact H
  · rw [bigSepL_append, bigSepL_append, bigSepL_append, bigSepL_map, bigSepL_map, bigSepL_map, bigSepL_map]

end Cert.Coll

end
-- ==== Proof.Sems.lean ====
/-
  The semaphores of the protocol by use, the tokens that pay for their rounds, and the passing of the tokens round the ring.
-/
module

public import proofs.«01_k».proof.Proof.Bufs

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

/-! ## Names of the semaphores -/

/-- The copy semaphores of lane `(d, j)` of hop `h`, by family. -/
def fam : Fin 4 → Fin 2 → Fin 3 → Fin 8 → DmaSem sig
  | 0 => rsS
  | 1 => rsR
  | 2 => agS
  | 3 => agR

def famCk : Fin 4 → Fin 2 → Fin 3 → Fin 8 → Ck
  | 0 => .rsS
  | 1 => .rsR
  | 2 => .agS
  | 3 => .agR

theorem ck_fam (f : Fin 4) (d : Fin 2) (h : Fin 3) (j : Fin 8) : ck (.dma (fam f d h j)) = famCk f d h j := by
  match f with
  | 0 => exact ck_rsS d h j
  | 1 => exact ck_rsR d h j
  | 2 => exact ck_agS d h j
  | 3 => exact ck_agR d h j

/-- The semaphores of the call: the credit, the four of the result, the lanes' ones. -/
abbrev OK : Type := Unit ⊕ (Fin 2 × Fin 2) ⊕ (Fin 4 × Fin 3 × Fin 8 × Fin 2)

def osem : OK → SemLoc sig
  | .inl _ => .reg credS
  | .inr (.inl t) => .dma (outS t.1 t.2)
  | .inr (.inr t) => .dma (fam t.1 t.2.2.2 t.2.1 t.2.2.1)

def ockO : OK → Ck
  | .inl _ => .crd
  | .inr (.inl t) => .out t.1 t.2
  | .inr (.inr t) => famCk t.1 t.2.2.2 t.2.1 t.2.2.1

theorem ck_osem (k : OK) : ck (osem k) = ockO k := by
  rcases k with _ | t | t
  · exact ck_crd
  · exact ck_out _ _
  · exact ck_fam _ _ _ _

theorem ockO_inj : Function.Injective ockO := by
  intro a b h
  rcases a with _ | ⟨a1, a2⟩ | ⟨a1, a2, a3, a4⟩ <;> rcases b with _ | ⟨b1, b2⟩ | ⟨b1, b2, b3, b4⟩
  · rfl
  · cases h
  · fin_cases b1 <;> cases h
  · cases h
  · cases h; rfl
  · fin_cases b1 <;> cases h
  · fin_cases a1 <;> cases h
  · fin_cases a1 <;> cases h
  · fin_cases a1 <;> fin_cases b1 <;> cases h <;> rfl

theorem ockO_ne (k : OK) : ockO k ≠ .non ∧ ockO k ≠ .bar := by
  rcases k with _ | ⟨a1, a2⟩ | ⟨a1, a2, a3, a4⟩
  · exact ⟨nofun, nofun⟩
  · exact ⟨nofun, nofun⟩
  · fin_cases a1 <;> exact ⟨nofun, nofun⟩

theorem osem_inj : Function.Injective osem := fun a b h => ockO_inj (by rw [← ck_osem, ← ck_osem, h])

/-- All of them, with the barrier. -/
abbrev CK : Type := Unit ⊕ OK

def csem : CK → SemLoc sig
  | .inl _ => .reg barS
  | .inr k => osem k

theorem csem_inj : Function.Injective csem := by
  rintro (_ | a) (_ | b) h
  · rfl
  · have := congrArg ck h
    dsimp only [csem] at this
    rw [ck_bar, ck_osem] at this
    exact absurd this.symm (ockO_ne b).2
  · have := congrArg ck h
    dsimp only [csem] at this
    rw [ck_bar, ck_osem] at this
    exact absurd this (ockO_ne a).2
  · exact congrArg Sum.inr (osem_inj h)

theorem csem_ne (k : CK) : ck (csem k) ≠ .non := by
  rcases k with _ | k
  · dsimp only [csem]; rw [ck_bar]; nofun
  · dsimp only [csem]; rw [ck_osem]; exact (ockO_ne k).1

def keyOf : Ck → CK
  | .non | .bar => .inl ()
  | .crd => .inr (.inl ())
  | .out d p => .inr (.inr (.inl (d, p)))
  | .rsS d h j => .inr (.inr (.inr (0, h, j, d)))
  | .rsR d h j => .inr (.inr (.inr (1, h, j, d)))
  | .agS d h j => .inr (.inr (.inr (2, h, j, d)))
  | .agR d h j => .inr (.inr (.inr (3, h, j, d)))

set_option maxRecDepth 20000 in
theorem csem_keyN : ∀ q : Fin 200, ck (.dma q) ≠ .non → csem (keyOf (ck (.dma q))) = .dma q := by decide

theorem csem_key : ∀ sm : SemLoc sig, ck sm ≠ .non → csem (keyOf (ck sm)) = sm
  | .reg q => by revert q; decide
  | .dma q => csem_keyN q

/-- The cells of the protocol are those of the devices' semaphores. -/
def kcell (x : Dev nD × CK) : GSem nD τ sig := ((x.1 : Thread nD τ), csem x.2)

theorem kcell_inj : Function.Injective kcell := by
  rintro ⟨c, k⟩ ⟨c', k'⟩ h
  have h1 : (c : Thread nD τ) = (c' : Thread nD τ) := congrArg Prod.fst h
  have h2 : csem k = csem k' := congrArg Prod.snd h
  exact Prod.ext (show c = c' from congrArg (fun t : Thread nD τ => t.1) h1) (csem_inj h2)

theorem cells_eq : cells = Finset.univ.map ⟨kcell, kcell_inj⟩ := by
  ext ⟨⟨c, p⟩, sm⟩
  rw [cells, Finset.mem_filter, Finset.mem_map]
  constructor
  · rintro ⟨-, h1, h2⟩
    refine ⟨(c, keyOf (ck sm)), Finset.mem_univ _, ?_⟩
    have h1' : p = .tc := h1
    subst h1'
    show ((c : Thread nD τ), csem (keyOf (ck sm))) = _
    rw [csem_key sm h2]
  · rintro ⟨⟨c', k⟩, -, h⟩
    rw [← h]
    exact ⟨Finset.mem_univ _, rfl, csem_ne k⟩

theorem cells_sep (Φ : GSem nD τ sig → sProp (MM F)) :
    bigSep cells Φ = bigSep (Finset.univ : Finset (Dev nD)) fun c => bigSep (Finset.univ : Finset CK) fun k => Φ ((c : Thread nD τ), csem k) := by
  rw [cells_eq, bigSep_map, bigSep_univ_prod]; rfl

/-- What is held of each lane of a family. -/
def lane3 (f : Fin 4) (Φ : SemLoc sig → sProp (MM F)) : sProp (MM F) :=
  iprop(bl (fun d j => Φ (.dma (fam f d 0 j))) ∗ bl (fun d j => Φ (.dma (fam f d 1 j))) ∗ bl (fun d j => Φ (.dma (fam f d 2 j))))

theorem sep_fin2 (Φ : Fin 2 → sProp (MM F)) : bigSep Finset.univ Φ = iprop(Φ 0 ∗ Φ 1) := by
  rw [bigSep_univ_eq_bigSepL [0, 1] (by decide) (by decide), two_eq]
theorem sep_fin3 (Φ : Fin 3 → sProp (MM F)) : bigSep Finset.univ Φ = iprop(Φ 0 ∗ Φ 1 ∗ Φ 2) := by
  rw [bigSep_univ_eq_bigSepL [0, 1, 2] (by decide) (by decide), three_eq]
theorem sep_fin4 (Φ : Fin 4 → sProp (MM F)) : bigSep Finset.univ Φ = iprop(Φ 0 ∗ Φ 1 ∗ Φ 2 ∗ Φ 3) := by
  rw [bigSep_univ_eq_bigSepL [0, 1, 2, 3] (by decide) (by decide), sepL_cons, sepL_cons, sepL_cons]; rfl
theorem sep_lanes (Φ : Fin 8 × Fin 2 → sProp (MM F)) : bigSep Finset.univ Φ = bl (fun d j => Φ (j, d)) :=
  bigSep_univ_eq_bigSepL lanes (by decide) (by decide) Φ
theorem sep_dps (Φ : Fin 2 × Fin 2 → sProp (MM F)) : bigSep Finset.univ Φ = bigSepL dps Φ :=
  bigSep_univ_eq_bigSepL dps (by decide) (by decide) Φ

theorem sep_fams (Φ : SemLoc sig → sProp (MM F)) :
    bigSep (Finset.univ : Finset (Fin 4 × Fin 3 × Fin 8 × Fin 2)) (fun t => Φ (.dma (fam t.1 t.2.2.2 t.2.1 t.2.2.1)))
      = iprop(lane3 0 Φ ∗ lane3 1 Φ ∗ lane3 2 Φ ∗ lane3 3 Φ) := by
  rw [bigSep_univ_prod, sep_fin4]
  have h : ∀ f : Fin 4, bigSep (Finset.univ : Finset (Fin 3 × Fin 8 × Fin 2)) (fun t => Φ (.dma (fam f t.2.2 t.1 t.2.1))) = lane3 f Φ := by
    intro f
    rw [bigSep_univ_prod, sep_fin3]
    unfold lane3
    rw [sep_lanes, sep_lanes, sep_lanes]
  rw [h, h, h, h]

theorem osem_split (Φ : SemLoc sig → sProp (MM F)) :
    bigSep (Finset.univ : Finset OK) (fun k => Φ (osem k))
      = iprop(Φ (.reg credS) ∗ bigSepL dps (fun t => Φ (.dma (outS t.1 t.2))) ∗ lane3 0 Φ ∗ lane3 1 Φ ∗ lane3 2 Φ ∗ lane3 3 Φ) := by
  rw [bigSep_univ_sum, bigSep_univ_sum]
  have h1 : bigSep (Finset.univ : Finset Unit) (fun a => Φ (osem (.inl a))) = Φ (.reg credS) := by
    rw [bigSep_univ_eq_bigSepL [()] (by decide) (by decide), sepL_cons, sepL_nil]
    exact BI.Entails.antisymm sep_emp.1 sep_emp.2
  have h2 : bigSep (Finset.univ : Finset (Fin 2 × Fin 2)) (fun a => Φ (osem (.inr (.inl a)))) = bigSepL dps (fun t => Φ (.dma (outS t.1 t.2))) := sep_dps _
  have h3 := sep_fams (F := F) Φ
  rw [h1, h2]
  exact congrArg (fun X => iprop(Φ (.reg credS) ∗ bigSepL dps (fun t => Φ (.dma (outS t.1 t.2))) ∗ X)) h3

theorem csem_split (Φ : SemLoc sig → sProp (MM F)) :
    bigSep (Finset.univ : Finset CK) (fun k => Φ (csem k))
      = iprop(Φ (.reg barS) ∗ bigSep (Finset.univ : Finset OK) (fun k => Φ (osem k))) := by
  rw [bigSep_univ_sum]
  have h1 : bigSep (Finset.univ : Finset Unit) (fun a => Φ (csem (.inl a))) = Φ (.reg barS) := by
    rw [bigSep_univ_eq_bigSepL [()] (by decide) (by decide), sepL_cons, sepL_nil]
    exact BI.Entails.antisymm sep_emp.1 sep_emp.2
  rw [h1]; rfl

/-! ## The tokens -/

/-- Which rounds there are: the exchanges by round and neighbour, the copies to the result by stage, row block and
side, the hops by family, hop and lane. -/
abbrev TK : Type := (Fin 3 × Fin 2) ⊕ (Fin 4 × Fin 8 × Fin 2) ⊕ (Fin 4 × Fin 3 × Fin 8 × Fin 2)

def tokS : TK → SemLoc sig × ℕ × Fin 2
  | .inl t => (match t.1 with | 0 => .reg barS | 1 => .reg credS | 2 => .reg credS, match t.1 with | 0 => 0 | 1 => 0 | 2 => 1, t.2)
  | .inr (.inl t) => (.dma (outS t.2.2 (par t.2.1)), rnd t.1 t.2.1, 0)
  | .inr (.inr t) => (.dma (fam t.1 t.2.2.2 t.2.1 t.2.2.1), 0, 0)

def tokC : TK → Ck × ℕ × Fin 2
  | .inl t => (match t.1 with | 0 => .bar | 1 => .crd | 2 => .crd, match t.1 with | 0 => 0 | 1 => 0 | 2 => 1, t.2)
  | .inr (.inl t) => (.out t.2.2 (par t.2.1), rnd t.1 t.2.1, 0)
  | .inr (.inr t) => (famCk t.1 t.2.2.2 t.2.1 t.2.2.1, 0, 0)

theorem tokC_eq (k : TK) : (ck (tokS k).1, (tokS k).2.1, (tokS k).2.2) = tokC k := by
  rcases k with ⟨a, b⟩ | ⟨t, j, d⟩ | ⟨f, h, j, d⟩
  · fin_cases a
    · exact Prod.ext ck_bar rfl
    · exact Prod.ext ck_crd rfl
    · exact Prod.ext ck_crd rfl
  · exact Prod.ext (ck_out _ _) rfl
  · exact Prod.ext (ck_fam _ _ _ _) rfl

theorem tokC_inj : Function.Injective tokC := by
  intro a b h
  rcases a with ⟨a1, a2⟩ | ⟨a1, a2, a3⟩ | ⟨a1, a2, a3, a4⟩ <;> rcases b with ⟨b1, b2⟩ | ⟨b1, b2, b3⟩ | ⟨b1, b2, b3, b4⟩
  · fin_cases a1 <;> fin_cases b1 <;> cases h <;> rfl
  · fin_cases a1 <;> cases h
  · fin_cases a1 <;> fin_cases b1 <;> cases h
  · fin_cases b1 <;> cases h
  · have h1 : Ck.out a3 (par a2) = Ck.out b3 (par b2) := congrArg Prod.fst h
    have h2 : rnd a1 a2 = rnd b1 b2 := congrArg (fun x => x.2.1) h
    injection h1 with h3 h4
    have h5 : a2.val % 2 = b2.val % 2 := congrArg Fin.val h4
    have e1 : a1 = b1 := Fin.ext (by have := a2.isLt; have := b2.isLt; dsimp only [rnd] at h2; omega)
    have e2 : a2 = b2 := Fin.ext (by have := a2.isLt; have := b2.isLt; dsimp only [rnd] at h2; omega)
    rw [e1, e2, h3]
  · fin_cases b1 <;> cases h
  · fin_cases a1 <;> fin_cases b1 <;> cases h
  · fin_cases a1 <;> cases h
  · fin_cases a1 <;> fin_cases b1 <;> cases h <;> rfl

def tok (x : Dev nD × TK) : GSem nD τ sig × ℕ × Fin 2 := (((x.1 : Thread nD τ), (tokS x.2).1), (tokS x.2).2.1, (tokS x.2).2.2)

theorem tok_inj : Function.Injective tok := by
  rintro ⟨c, k⟩ ⟨c', k'⟩ h
  have h1 : c = c' := congrArg (fun x => x.1.1.1) h
  have h2 : tokC k = tokC k' := by
    rw [← tokC_eq, ← tokC_eq]
    exact congrArg (fun x : GSem nD τ sig × ℕ × Fin 2 => (ck x.1.2, x.2.1, x.2.2)) h
  rw [h1, tokC_inj h2]

def toks : Finset (GSem nD τ sig × ℕ × Fin 2) := Finset.univ.map ⟨tok, tok_inj⟩

/-- The tokens of the device's own cells. -/
def ownToks (c : Dev nD) : sProp (MM F) := bigSep (Finset.univ : Finset TK) fun k => dutyTok ER ((c : Thread nD τ), (tokS k).1) (tokS k).2.1 (tokS k).2.2

theorem toks_sep : bigSep toks (fun x => (dutyTok ER x.1 x.2.1 x.2.2 : sProp (MM F))) = bigSep (Finset.univ : Finset (Dev nD)) ownToks := by
  unfold toks ownToks
  rw [bigSep_map, bigSep_univ_prod]; rfl

abbrev regTok (s : Sem sig) (r : ℕ) (d : Fin 2) (c : Dev nD) : sProp (MM F) := dutyTok ER ((c : Thread nD τ), .reg s) r d
abbrev famTok (f : Fin 4) (h : Fin 3) (d : Fin 2) (j : Fin 8) (c : Dev nD) : sProp (MM F) := dutyTok ER (dmaC c (fam f d h j)) 0 0
abbrev outTk (c : Dev nD) (t : Fin 4) (d : Fin 2) (j : Fin 8) : sProp (MM F) := dutyTok ER (outC c d (par j)) (rnd t j) 0

/-- The tokens of a family of lanes, for the cells of the device `g d` on side `d`. -/
def fam3 (f : Fin 4) (g : Fin 2 → Dev nD) : sProp (MM F) :=
  iprop(bl (fun d j => famTok (F := F) f 0 d j (g d)) ∗ bl (fun d j => famTok (F := F) f 1 d j (g d)) ∗ bl (fun d j => famTok (F := F) f 2 d j (g d)))

def out4 (c : Dev nD) : sProp (MM F) :=
  iprop(bl (outTk (F := F) c 0) ∗ bl (outTk (F := F) c 1) ∗ bl (outTk (F := F) c 2) ∗ bl (outTk (F := F) c 3))

theorem ownToks_eq (c : Dev nD) : (ownToks c : sProp (MM F)) =
    iprop(((regTok barS 0 0 c ∗ regTok barS 0 1 c) ∗ (regTok credS 0 0 c ∗ regTok credS 0 1 c) ∗ (regTok credS 1 0 c ∗ regTok credS 1 1 c))
      ∗ out4 c ∗ fam3 0 (fun _ => c) ∗ fam3 1 (fun _ => c) ∗ fam3 2 (fun _ => c) ∗ fam3 3 (fun _ => c)) := by
  unfold ownToks
  rw [bigSep_univ_sum, bigSep_univ_sum]
  have h1 : bigSep (Finset.univ : Finset (Fin 3 × Fin 2)) (fun a => (dutyTok ER ((c : Thread nD τ), (tokS (.inl a)).1) (tokS (.inl a)).2.1 (tokS (.inl a)).2.2 : sProp (MM F)))
      = iprop((regTok barS 0 0 c ∗ regTok barS 0 1 c) ∗ (regTok credS 0 0 c ∗ regTok credS 0 1 c) ∗ (regTok credS 1 0 c ∗ regTok credS 1 1 c)) := by
    rw [bigSep_univ_prod, sep_fin3, sep_fin2, sep_fin2, sep_fin2]; rfl
  have h2 : bigSep (Finset.univ : Finset (Fin 4 × Fin 8 × Fin 2)) (fun a => (dutyTok ER ((c : Thread nD τ), (tokS (.inr (.inl a))).1) (tokS (.inr (.inl a))).2.1 (tokS (.inr (.inl a))).2.2 : sProp (MM F)))
      = out4 c := by
    rw [bigSep_univ_prod, sep_fin4, sep_lanes, sep_lanes, sep_lanes, sep_lanes]; rfl
  have h3 : bigSep (Finset.univ : Finset (Fin 4 × Fin 3 × Fin 8 × Fin 2)) (fun a => (dutyTok ER ((c : Thread nD τ), (tokS (.inr (.inr a))).1) (tokS (.inr (.inr a))).2.1 (tokS (.inr (.inr a))).2.2 : sProp (MM F)))
      = iprop(fam3 0 (fun _ => c) ∗ fam3 1 (fun _ => c) ∗ fam3 2 (fun _ => c) ∗ fam3 3 (fun _ => c)) := by
    exact sep_fams (F := F) (fun sm => dutyTok ER ((c : Thread nD τ), sm) 0 0)
  rw [h1, h2]
  exact congrArg (fun X => iprop(((regTok barS 0 0 c ∗ regTok barS 0 1 c) ∗ (regTok credS 0 0 c ∗ regTok credS 0 1 c) ∗ (regTok credS 1 0 c ∗ regTok credS 1 1 c))
      ∗ out4 c ∗ X)) h3

/-- The tokens a device pays with: those of its neighbours' cells it signals or sends to, and of its own cells. -/
def payToks (c : Dev nD) : sProp (MM F) :=
    iprop(((regTok barS 0 0 (left c) ∗ regTok barS 0 1 (right c)) ∗ (regTok credS 0 0 (left c) ∗ regTok credS 0 1 (right c)) ∗ (regTok credS 1 0 (left c) ∗ regTok credS 1 1 (right c)))
      ∗ out4 c ∗ fam3 0 (fun _ => c) ∗ fam3 1 (fun d => tgt d c) ∗ fam3 2 (fun _ => c) ∗ fam3 3 (fun d => tgt d c))

def ringE (d : Fin 2) : Dev nD ≃ Dev nD := ⟨tgt d, src d, src_tgt d, tgt_src d⟩

theorem ring_at (d : Fin 2) (Φ : Dev nD → sProp (MM F)) : bigSep Finset.univ Φ = bigSep Finset.univ fun c => Φ (tgt d c) :=
  bigSep_univ_equiv (ringE d) Φ
theorem ring_left (Φ : Dev nD → sProp (MM F)) : bigSep Finset.univ Φ = bigSep Finset.univ fun c => Φ (left c) := ring_at 1 Φ
theorem ring_right (Φ : Dev nD → sProp (MM F)) : bigSep Finset.univ Φ = bigSep Finset.univ fun c => Φ (right c) := ring_at 0 Φ

theorem swap_l {T : Type} (l : List T) (Ψ : Dev nD → T → sProp (MM F)) :
    bigSep Finset.univ (fun c => bigSepL l (Ψ c)) = bigSepL l fun t => bigSep Finset.univ fun c => Ψ c t := by
  induction l with
  | nil => simp only [sepL_nil]; exact BI.bigSep_emp_const _
  | cons a l ih => simp only [sepL_cons]; rw [bigSep_sep', ih]

theorem ring_bl (Φ : Fin 2 → Fin 8 → Dev nD → sProp (MM F)) :
    bigSep Finset.univ (fun c => bl fun d j => Φ d j c) = bigSep Finset.univ (fun c => bl fun d j => Φ d j (tgt d c)) := by
  unfold bl
  rw [swap_l, swap_l]
  exact congrArg (bigSepL lanes) (funext fun p => ring_at p.2 _)

theorem ring_fam (f : Fin 4) :
    bigSep Finset.univ (fun c => (fam3 f (fun _ => c) : sProp (MM F))) = bigSep Finset.univ (fun c => fam3 f (fun d => tgt d c)) := by
  unfold fam3
  have h : ∀ h : Fin 3, bigSep Finset.univ (fun c => bl fun d j => famTok (F := F) f h d j c)
      = bigSep Finset.univ (fun c => bl fun d j => famTok (F := F) f h d j (tgt d c)) := fun h => ring_bl _
  rw [bigSep_sep', bigSep_sep', bigSep_sep', bigSep_sep', h, h, h]

theorem toks_around : bigSep (Finset.univ : Finset (Dev nD)) (ownToks (F := F)) = bigSep Finset.univ payToks := by
  rw [show (ownToks : Dev nD → sProp (MM F)) = _ from funext ownToks_eq]
  rw [show (payToks : Dev nD → sProp (MM F)) = _ from funext fun c => by unfold payToks; rfl]
  simp only [bigSep_sep']
  rw [ring_left (regTok barS 0 0), ring_right (regTok barS 0 1), ring_left (regTok credS 0 0), ring_right (regTok credS 0 1),
    ring_left (regTok credS 1 0), ring_right (regTok credS 1 1), ring_fam 1, ring_fam 3]

end Cert.Coll

end
-- ==== Proof.Ghost.lean ====
/-
  What the launch hands out: the cells opened, the tokens dealt round the ring, and the credit for what the neighbours owe.
-/
module

public import proofs.«01_k».proof.Proof.Sems
public import Idealize.ShloMosaic.Lib.Pipeline.Launch

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

def u₀ : UU := (initOf (Pipeline.cells cfgs cellOf_inj) (Pipeline.launchToks cfgs cellOf_inj), initOf cells toks)

/-- What a device is dealt first: its cells' states, its places in them, and its own cells' tokens. -/
def G (c : Dev nD) : sProp (MM F) :=
  iprop((bigSep (Finset.univ : Finset CK) fun k => roundState ER (Rd I) ((c : Thread nD τ), csem k) 0)
    ∗ (bigSep (Finset.univ : Finset CK) fun k => reached ER ((c : Thread nD τ), csem k) 0)
    ∗ (bigSep (Finset.univ : Finset CK) fun k => atPos ER ((c : Thread nD τ), csem k) 0 ∅ 0) ∗ ownToks c)

/-- The cells, open, and where each starts. -/
def recs : sProp (MM F) := iprop(bigSep cells (fun g => cellInv ER (Rd I) (K g) g) ∗ bigSep cells (fun g => reached ER g 0))

instance recs_persistent : BI.Persistent (recs I K) := by unfold recs; infer_instance

/-- What it holds once the cells are open and the tokens dealt. -/
def G' (c : Dev nD) : sProp (MM F) :=
  iprop((∃ K, recs I K) ∗ (bigSep (Finset.univ : Finset CK) fun k => atPos ER ((c : Thread nD τ), csem k) 0 ∅ 0) ∗ payToks c)

theorem fund_ring : BI.own (ER (initOf cells toks)) ⊢ (|==> bigSep Finset.univ (G I) : sProp (MM F)) := by
  iintro HX
  imod (Rounds.fund ER (Rd I) cells toks) $$ HX with ⟨Hst, Hr, Hat, Htok⟩
  imodintro
  ihave Hst' := (Entails.of_eq (cells_sep fun g => roundState ER (Rd I) g 0)) $$ Hst
  ihave Hat' := (Entails.of_eq (cells_sep fun g => atPos ER g 0 ∅ 0)) $$ Hat
  ihave Hr' := (Entails.of_eq (cells_sep fun g => reached ER g 0)) $$ Hr
  ihave Htok' := (Entails.of_eq toks_sep) $$ Htok
  unfold G; simp only [bigSep_sep']
  isplitl [Hst']; · iexact Hst'
  isplitl [Hr']; · iexact Hr'
  isplitl [Hat']; · iexact Hat'
  iexact Htok'

abbrev sems0 (c : Dev nD) : sProp (MM F) := Pipeline.ownSems0 (Ix := Fin 2) (Name := ℕ) (U := UU) (Lvl := ℕ) (Val := Elt F) (τ := τ) osem c

theorem unscopedSems0_eq (c : Dev nD) : (unscopedSems0 c : sProp (MM F)) = semVal (barC c) 0 := by
  unfold unscopedSems0; rw [bigSep_eq_bigSepL_of_eq [SemLoc.reg barS] (by decide) (by decide)]; rfl

theorem sems0_join (c : Dev nD) :
    iprop(sems0 c ∗ unscopedSems0 c) ⊢ (bigSep (Finset.univ : Finset CK) fun k => semVal ((c : Thread nD τ), csem k) 0 : sProp (MM F)) := by
  rw [csem_split (fun sm => semVal ((c : Thread nD τ), sm) 0), unscopedSems0_eq]
  unfold sems0 Pipeline.ownSems0
  iintro ⟨H, HB⟩
  isplitl [HB]; · iexact HB
  iexact H

theorem core_alloc (c : Dev nD) :
    iprop(sems0 c ∗ unscopedSems0 c ∗ G I c)
      ⊢ |={Set.univ}=> iprop((bigSep (Finset.univ : Finset CK) fun k => iprop(∃ κ : ℕ, cellInv ER (Rd I) κ ((c : Thread nD τ), csem k)))
          ∗ (bigSep (Finset.univ : Finset CK) fun k => reached ER ((c : Thread nD τ), csem k) 0)
          ∗ (bigSep (Finset.univ : Finset CK) fun k => atPos ER ((c : Thread nD τ), csem k) 0 ∅ 0) ∗ ownToks c) := by
  unfold G
  iintro ⟨Hos, Hus, Hst, Hr, Hat, Htok⟩
  ihave Hv := (sems0_join (F := F) c) $$ [Hos Hus]
  · isplitl [Hos] <;> iassumption
  imod (show iprop((bigSep (Finset.univ : Finset CK) fun k => semVal ((c : Thread nD τ), csem k) 0)
        ∗ bigSep (Finset.univ : Finset CK) fun k => roundState ER (Rd I) ((c : Thread nD τ), csem k) 0)
      ⊢ (|={Set.univ}=> bigSep (Finset.univ : Finset CK) fun k => iprop(∃ κ : ℕ, cellInv ER (Rd I) κ ((c : Thread nD τ), csem k)) : sProp (MM F)) from by
        rw [← bigSep_sep']
        exact (bigSep_mono fun k _ => (Rounds.body_intro ER (Rd I) ((c : Thread nD τ), csem k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem deal {T : Type} [DecidableEq T] {S : Finset T} {R : sProp (MM F)} [BI.Persistent R] {Φ Ψ : T → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep (Finset.univ : Finset (Dev nD)) fun c => iprop((bigSep (Finset.univ : Finset CK) fun k => iprop(∃ κ : ℕ, cellInv ER (Rd I) κ ((c : Thread nD τ), csem k)))
          ∗ (bigSep (Finset.univ : Finset CK) fun k => reached ER ((c : Thread nD τ), csem k) 0)
          ∗ (bigSep (Finset.univ : Finset CK) fun k => atPos ER ((c : Thread nD τ), csem k) 0 ∅ 0) ∗ ownToks c) : sProp (MM F))
      ⊢ bigSep Finset.univ (G' I) := by
  rw [bigSep_sep', bigSep_sep', bigSep_sep', ← cells_sep (fun g => iprop(∃ κ : ℕ, cellInv ER (Rd I) κ g)), ← cells_sep (fun g => reached ER g 0), toks_around]
  iintro ⟨HI, #HR, Hat, Htok⟩
  ihave HK := (BI.bigSep_exists_pi cells (fun (g : GSem nD τ sig) (κ : ℕ) => (cellInv ER (Rd I) κ g : sProp (MM F)))) $$ HI
  icases HK with ⟨%K, #HI⟩
  iapply (deal (R := recs I K) (Φ := fun c : Dev nD => iprop((bigSep (Finset.univ : Finset CK) fun k => atPos ER ((c : Thread nD τ), csem k) 0 ∅ 0) ∗ payToks c))
    fun (c : Dev nD) _ => (show _ ⊢ G' I c from by
      unfold G'
      iintro ⟨HR, H⟩
      isplitl [HR]; · iexists K; iexact HR
      iexact H))
  isplitr
  · unfold recs; isplitl; · iexact HI
    iexact HR
  · rw [bigSep_sep']
    isplitl [Hat]; · iexact Hat
    iexact Htok

theorem glob : (bigSep Finset.univ fun c => iprop(sems0 c ∗ unscopedSems0 c ∗ G I c) : sProp (MM F)) ⊢ |={Set.univ}=> bigSep Finset.univ (G' I) :=
  ((bigSep_mono fun c _ => core_alloc I c).trans (bigSep_fupd _ _)).trans (BI.fupd_mono (regroup I))

/-! ## The credit -/

def O₀ (c : Dev nD) : CellTallies nD τ sig (Fin 2) := owedL (o0 c)

abbrev one (e : Dev nD × SemLoc sig × Fin 2 × ℕ) : CellTallies nD τ sig (Fin 2) := tallyAt ((e.1 : Thread nD τ), e.2.1) e.2.2.1 e.2.2.2

theorem tgt_eq_iff (δ : Fin 2) (d c : Dev nD) : tgt δ d = c ↔ d = src δ c :=
  ⟨fun h => by rw [← h, src_tgt], fun h => by rw [h, tgt_src]⟩

theorem launch_one (δ : Fin 2) (sm : SemLoc sig) (i : Fin 2) (n : ℕ) (c : Dev nD) :
    (Pipeline.launchCred (fun d => one (tgt δ d, sm, i, n)) c : sProp (MM F)) ⊢ cred (tallyAt ((c : Thread nD τ), sm) i n) := by
  refine (Pipeline.launchCred_elim _ c sm).trans (Entails.of_eq (congrArg cred ?_))
  unfold tallyAt
  refine congrArg _ (Finsupp.ext fun u => ?_)
  rw [Pipeline.launchCredit_owing, Finset.sum_eq_single (src δ c)]
  · dsimp only [one]
    rw [tallyAt_apply, tgt_src, Finsupp.single_apply]
    by_cases h : i = u
    · rw [if_pos h, if_pos ⟨rfl, h.symm⟩]
    · rw [if_neg h, if_neg (fun h' => h h'.2.symm)]
  · intro d _ hd
    dsimp only [one]
    rw [tallyAt_apply, if_neg]
    rintro ⟨h, -⟩
    exact hd ((tgt_eq_iff δ d c).mp (congrArg (fun g : GSem nD τ sig => g.1.1) h).symm)
  · intro h; exact absurd (Finset.mem_univ _) h

theorem swap3 (A B C : sProp (MM F)) : iprop((A ∗ B) ∗ C) = iprop(A ∗ C ∗ B) := by
  have h1 : iprop((A ∗ B) ∗ C) ⊢ iprop(A ∗ C ∗ B) := by
    iintro ⟨⟨A, B⟩, C⟩
    isplitl [A]; · iexact A
    isplitl [C] <;> iassumption
  have h2 : iprop(A ∗ C ∗ B) ⊢ iprop((A ∗ B) ∗ C) := by
    iintro ⟨A, C, B⟩
    isplitl [A B]; · isplitl [A] <;> iassumption
    iexact C
  exact BI.Entails.antisymm h1 h2

theorem launch_list {T : Type} (l : List T) (e : T → Dev nD → Dev nD × SemLoc sig × Fin 2 × ℕ) (b : Dev nD → Ob) (c : Dev nD) :
    (Pipeline.launchCred (fun d => owedL (l.map (fun t => e t d) ++ b d)) c : sProp (MM F))
      = iprop(Pipeline.launchCred (fun d => owedL (b d)) c ∗ bigSepL l fun t => Pipeline.launchCred (fun d => one (e t d)) c) := by
  induction l with
  | nil => exact BI.Entails.antisymm sep_emp.2 sep_emp.1
  | cons t l ih =>
    have h : (fun d => owedL ((t :: l).map (fun t => e t d) ++ b d)) = fun d => owedL (l.map (fun t => e t d) ++ b d) + one (e t d) := rfl
    rw [h, Pipeline.launchCred_add, ih, sepL_cons]
    exact swap3 _ _ _

theorem launch_rs (h : Fin 3) (b : Dev nD → Ob) (c : Dev nD) :
    (Pipeline.launchCred (fun d => owedL (lanes.map (eRS h d) ++ b d)) c : sProp (MM F))
      ⊢ iprop(Pipeline.launchCred (fun d => owedL (b d)) c ∗ bl fun d j => cred (tallyAt (dmaC c (rsR d h j)) 0 N)) := by
  refine (Entails.of_eq (launch_list lanes (fun p d => eRS h d p) b c)).trans (BI.sep_mono (BI.Entails.refl _) ?_)
  exact bigSepL_mono _ _ _ fun p _ => launch_one p.2 _ 0 N c

theorem launch_ag (h : Fin 3) (b : Dev nD → Ob) (c : Dev nD) :
    (Pipeline.launchCred (fun d => owedL (lanes.map (eAG h d) ++ b d)) c : sProp (MM F))
      ⊢ iprop(Pipeline.launchCred (fun d => owedL (b d)) c ∗ bl fun d j => cred (tallyAt (dmaC c (agR d h j)) 0 N)) := by
  refine (Entails.of_eq (launch_list lanes (fun p d => eAG h d p) b c)).trans (BI.sep_mono (BI.Entails.refl _) ?_)
  exact bigSepL_mono _ _ _ fun p _ => launch_one p.2 _ 0 N c

theorem launch_rows (δ : Fin 2) (b : Dev nD → Ob) (c : Dev nD) :
    (Pipeline.launchCred (fun d => owedL (rows.map (fun j => eRS 0 d (j, δ)) ++ b d)) c : sProp (MM F))
      ⊢ iprop(Pipeline.launchCred (fun d => owedL (b d)) c ∗ bigSepL rows fun j => cred (tallyAt (dmaC c (rsR δ 0 j)) 0 N)) := by
  refine (Entails.of_eq (launch_list rows (fun j d => eRS 0 d (j, δ)) b c)).trans (BI.sep_mono (BI.Entails.refl _) ?_)
  exact bigSepL_mono _ _ _ fun j _ => launch_one δ _ 0 N c

theorem launch_x (s : Sem sig) (i : Fin 2) (b : Dev nD → Ob) (c : Dev nD) :
    (Pipeline.launchCred (fun d => owedL (eX s i d ++ b d)) c : sProp (MM F))
      ⊢ iprop(Pipeline.launchCred (fun d => owedL (b d)) c ∗ cred (tallyAt ((c : Thread nD τ), .reg s) i 2)) := by
  have h0 : (Pipeline.launchCred (fun d => owedL (eX s i d ++ b d)) c : sProp (MM F))
      = iprop((Pipeline.launchCred (fun d => owedL (b d)) c ∗ Pipeline.launchCred (fun d => one (tgt 0 d, .reg s, i, 1)) c)
          ∗ Pipeline.launchCred (fun d => one (tgt 1 d, .reg s, i, 1)) c) := by
    have h : (fun d => owedL (eX s i d ++ b d)) = fun d => (owedL (b d) + one (tgt 0 d, .reg s, i, 1)) + one (tgt 1 d, .reg s, i, 1) := rfl
    rw [h, Pipeline.launchCred_add, Pipeline.launchCred_add]
  rw [h0, ← tallyAt_add ((c : Thread nD τ), .reg s) i 1 1]
  iintro ⟨⟨A, B⟩, C⟩
  isplitl [A]; · iexact A
  iapply (cred_add _ _).2
  isplitl [B]
  · iapply (launch_one 0 (.reg s) i 1 c); iexact B
  · iapply (launch_one 1 (.reg s) i 1 c); iexact C

/-- All the credit a device starts with. -/
def allCred (c : Dev nD) : sProp (MM F) :=
  iprop(cred (tallyAt (barC c) 0 2) ∗ cred (tallyAt (creC c) 0 2) ∗ cred (tallyAt (creC c) 1 2)
    ∗ (bl (fun d j => cred (tallyAt (dmaC c (rsR d 0 j)) 0 N)) ∗ bl (fun d j => cred (tallyAt (dmaC c (rsR d 1 j)) 0 N)) ∗ bl (fun d j => cred (tallyAt (dmaC c (rsR d 2 j)) 0 N)))
    ∗ (bl (fun d j => cred (tallyAt (dmaC c (agR d 0 j)) 0 N)) ∗ bl (fun d j => cred (tallyAt (dmaC c (agR d 1 j)) 0 N)) ∗ bl (fun d j => cred (tallyAt (dmaC c (agR d 2 j)) 0 N))))

theorem creds (c : Dev nD) : (Pipeline.launchCred O₀ c : sProp (MM F)) ⊢ allCred c := by
  unfold allCred
  change (Pipeline.launchCred (fun d => owedL (eX barS 0 d ++ o1 d)) c : sProp (MM F)) ⊢ _
  iintro H
  ihave H := (show _ ⊢ _ from launch_x (F := F) barS 0 o1 c) $$ H
  icases H with ⟨H, HB⟩
  ihave H := (show _ ⊢ _ from launch_rows (F := F) 0 o2 c) $$ H
  icases H with ⟨H, HR0⟩
  ihave H := (show _ ⊢ _ from launch_rows (F := F) 1 o3 c) $$ H
  icases H with ⟨H, HR1⟩
  ihave H := (show _ ⊢ _ from launch_x (F := F) credS 0 o4 c) $$ H
  icases H with ⟨H, HC0⟩
  ihave H := (show _ ⊢ _ from launch_rs (F := F) 1 o5 c) $$ H
  icases H with ⟨H, HS1⟩
  ihave H := (show _ ⊢ _ from launch_x (F := F) credS 1 o6 c) $$ H
  icases H with ⟨H, HC1⟩
  ihave H := (show _ ⊢ _ from launch_rs (F := F) 2 o7 c) $$ H
  icases H with ⟨H, HS2⟩
  ihave H := (show _ ⊢ _ from launch_ag (F := F) 0 o8 c) $$ H
  icases H with ⟨H, HA0⟩
  ihave H := (show _ ⊢ _ from launch_ag (F := F) 1 o9 c) $$ H
  icases H with ⟨H, HA1⟩
  ihave H := (show _ ⊢ _ from launch_ag (F := F) 2 (fun _ => []) c) $$ H
  icases H with ⟨-, HA2⟩
  isplitl [HB]; · iexact HB
  isplitl [HC0]; · iexact HC0
  isplitl [HC1]; · iexact HC1
  isplitl [HR0 HR1 HS1 HS2]
  · isplitl [HR0 HR1]
    · iapply (bl_join (fun d j => cred (tallyAt (dmaC c (rsR d 0 j)) 0 N)))
      isplitl [HR0] <;> iassumption
    isplitl [HS1] <;> iassumption
  isplitl [HA0]; · iexact HA0
  isplitl [HA1] <;> iassumption

end Cert.Coll

end
-- ==== Proof.Body.lean ====
/-
  The whole body: what each part needs out of what the launch hands out, and what the device hands back.
-/
module

public import proofs.«01_k».proof.Proof.Ghost

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F) (K : GSem nD τ sig → ℕ)

/-! ## What each part needs -/

abbrev atZ (q : DmaSem sig) (c : Dev nD) : sProp (MM F) := atPos ER (dmaC c q) 0 ∅ 0

def inA (c : Dev nD) : sProp (MM F) :=
  iprop((exTok c barS 0 0 ∗ atPos ER (barC c) 0 ∅ 0) ∗ (exTok c credS 0 0 ∗ atPos ER (creC c) 0 ∅ 0)
    ∗ bl (fun d j => lnAny (comm d) 0 j c) ∗ bl (fun d j => lent c d j) ∗ bl (fun d j => lnAny epi d j c)
    ∗ bl (fun d j => rsTok d 0 j c) ∗ bl (fun d j => atPos ER (dmaC c (rsS d 0 j)) 0 ∅ 0))

def inB (c : Dev nD) : sProp (MM F) :=
  iprop(exTok c credS 1 1 ∗ bl (fun d j => gotTok (rsR d 0 j) c) ∗ bl (fun d j => gotTok (rsR d 1 j) c)
    ∗ bl (fun d j => rsTok d 1 j c) ∗ bl (fun d j => rsTok d 2 j c) ∗ bl (fun d j => atPos ER (dmaC c (rsS d 1 j)) 0 ∅ 0))

def inC (c : Dev nD) : sProp (MM F) :=
  iprop(outS4 I c (kk 0 lanes) ∗ (bl (fun d j => gotTok (rsR d 2 j) c) ∗ bl (fun d j => atPos ER (dmaC c (rsS d 2 j)) 0 ∅ 0))
    ∗ (bl (fun d j => agTok d 0 j c) ∗ bl (fun d j => agTok d 1 j c) ∗ bl (fun d j => agTok d 2 j c))
    ∗ (bl (fun d j => gotTok (agR d 0 j) c) ∗ bl (fun d j => gotTok (agR d 1 j) c) ∗ bl (fun d j => gotTok (agR d 2 j) c))
    ∗ (bl (fun d j => atPos ER (dmaC c (agS d 0 j)) 0 ∅ 0) ∗ bl (fun d j => atPos ER (dmaC c (agS d 1 j)) 0 ∅ 0)
      ∗ bl (fun d j => atPos ER (dmaC c (agS d 2 j)) 0 ∅ 0))
    ∗ (bl (fun d j => outTok c d 0 j) ∗ bl (fun d j => outTok c d (0 : Fin 3).succ j) ∗ bl (fun d j => outTok c d (1 : Fin 3).succ j)
      ∗ bl (fun d j => outTok c d (2 : Fin 3).succ j)))

/-- The result, in its blocks, at any contents. -/
def outAny4 (c : Dev nD) : sProp (MM F) :=
  iprop(bl (fun d j => outAny (F := F) c d 0 j) ∗ bl (fun d j => outAny (F := F) c d 1 j) ∗ bl (fun d j => outAny (F := F) c d 2 j)
        ∗ bl (fun d j => outAny (F := F) c d 3 j))

/-- The scratch buffers at any contents. -/
def scratch (c : Dev nD) : sProp (MM F) :=
  iprop(anyB c cc0_scratch0 ∗ anyB c cc0_scratch1 ∗ anyB c cc0_scratch2 ∗ anyB c cc0_scratch3 ∗ anyB c cc0_scratch4 ∗ anyB c cc0_scratch5)

abbrev atAll (c : Dev nD) : sProp (MM F) := bigSep (Finset.univ : Finset CK) fun k => atPos ER ((c : Thread nD τ), csem k) 0 ∅ 0

theorem atAll_eq (c : Dev nD) : (atAll c : sProp (MM F)) =
    iprop(atPos ER (barC c) 0 ∅ 0 ∗ atPos ER (creC c) 0 ∅ 0 ∗ bigSepL dps (fun t => atPos ER (outC c t.1 t.2) 0 ∅ 0)
      ∗ (bl (fun d j => atZ (rsS d 0 j) c) ∗ bl (fun d j => atZ (rsS d 1 j) c) ∗ bl (fun d j => atZ (rsS d 2 j) c))
      ∗ (bl (fun d j => atZ (rsR d 0 j) c) ∗ bl (fun d j => atZ (rsR d 1 j) c) ∗ bl (fun d j => atZ (rsR d 2 j) c))
      ∗ (bl (fun d j => atZ (agS d 0 j) c) ∗ bl (fun d j => atZ (agS d 1 j) c) ∗ bl (fun d j => atZ (agS d 2 j) c))
      ∗ (bl (fun d j => atZ (agR d 0 j) c) ∗ bl (fun d j => atZ (agR d 1 j) c) ∗ bl (fun d j => atZ (agR d 2 j) c))) :=
  (csem_split fun sm => (atPos ER ((c : Thread nD τ), sm) 0 ∅ 0 : sProp (MM F))).trans
    (congrArg (fun X => iprop(atPos ER (barC c) 0 ∅ 0 ∗ X)) (osem_split fun sm => (atPos ER ((c : Thread nD τ), sm) 0 ∅ 0 : sProp (MM F))))

abbrev tkS (q : DmaSem sig) (c : Dev nD) : sProp (MM F) := dutyTok ER (dmaC c q) 0 0

theorem payToks_eq (c : Dev nD) : (payToks c : sProp (MM F)) =
    iprop(((regTok barS 0 0 (left c) ∗ regTok barS 0 1 (right c)) ∗ (regTok credS 0 0 (left c) ∗ regTok credS 0 1 (right c)) ∗ (regTok credS 1 0 (left c) ∗ regTok credS 1 1 (right c)))
      ∗ (bl (outTk (F := F) c 0) ∗ bl (outTk (F := F) c 1) ∗ bl (outTk (F := F) c 2) ∗ bl (outTk (F := F) c 3))
      ∗ (bl (fun d j => tkS (rsS d 0 j) c) ∗ bl (fun d j => tkS (rsS d 1 j) c) ∗ bl (fun d j => tkS (rsS d 2 j) c))
      ∗ (bl (fun d j => tkS (rsR d 0 j) (tgt d c)) ∗ bl (fun d j => tkS (rsR d 1 j) (tgt d c)) ∗ bl (fun d j => tkS (rsR d 2 j) (tgt d c)))
      ∗ (bl (fun d j => tkS (agS d 0 j) c) ∗ bl (fun d j => tkS (agS d 1 j) c) ∗ bl (fun d j => tkS (agS d 2 j) c))
      ∗ (bl (fun d j => tkS (agR d 0 j) (tgt d c)) ∗ bl (fun d j => tkS (agR d 1 j) (tgt d c)) ∗ bl (fun d j => tkS (agR d 2 j) (tgt d c)))) := rfl

theorem pair (A B : Fin 2 → Fin 8 → sProp (MM F)) : iprop(bl A ∗ bl B) ⊢ bl fun d j => iprop(A d j ∗ B d j) :=
  bl2 lanes (fun p => A p.2 p.1) (fun p => B p.2 p.1)
theorem quad (A B C D : Fin 2 → Fin 8 → sProp (MM F)) : iprop(bl A ∗ bl B ∗ bl C ∗ bl D) ⊢ bl fun d j => iprop(A d j ∗ B d j ∗ C d j ∗ D d j) :=
  bl4 lanes (fun p => A p.2 p.1) (fun p => B p.2 p.1) (fun p => C p.2 p.1) (fun p => D p.2 p.1)

theorem stage_start (c : Dev nD) :
    iprop(bigSepL dps (fun t => fsAny (F := F) c t.1 t.2) ∗ bigSepL dps (fun t => atPos ER (outC c t.1 t.2) 0 ∅ 0)) ⊢ outS4 I c (kk 0 lanes) := by
  have h : ∀ d p : Fin 2, kk 0 lanes d p = 0 := by decide
  rw [four_eq, four_eq]
  unfold outS4
  rw [h, h, h, h]
  unfold outSt
  iintro ⟨⟨A1, A2, A3, A4⟩, ⟨B1, B2, B3, B4⟩⟩
  isplitl [A1 B1]; · isplitl [A1] <;> iassumption
  isplitl [A2 B2]; · isplitl [A2] <;> iassumption
  isplitl [A3 B3]; · isplitl [A3] <;> iassumption
  isplitl [A4] <;> iassumption

theorem split_start (c : Dev nD) :
    iprop(allCred c ∗ atAll c ∗ payToks c ∗ outAny4 c ∗ scratch c) ⊢ iprop(inA c ∗ inB c ∗ inC I c) := by
  rw [atAll_eq, payToks_eq]
  unfold allCred outAny4 scratch
  iintro ⟨⟨CB, C0, C1, ⟨CR0, CR1, CR2⟩, ⟨CA0, CA1, CA2⟩⟩, ⟨PB, PC, PO, ⟨PS0, PS1, PS2⟩, ⟨PR0, PR1, PR2⟩, ⟨QS0, QS1, QS2⟩, ⟨QR0, QR1, QR2⟩⟩,
    ⟨⟨⟨TB0, TB1⟩, ⟨TC0, TC1⟩, ⟨TD0, TD1⟩⟩, ⟨TO0, TO1, TO2, TO3⟩, ⟨TS0, TS1, TS2⟩, ⟨TR0, TR1, TR2⟩, ⟨US0, US1, US2⟩, ⟨UR0, UR1, UR2⟩⟩,
    ⟨O0, O1, O2, O3⟩, ⟨B0, B1, B2, B3, B4, B5⟩⟩
  ihave HC := (comm_split (F := F) c) $$ [B0 B1]
  · isplitl [B0] <;> iassumption
  icases HC with ⟨HC0, HC1⟩
  ihave HE := (epi_split (F := F) c) $$ B2
  ihave HG := (gath_split (F := F) c) $$ [B3 B4]
  · isplitl [B3] <;> iassumption
  icases HG with ⟨HG0, HG1, HG2⟩
  ihave HF := (fs_split (F := F) c) $$ B5
  unfold inA inB inC
  isplitl [CB C0 PB PC TB0 TB1 TC0 TC1 HC0 HC1 HG0 HG1 HG2 HE TS0 TR0 PS0]
  · isplitl [CB PB TB0 TB1]
    · isplitl [CB TB0 TB1]
      · isplitl [CB]; · iexact CB
        isplitl [TB0] <;> iassumption
      iexact PB
    isplitl [C0 PC TC0 TC1]
    · isplitl [C0 TC0 TC1]
      · isplitl [C0]; · iexact C0
        isplitl [TC0] <;> iassumption
      iexact PC
    isplitl [HC0]; · iexact HC0
    isplitl [HC1 HG0 HG1 HG2]
    · iapply (quad (fun d j => lnAny (F := F) (comm d) 1 j c) (fun d j => lnAny (F := F) (gath d) 0 j c) (fun d j => lnAny (F := F) (gath d) 1 j c)
        (fun d j => lnAny (F := F) (gath d) 2 j c))
      isplitl [HC1]; · iexact HC1
      isplitl [HG0]; · iexact HG0
      isplitl [HG1]; · iexact HG1
      iexact HG2
    isplitl [HE]; · iexact HE
    isplitl [TS0 TR0]
    · iapply (pair (fun d j => tkS (F := F) (rsS d 0 j) c) (fun d j => tkS (F := F) (rsR d 0 j) (tgt d c)))
      isplitl [TS0]; · iexact TS0
      iexact TR0
    iexact PS0
  isplitl [C1 TD0 TD1 CR0 CR1 PR0 PR1 TS1 TR1 TS2 TR2 PS1]
  · isplitl [C1 TD0 TD1]
    · isplitl [C1]; · iexact C1
      isplitl [TD0] <;> iassumption
    isplitl [CR0 PR0]
    · iapply (pair (fun d j => cred (tallyAt (dmaC c (rsR d 0 j)) 0 N)) (fun d j => atZ (F := F) (rsR d 0 j) c))
      isplitl [CR0]; · iexact CR0
      iexact PR0
    isplitl [CR1 PR1]
    · iapply (pair (fun d j => cred (tallyAt (dmaC c (rsR d 1 j)) 0 N)) (fun d j => atZ (F := F) (rsR d 1 j) c))
      isplitl [CR1]; · iexact CR1
      iexact PR1
    isplitl [TS1 TR1]
    · iapply (pair (fun d j => tkS (F := F) (rsS d 1 j) c) (fun d j => tkS (F := F) (rsR d 1 j) (tgt d c)))
      isplitl [TS1]; · iexact TS1
      iexact TR1
    isplitl [TS2 TR2]
    · iapply (pair (fun d j => tkS (F := F) (rsS d 2 j) c) (fun d j => tkS (F := F) (rsR d 2 j) (tgt d c)))
      isplitl [TS2]; · iexact TS2
      iexact TR2
    iexact PS1
  isplitl [HF PO]
  · iapply (stage_start I c)
    isplitl [HF]; · iexact HF
    iexact PO
  isplitl [CR2 PR2 PS2]
  · isplitl [CR2 PR2]
    · iapply (pair (fun d j => cred (tallyAt (dmaC c (rsR d 2 j)) 0 N)) (fun d j => atZ (F := F) (rsR d 2 j) c))
      isplitl [CR2]; · iexact CR2
      iexact PR2
    iexact PS2
  isplitl [US0 US1 US2 UR0 UR1 UR2]
  · isplitl [US0 UR0]
    · iapply (pair (fun d j => tkS (F := F) (agS d 0 j) c) (fun d j => tkS (F := F) (agR d 0 j) (tgt d c)))
      isplitl [US0]; · iexact US0
      iexact UR0
    isplitl [US1 UR1]
    · iapply (pair (fun d j => tkS (F := F) (agS d 1 j) c) (fun d j => tkS (F := F) (agR d 1 j) (tgt d c)))
      isplitl [US1]; · iexact US1
      iexact UR1
    iapply (pair (fun d j => tkS (F := F) (agS d 2 j) c) (fun d j => tkS (F := F) (agR d 2 j) (tgt d c)))
    isplitl [US2]; · iexact US2
    iexact UR2
  isplitl [CA0 CA1 CA2 QR0 QR1 QR2]
  · isplitl [CA0 QR0]
    · iapply (pair (fun d j => cred (tallyAt (dmaC c (agR d 0 j)) 0 N)) (fun d j => atZ (F := F) (agR d 0 j) c))
      isplitl [CA0]; · iexact CA0
      iexact QR0
    isplitl [CA1 QR1]
    · iapply (pair (fun d j => cred (tallyAt (dmaC c (agR d 1 j)) 0 N)) (fun d j => atZ (F := F) (agR d 1 j) c))
      isplitl [CA1]; · iexact CA1
      iexact QR1
    iapply (pair (fun d j => cred (tallyAt (dmaC c (agR d 2 j)) 0 N)) (fun d j => atZ (F := F) (agR d 2 j) c))
    isplitl [CA2]; · iexact CA2
    iexact QR2
  isplitl [QS0 QS1 QS2]
  · isplitl [QS0]; · iexact QS0
    isplitl [QS1] <;> iassumption
  isplitl [TO0 O0]
  · iapply (pair (fun d j => outTk (F := F) c 0 d j) (fun d j => outAny (F := F) c d 0 j))
    isplitl [TO0]; · iexact TO0
    iexact O0
  isplitl [TO1 O1]
  · iapply (pair (fun d j => outTk (F := F) c 1 d j) (fun d j => outAny (F := F) c d 1 j))
    isplitl [TO1]; · iexact TO1
    iexact O1
  isplitl [TO2 O2]
  · iapply (pair (fun d j => outTk (F := F) c 2 d j) (fun d j => outAny (F := F) c d 2 j))
    isplitl [TO2]; · iexact TO2
    iexact O2
  iapply (pair (fun d j => outTk (F := F) c 3 d j) (fun d j => outAny (F := F) c d 3 j))
  isplitl [TO3]; · iexact TO3
  iexact O3

/-! ## The cells, closed -/

theorem close_cell (c : Dev nD) (sm : SemLoc sig) (R : ℕ) (hn : ck sm ≠ .non) (hR : ∀ r, R ≤ r → dutCk r (ck sm) = ∅) :
    iprop(Ctx I K ∗ atPos ER ((c : Thread nD τ), sm) R ∅ 0) ⊢ |={Set.univ}=> semVal ((c : Thread nD τ), sm) 0 := by
  iintro ⟨#HC, Hat⟩
  iapply (Rounds.cell_close ER (Rd I) (Set.mem_univ (K ((c : Thread nD τ), sm))) (fun h => h) (R := R) (g := ((c : Thread nD τ), sm))
    (fun r h => by rw [Rd_duties]; exact hR r h))
  isplitr; · iapply (Ctx_inv I K c sm hn); iexact HC
  iexact Hat

theorem close_l {T : Type} (l : List T) (R : sProp (MM F)) [BI.Persistent R] (A B : T → sProp (MM F)) (h : ∀ t, iprop(R ∗ A t) ⊢ |={Set.univ}=> B t) :
    iprop(R ∗ bigSepL l A) ⊢ |={Set.univ}=> bigSepL l B := by
  induction l with
  | nil =>
    simp only [sepL_nil]
    iintro -
    imodintro; iempintro
  | cons t l ih =>
    simp only [sepL_cons]
    iintro ⟨#HR, Ht, Hl⟩
    imod (h t) $$ [Ht] with Ht
    · isplitr; · iexact HR
      iexact Ht
    imod ih $$ [Hl] with Hl
    · isplitr; · iexact HR
      iexact Hl
    imodintro
    isplitl [Ht] <;> iassumption

theorem fam_end (f : Fin 4) (d : Fin 2) (h : Fin 3) (j : Fin 8) (r : ℕ) (hr : 1 ≤ r) : dutCk r (ck (.dma (fam f d h j))) = ∅ := by
  rw [ck_fam]
  fin_cases f <;> exact if_neg (by omega)

theorem close_bl (c : Dev nD) (f : Fin 4) (h : Fin 3) :
    iprop(Ctx I K ∗ bl (fun d j => doneAt (F := F) (fam f d h j) c)) ⊢ |={Set.univ}=> bl (fun d j => semVal (dmaC c (fam f d h j)) 0) :=
  close_l lanes (Ctx I K) (fun p => doneAt (F := F) (fam f p.2 h p.1) c) (fun p => semVal (dmaC c (fam f p.2 h p.1)) 0) fun p =>
    close_cell I K c _ 1 (by rw [ck_fam]; exact (ockO_ne (.inr (.inr (f, h, p.1, p.2)))).1) (fam_end f p.2 h p.1)

theorem close_fam (c : Dev nD) (f : Fin 4) :
    iprop(Ctx I K ∗ bl (fun d j => doneAt (F := F) (fam f d 0 j) c) ∗ bl (fun d j => doneAt (F := F) (fam f d 1 j) c) ∗ bl (fun d j => doneAt (F := F) (fam f d 2 j) c))
      ⊢ |={Set.univ}=> lane3 f (fun sm => semVal ((c : Thread nD τ), sm) 0) := by
  unfold lane3
  iintro ⟨#HC, H0, H1, H2⟩
  imod (close_bl I K c f 0) $$ [H0] with H0
  · isplitr; · iexact HC
    iexact H0
  imod (close_bl I K c f 1) $$ [H1] with H1
  · isplitr; · iexact HC
    iexact H1
  imod (close_bl I K c f 2) $$ [H2] with H2
  · isplitr; · iexact HC
    iexact H2
  imodintro
  isplitl [H0]; · iexact H0
  isplitl [H1] <;> iassumption

/-- The blocks of the result, at what the kernel computes. -/
def res (c : Dev nD) : sProp (MM F) := bigSepL dps fun t => bigSep (Finset.range 16) (outK I c t.1 t.2)

theorem close_out (c : Dev nD) :
    iprop(Ctx I K ∗ outEnd4 I c) ⊢ |={Set.univ}=> iprop(bigSepL dps (fun t => semVal ((c : Thread nD τ), .dma (outS t.1 t.2)) 0)
      ∗ bigSepL dps (fun t => fsAny (F := F) c t.1 t.2) ∗ res I c) := by
  unfold res
  have h : ∀ t : Fin 2 × Fin 2, iprop(Ctx I K ∗ outEnd I c t.1 t.2 16)
      ⊢ |={Set.univ}=> iprop(semVal ((c : Thread nD τ), .dma (outS t.1 t.2)) 0 ∗ fsAny (F := F) c t.1 t.2 ∗ bigSep (Finset.range 16) (outK I c t.1 t.2)) := by
    intro t
    iintro ⟨#HC, HF, Hat, -, HK⟩
    imod (close_cell I K c (.dma (outS t.1 t.2)) 16 (by rw [ck_out]; nofun) (fun r hr => by rw [ck_out]; exact if_neg (by omega))) $$ [Hat] with Hs
    · isplitr; · iexact HC
      iexact Hat
    imodintro
    isplitl [Hs]; · iexact Hs
    isplitl [HF]; · iexact HF
    iexact HK
  have h' := close_l dps (Ctx I K) (fun t => outEnd I c t.1 t.2 16) _ h
  have h3 := ub3 dps (fun t => semVal ((c : Thread nD τ), .dma (outS t.1 t.2)) 0) (fun t => fsAny (F := F) c t.1 t.2)
    (fun t => bigSep (Finset.range 16) (outK I c t.1 t.2))
  refine BIBase.Entails.trans ?_ (h'.trans (BI.fupd_mono h3))
  rw [four_eq]

theorem close_lanes (c : Dev nD) :
    iprop(Ctx I K ∗ (atPos ER (barC c) 1 ∅ 0 ∗ atPos ER (creC c) 2 ∅ 0) ∗ bl (fun d j => doneAt (F := F) (rsS d 0 j) c) ∗ bl (fun d j => doneAt (F := F) (rsS d 1 j) c)
        ∗ bl (fun d j => doneAt (F := F) (rsR d 0 j) c) ∗ bl (fun d j => doneAt (F := F) (rsR d 1 j) c)
        ∗ bl (fun d j => semEnd (F := F) c d j) ∗ bl (fun d j => semEnd' (F := F) c d j))
      ⊢ |={Set.univ}=> iprop((semVal (barC c) 0 ∗ semVal (creC c) 0)
        ∗ lane3 0 (fun sm => semVal ((c : Thread nD τ), sm) 0) ∗ lane3 1 (fun sm => semVal ((c : Thread nD τ), sm) 0)
        ∗ lane3 2 (fun sm => semVal ((c : Thread nD τ), sm) 0) ∗ lane3 3 (fun sm => semVal ((c : Thread nD τ), sm) 0)) := by
  iintro ⟨#HC, ⟨Hb, Hc⟩, HS0, HS1, HR0, HR1, HE, HE'⟩
  ihave HE := (ub4 lanes (fun p => doneAt (F := F) (rsS p.2 2 p.1) c) (fun p => doneAt (F := F) (rsR p.2 2 p.1) c) (fun p => doneAt (F := F) (agS p.2 0 p.1) c)
    (fun p => iprop(doneAt (F := F) (agS p.2 1 p.1) c ∗ doneAt (F := F) (agS p.2 2 p.1) c))) $$ HE
  icases HE with ⟨HS2, HR2, HA0, HE⟩
  ihave HE := (ub2 lanes (fun p => doneAt (F := F) (agS p.2 1 p.1) c) (fun p => doneAt (F := F) (agS p.2 2 p.1) c)) $$ HE
  icases HE with ⟨HA1, HA2⟩
  ihave HE' := (ub3 lanes (fun p => doneAt (F := F) (agR p.2 0 p.1) c) (fun p => doneAt (F := F) (agR p.2 1 p.1) c) (fun p => doneAt (F := F) (agR p.2 2 p.1) c)) $$ HE'
  icases HE' with ⟨HB0, HB1, HB2⟩
  imod (close_cell I K c (.reg barS) 1 (by rw [ck_bar]; nofun) (fun r hr => by rw [ck_bar]; exact if_neg (by omega))) $$ [Hb] with Hb
  · isplitr; · iexact HC
    iexact Hb
  imod (close_cell I K c (.reg credS) 2 (by rw [ck_crd]; nofun) (fun r hr => by rw [ck_crd]; exact if_neg (by omega))) $$ [Hc] with Hc
  · isplitr; · iexact HC
    iexact Hc
  imod (close_fam I K c 0) $$ [HS0 HS1 HS2] with HS
  · isplitr; · iexact HC
    isplitl [HS0]; · iexact HS0
    isplitl [HS1]; · iexact HS1
    iexact HS2
  imod (close_fam I K c 1) $$ [HR0 HR1 HR2] with HR
  · isplitr; · iexact HC
    isplitl [HR0]; · iexact HR0
    isplitl [HR1]; · iexact HR1
    iexact HR2
  imod (close_fam I K c 2) $$ [HA0 HA1 HA2] with HA
  · isplitr; · iexact HC
    isplitl [HA0]; · iexact HA0
    isplitl [HA1]; · iexact HA1
    iexact HA2
  imod (close_fam I K c 3) $$ [HB0 HB1 HB2] with HB
  · isplitr; · iexact HC
    isplitl [HB0]; · iexact HB0
    isplitl [HB1]; · iexact HB1
    iexact HB2
  imodintro
  isplitl [Hb Hc]; · isplitl [Hb] <;> iassumption
  isplitl [HS]; · iexact HS
  isplitl [HR]; · iexact HR
  isplitl [HA] <;> iassumption

/-! ## The body -/

/-- What the device holds when it is done. -/
def post (c : Dev nD) : sProp (MM F) := iprop((semVal (barC c) 0 ∗ sems0 c) ∗ scratch c ∗ res I c)

theorem wp_body' (c : Dev nD) (a b : Vec F S1 .f32) (hs : I.s c = Scalar.mulf (a i0) (b i0)) (Q : PUnit → sProp (MM F)) :
    iprop(Ctx I K ∗ xw I c ∗ scO c a b ∗ owesX c (o0 c) ∗ inA c ∗ inB c ∗ inC I c)
      ⊢ iprop(((xw I c ∗ scO c a b ∗ owesX c [] ∗ post I c) -∗ Q ⟨⟩) -∗ wpc c body (fun u => iprop(|={Set.univ}=> Q u))) := by
  unfold body
  unfold inA inB inC
  simp only [Prog.lift, Prog.bind_op, Prog.bind_ret, Prog.pure_eq_ret, wp_deviceId, wp_bind]
  iintro ⟨#HC, Hx, Hsc, HO, ⟨A1, A2, A3, A4, A5, A6, A7⟩, ⟨B1, B2, B3, B4, B5, B6⟩, ⟨C1, ⟨C2, C3⟩, C4, C5, C6, C7⟩⟩ Hk
  iapply (wp_phA I K c _) $$ [Hx HO A1 A2 A3 A4 A5 A6 A7]
  · isplitr; · iexact HC
    isplitl [Hx]; · iexact Hx
    isplitl [HO]; · iexact HO
    isplitl [A1]; · iexact A1
    isplitl [A2]; · iexact A2
    isplitl [A3]; · iexact A3
    isplitl [A4]; · iexact A4
    isplitl [A5]; · iexact A5
    isplitl [A6] <;> iassumption
  iintro ⟨Hx, HO, Hbat, Hcat, #Hre, Hepi, HdS0, Hc0, Hga⟩
  iapply (wp_phB I K c _) $$ [Hx HO Hcat Hepi Hc0 B1 B2 B3 B4 B5 B6]
  · isplitr; · iexact HC
    isplitl [Hx]; · iexact Hx
    isplitl [HO]; · iexact HO
    isplitl [B1 Hcat]
    · isplitl [B1]; · iexact B1
      isplitl [Hcat]; · iexact Hcat
      iexact Hre
    isplitl [Hepi]; · iexact Hepi
    isplitl [Hc0]; · iexact Hc0
    isplitl [B2]; · iexact B2
    isplitl [B3]; · iexact B3
    isplitl [B4]; · iexact B4
    isplitl [B5] <;> iassumption
  iintro ⟨Hx, HO, Hcat, Hepi, HdR0, HdR1, HdS1, HcS2⟩
  iapply (wp_phC I K c a b hs _) $$ [Hsc HO Hepi HcS2 Hga C1 C2 C3 C4 C5 C6 C7]
  · isplitr; · iexact HC
    isplitl [Hsc]; · iexact Hsc
    isplitl [HO]; · iexact HO
    isplitl [C1]; · iexact C1
    isplitl [C2 Hepi HcS2 C3]
    · isplitl [C2]; · iexact C2
      isplitl [Hepi]; · iexact Hepi
      isplitl [HcS2] <;> iassumption
    isplitl [C4]; · iexact C4
    isplitl [C5]; · iexact C5
    isplitl [C6]; · iexact C6
    isplitl [Hga] <;> iassumption
  iintro ⟨Hsc, HO, Hout, Hlane, Hgath, HE, HE'⟩
  imod (close_lanes I K c) $$ [Hbat Hcat HdS0 HdS1 HdR0 HdR1 HE HE'] with Hs
  · isplitr; · iexact HC
    isplitl [Hbat Hcat]; · isplitl [Hbat] <;> iassumption
    isplitl [HdS0]; · iexact HdS0
    isplitl [HdS1]; · iexact HdS1
    isplitl [HdR0]; · iexact HdR0
    isplitl [HdR1]; · iexact HdR1
    isplitl [HE] <;> iassumption
  icases Hs with ⟨⟨Hb, Hc⟩, HS, HR, HA, HB⟩
  imod (close_out I K c) $$ [Hout] with Ho
  · isplitr; · iexact HC
    iexact Hout
  icases Ho with ⟨Hos, Hfs, Hres⟩
  imodintro
  iapply Hk
  isplitl [Hx]; · iexact Hx
  isplitl [Hsc]; · iexact Hsc
  isplitl [HO]; · iexact HO
  ihave Hl := (ub3 lanes (fun p => lnAny (F := F) (comm p.2) 0 p.1 c) (fun p => lnAny (F := F) (comm p.2) 1 p.1 c) (fun p => lnAny (F := F) epi p.2 p.1 c)) $$ Hlane
  icases Hl with ⟨Hl0, Hl1, Hle⟩
  ihave HC01 := (comm_whole_of (F := F) c) $$ [Hl0 Hl1]
  · isplitl [Hl0]; · iexact Hl0
    iexact Hl1
  icases HC01 with ⟨W0, W1⟩
  ihave W2 := (epi_whole_of (F := F) c) $$ Hle
  ihave HG := (gath_whole_of (F := F) c) $$ Hgath
  icases HG with ⟨W3, W4⟩
  ihave W5 := (fs_whole_of (F := F) c) $$ Hfs
  unfold post scratch
  isplitl [Hb Hc HS HR HA HB Hos]
  · isplitl [Hb]; · iexact Hb
    iapply (show _ ⊢ sems0 c from Entails.of_eq (osem_split fun sm => (semVal ((c : Thread nD τ), sm) 0 : sProp (MM F))).symm)
    isplitl [Hc]; · iexact Hc
    isplitl [Hos]; · iexact Hos
    isplitl [HS]; · iexact HS
    isplitl [HR]; · iexact HR
    isplitl [HA] <;> iassumption
  isplitr [Hres]
  · isplitl [W0]; · iexact W0
    isplitl [W1]; · iexact W1
    isplitl [W2]; · iexact W2
    isplitl [W3]; · iexact W3
    isplitl [W4] <;> iassumption
  iexact Hres

theorem wpc_fupd (c : Dev nD) (p : Prog (Eff F) PUnit) (Q : PUnit → sProp (MM F)) :
    wpc c p (fun u => iprop(|={Set.univ}=> Q u)) ⊢ wpc c p Q :=
  Idealize.SL.Sem.wp_fupd _ _ _ _ _

theorem wp_body (c : Dev nD) (a b : Vec F S1 .f32) (hs : I.s c = Scalar.mulf (a i0) (b i0)) (Q : PUnit → sProp (MM F)) :
    iprop(Ctx I K ∗ xw I c ∗ scO c a b ∗ owesX c (o0 c) ∗ inA c ∗ inB c ∗ inC I c)
      ⊢ iprop(((xw I c ∗ scO c a b ∗ owesX c [] ∗ post I c) -∗ Q ⟨⟩) -∗ wpc c body Q) := by
  iintro H Hk
  iapply (wpc_fupd c body Q)
  iapply (wp_body' I K c a b hs Q) $$ H
  iexact Hk

end Cert.Coll

end
-- ==== Proof.Run.lean ====
/-
  The launch: what each device starts from and ends with, and the run of the whole program.
-/
module

public import proofs.«01_k».proof.Proof.Body
public import proofs.«01_k».proof.Proof.Gen.KernelIdeal.Points
public import Idealize.ShloMosaic.Lib.Pipeline.CollectiveSegs

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

/-! ## What is in memory at the start -/

def s₀ : MemSt nD τ sig (Elt F) := ⟨m, fun _ => 0, ρ⟩

def stx (c : Dev nD) : Vec F S4096x1024 .i8 := (win0_0.blk (0 : Fin 1)).view.read (Elt F) ((s₀ m ρ).mem ((c : Thread nD τ).loc main_arg0))
def stw (c : Dev nD) : Vec F S1024x2048 .i8 := (win0_1.blk (0 : Fin 1)).view.read (Elt F) ((s₀ m ρ).mem ((c : Thread nD τ).loc main_arg1))
def sta (c : Dev nD) : Vec F S1 .f32 := (win0_2.blk (0 : Fin 1)).view.read (Elt F) ((s₀ m ρ).mem ((c : Thread nD τ).loc main_arg2))
def stb (c : Dev nD) : Vec F S1 .f32 := (win0_3.blk (0 : Fin 1)).view.read (Elt F) ((s₀ m ρ).mem ((c : Thread nD τ).loc main_arg3))

def inp : Inp F where
  x := stx m ρ
  w := stw m ρ
  s c := Scalar.mulf (sta m ρ c i0) (stb m ρ c i0)

/-! ## The kernel's data -/

/-- What device `c`'s body starts from. -/
def start (c : Dev nD) : sProp (MM F) := iprop(levAts L lv ∗ allCred c ∗ G' (inp m ρ) c ∗ outAny4 c)
def Φ₀ (c : Dev nD) : sProp (MM F) := iprop(start m ρ c ∗ scratch c)
def Φ₁ (c : Dev nD) : sProp (MM F) := post (inp m ρ) c

def dats (_ : Fin 1) (c : Dev nD) : Pipeline.Dat τ (Elt F) (Fin 2) ℕ UU ℕ cfg0 c where
  A w := (s₀ m ρ).mem ((cfg0.win w).arr.view.loc (c : Thread nD τ))
  after w _ := match w with
    | ⟨0, _⟩ => stx m ρ c
    | ⟨1, _⟩ => stw m ρ c
    | ⟨2, _⟩ => sta m ρ c
    | ⟨3, _⟩ => stb m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

def bodyPre (c : Dev nD) : sProp (MM F) :=
  iprop(Φ₀ m ρ c ∗ (dats m ρ 0 c).owesAt (0 : Fin 2) t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp (MM F) :=
  iprop(Φ₁ m ρ c ∗ (dats m ρ 0 c).owesAt (0 : Fin 2) t0_0.succ ∗ stg c cc0_stg0_0 (stx m ρ c) ∗ stg c cc0_stg1_0 (stw m ρ c)
    ∗ stg c cc0_stg2_0 (sta m ρ c) ∗ stg c cc0_stg3_0 (stb m ρ c))

theorem run_body (c : Dev nD) : bodyPre m ρ c ⊢ wpc c body (fun _ => bodyPost m ρ c) := by
  unfold bodyPre Φ₀ start G' Pipeline.Dat.owesAt Pipeline.owesWithin
  iintro ⟨⟨⟨Hlev, Hcr, ⟨⟨%K, Hrec⟩, Hat, Htok⟩, Hout⟩, Hscr⟩, ⟨%W, -, HO⟩, ⟨%d0, %g0, %hg0, H0⟩, ⟨%d1, %g1, %hg1, H1⟩, ⟨%d2, %g2, %hg2, H2⟩, ⟨%d3, %g3, %hg3, H3⟩⟩
  have hx : g0 = stx m ρ c := by rw [hg0]; unfold Pipeline.Dat.before; rw [if_pos (fetch0_0 t0_0)]; rfl
  have hw : g1 = stw m ρ c := by rw [hg1]; unfold Pipeline.Dat.before; rw [if_pos (fetch0_1 t0_0)]; rfl
  have ha : g2 = sta m ρ c := by rw [hg2]; unfold Pipeline.Dat.before; rw [if_pos (fetch0_2 t0_0)]; rfl
  have hb : g3 = stb m ρ c := by rw [hg3]; unfold Pipeline.Dat.before; rw [if_pos (fetch0_3 t0_0)]; rfl
  subst hx; subst hw; subst ha; subst hb
  ihave HI := (split_start (inp m ρ) c) $$ [Hcr Hat Htok Hout Hscr]
  · isplitl [Hcr]; · iexact Hcr
    isplitl [Hat]; · iexact Hat
    isplitl [Htok]; · iexact Htok
    isplitl [Hout] <;> iassumption
  icases HI with ⟨HA, HB, HC⟩
  iapply (wp_body (inp m ρ) K c (sta m ρ c) (stb m ρ c) rfl (fun _ => bodyPost m ρ c)) $$ [Hlev Hrec H0 H1 H2 H3 HO HA HB HC]
  · isplitl [Hlev Hrec]
    · unfold Ctx recs
      isplitl [Hlev]; · iexact Hlev
      iexact Hrec
    isplitl [H0 H1]
    · isplitl [H0]; · iexact H0
      iexact H1
    isplitl [H2 H3]
    · isplitl [H2]; · iexact H2
      iexact H3
    isplitl [HO]
    · iexists W
      iexact HO
    isplitl [HA]; · iexact HA
    isplitl [HB] <;> iassumption
  iintro ⟨⟨H0, H1⟩, ⟨H2, H3⟩, ⟨%W', HO⟩, HP⟩
  unfold bodyPost Φ₁ Pipeline.Dat.owesAt Pipeline.owesWithin
  isplitl [HP]; · iexact HP
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem wpc_of_eq (c : Dev nD) {p q : Prog (Eff F) PUnit} (h : p = q) {P : sProp (MM F)} {Q : PUnit → sProp (MM F)} (hq : P ⊢ wpc c q Q) : P ⊢ wpc c p Q := by
  subst h; exact hq

set_option maxRecDepth 65536 in
theorem body_obligation (c : Dev nD) : Pipeline.BodyObligation (dats (F := F) m ρ 0 c) (defs₀ (F := F)) 𝒱₀ (0 : Fin 2) Set.univ := fun t => by
  rw [fin_N0 t]
  rw [bigSep_W0, bigSep_W0]
  simp only [owns_whole_eq]
  show bodyPre m ρ c ⊢ wpc c (cc0_body (F := F) xB (Memref.isWhole_whole _) wB (Memref.isWhole_whole _) sxB (Memref.isWhole_whole _)
    swB (Memref.isWhole_whole _) outB (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10
    cc0_scratch11 cc0_scratch12 cc0_scratch13 cc0_scratch14 cc0_scratch15) (fun _ => bodyPost m ρ c)
  exact wpc_of_eq c body_eq (run_body m ρ c)

/-! ## The launch's side conditions -/

theorem win_non : ∀ (w : Fin cfg0.W) (s : Fin (cfg0.spec w).nbuf), ck (.dma ((cfg0.spec w).sem s)) = .non := by decide

theorem osem_scoped : ∀ k : OK, (osem k).isScoped .tc = true := by decide

theorem ownSemFacts : Pipeline.OwnSemFacts cfg0.spec osem where
  isScoped := osem_scoped
  inj := osem_inj
  disj k w s h := (ockO_ne k).1 ((ck_osem k).symm.trans ((congrArg ck h).trans (win_non w s)))

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m ρ) c)
      ⊢ |={Set.univ}=> iprop(start m ρ c ∗ emp) := by
  rw [Pipeline.unscopedRestP_none, unscopedRest0_eq]
  iintro ⟨Ho, Hlev, Hcr, -, HG⟩
  ihave Hc := (creds (F := F) c) $$ Hcr
  ihave Ho := (out_split (F := F) c (m ((c : Thread nD τ).loc main_v1))) $$ Ho
  imodintro
  unfold start
  isplitl
  · isplitl [Hlev]; · iexact Hlev
    isplitl [Hc]; · iexact Hc
    isplitl [HG]; · iexact HG
    unfold outAny4
    iexact Ho
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What a device keeps for reading the final memory. -/
def fin (c : Dev nD) : sProp (MM F) := iprop(unscopedSems0 c ∗ res (inp m ρ) c)

theorem phi1_exit (c : Dev nD) :
    (dats m ρ 0 c).Φ (Fin.last cfg0.N) ⊢ iprop(fin m ρ c ∗ Pipeline.ownSems0 osem c ∗ Pipeline.scopedRest cfg0.spec c) := by
  rw [show (dats m ρ 0 c).Φ (Fin.last cfg0.N) = Φ₁ m ρ c from rfl, scopedRest0_eq]
  unfold Φ₁ post fin scratch
  rw [unscopedSems0_eq]
  iintro ⟨⟨Hb, Hs⟩, Hr, Hres⟩
  isplitl [Hb Hres]
  · isplitl [Hb] <;> iassumption
  isplitl [Hs]; · iexact Hs
  iexact Hr

theorem waits (c : Dev nD) : (levAts L lv : sProp (MM F)) ⊢ Pipeline.cellsWaits cfgs (dats m ρ) (0 : Fin 2) 0 c :=
  Pipeline.cellsWaits_intro cfgs (dats m ρ) (0 : Fin 2) 0 c fun w s t => by
    rcases t with ⟨_ | n, ht⟩
    · show (levAts L lv : sProp (MM F)) ⊢ MayWait (c : Thread nD τ) (.dma ((cfg0.spec w).sem s)) (0 : Fin 2) (owedL (o0 c))
      refine mayWait c _ 0 (o0 c) ?_
      rw [win_non w s]
      exact above_append (above_x barS 0 c (by rw [ck_bar]; decide)) (above_o1 c (by decide))
    · show (levAts L lv : sProp (MM F)) ⊢ MayWait (c : Thread nD τ) (.dma ((cfg0.spec w).sem s)) (0 : Fin 2) 0
      rw [MayWait_zero]
      iintro -
      iempintro

/-! ## Reading the result -/

theorem out_read (c : Dev nD) (d : Fin 2) (t : Fin 4) (j : Fin 8) (X : FVec F S128x1024 .f32) (s' : Phys nD τ sig (Elt F)) :
    iprop(outO c d t j X ∗ SI s') ⊢ (⌜∀ y, s'.mem.mem ((c : Thread nD τ).loc main_v1) ((outR c d t j).emb y) = X y⌝ : sProp (MM F)) := by
  unfold outO owns
  iintro ⟨⟨%f, %hf, H⟩, HSI⟩
  ihave %h := (SI_pointsTo_agree (st := s')) $$ [H HSI]
  · isplitl [HSI] <;> iassumption
  ipureintro
  intro y
  rw [← hf]
  exact h _ (View.emb_mem_set _ y)

theorem rd_tj (t : Fin 4) (j : Fin 8) : ∃ k ∈ Finset.range 16, ∃ p : Fin 2, rdT k = t ∧ rdJ k p = j := by
  revert t j; decide

theorem dps_mem (d p : Fin 2) : (d, p) ∈ dps := by revert d p; decide

theorem sepL_mem {T : Type} (l : List T) (A : T → sProp (MM F)) {t : T} (h : t ∈ l) : bigSepL l A ⊢ A t := by
  induction l with
  | nil => cases h
  | cons a l ih =>
    simp only [sepL_cons]
    rcases List.mem_cons.mp h with rfl | h
    · iintro ⟨H, -⟩; iexact H
    · iintro ⟨-, H⟩; iapply (ih h); iexact H

/-- The blocks of the result in the final memory. -/
def resAt (c : Dev nD) (s : MemSt nD τ sig (Elt F)) : Prop :=
  ∀ (d : Fin 2) (t : Fin 4) (j : Fin 8) (y : S128x1024.Idx), s.mem ((c : Thread nD τ).loc main_v1) ((outR c d t j).emb y) = outV (inp m ρ) t d c j y

theorem res_read1 (c : Dev nD) (s' : Phys nD τ sig (Elt F)) (d : Fin 2) (t : Fin 4) (j : Fin 8) :
    iprop(res (inp m ρ) c ∗ SI s') ⊢ (⌜∀ y, s'.mem.mem ((c : Thread nD τ).loc main_v1) ((outR c d t j).emb y) = outV (inp m ρ) t d c j y⌝ : sProp (MM F)) := by
  obtain ⟨k, hk, p, rfl, rfl⟩ := rd_tj t j
  unfold res
  iintro ⟨H, HSI⟩
  ihave H := (sepL_mem dps (fun t => bigSep (Finset.range 16) (outK (inp m ρ) c t.1 t.2)) (dps_mem d p)) $$ H
  ihave H := (show bigSep (Finset.range 16) (outK (inp m ρ) c d p) ⊢ outK (inp m ρ) c d p k from bigSep_elim hk) $$ H
  iapply (out_read c d (rdT k) (rdJ k p) (outV (inp m ρ) (rdT k) d c (rdJ k p)) s')
  isplitl [H] <;> iassumption

theorem res_read (c : Dev nD) (s' : Phys nD τ sig (Elt F)) : iprop(res (inp m ρ) c ∗ SI s') ⊢ (⌜resAt m ρ c s'.mem⌝ : sProp (MM F)) := by
  unfold resAt
  refine BIBase.Entails.trans ?_ pure_forall.2
  refine forall_intro fun d => ?_
  refine BIBase.Entails.trans ?_ pure_forall.2
  refine forall_intro fun t => ?_
  refine BIBase.Entails.trans ?_ pure_forall.2
  refine forall_intro fun j => ?_
  exact res_read1 m ρ c s' d t j

/-! ## The run -/

def QC : PUnit × MemSt nD τ sig (Elt F) → Prop := fun r =>
  ∀ c : Dev nD, (∀ w : Fin cfg0.W, r.2.mem ((cfg0.win w).arr.view.loc (c : Thread nD τ)) = m ((cfg0.win w).arr.view.loc (c : Thread nD τ)))
    ∧ resAt m ρ c r.2

theorem arr_kept (c : Dev nD) (w : Fin cfg0.W) : (dats (F := F) m ρ 0 c).arrAt w cfg0.N = m ((cfg0.win w).arr.view.loc (c : Thread nD τ)) := by
  fin_cases w
  · exact (dats (F := F) m ρ 0 c).arrAt_in (0 : Fin 4) rfl _
  · exact (dats (F := F) m ρ 0 c).arrAt_in (1 : Fin 4) rfl _
  · exact (dats (F := F) m ρ 0 c).arrAt_in (2 : Fin 4) rfl _
  · exact (dats (F := F) m ρ 0 c).arrAt_in (3 : Fin 4) rfl _

set_option maxRecDepth 65536 in
/-- From any memory with zero counters, for any float values: every weakly fair execution of the program on the
    four devices ends, and leaves each device's result at the computed blocks, its arguments as they were and
    every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : Fin 2) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G (inp m ρ)) (G' := G' (inp m ρ)) (u₀ := u₀)
    (hu₀ := by
      unfold u₀
      iintro Hu
      ihave H := (ownU_pair _ _) $$ Hu
      icases H with ⟨HP, HX⟩
      imod (fund_ring (inp m ρ)) $$ HX with HG
      imodintro
      isplitl [HP] <;> iassumption)
    (hglob := glob (inp m ρ))
    (hA := fun _ _ => rfl) (hpf := fun _ k => k.elim0)
    (X := start m ρ) (Y := fin m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ resAt m ρ c s)
    (hY := fun c s' => by
      unfold fin
      iintro ⟨⟨Hu, Hres⟩, -, HSI⟩
      ihave %hr := (res_read m ρ c s') $$ [Hres HSI]
      · isplitl [Hres] <;> iassumption
      imod (Pipeline.unscopedSems0_read (X := unscopedSems0 c) (c := c) fupd_intro s') $$ [Hu HSI] with ⟨%hu, HSI⟩
      · isplitl [Hu] <;> iassumption
      imodintro
      isplitr; · ipureintro; exact ⟨hu, hr⟩
      iexact HSI)
    (hQ := fun _ h hs => ⟨fun c => ⟨fun w => ((h c).1 w).trans (arr_kept m ρ c w), (h c).2.2.2⟩, sem_eq_zero hs fun c => (h c).2.2.1⟩)

end Cert.Coll

end
-- ==== Proof.Value.lean ====
/-
  The values: what the blocks of the result hold, element by element.
-/
module

public import proofs.«01_k».proof.Proof.Run
public import Idealize.ShloMosaic.Lib.Pointwise

@[expose] public section

noncomputable section

namespace Cert.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The arguments are read whole -/

section Args

variable (m : (ℓ : Loc nD τ sig) → Buf (Elt Ideal) ℓ) (ρ : Dev nD → PrngReg) (c : Dev nD)

theorem stx_eq : stx m ρ c = m ((c : Thread nD τ).loc main_arg0) := by
  unfold stx
  exact Memref.read_access_unit_zero (Elt Ideal) main_arg0 (by decide) _ _

theorem stw_eq : stw m ρ c = m ((c : Thread nD τ).loc main_arg1) := by
  unfold stw
  exact Memref.read_access_unit_zero (Elt Ideal) main_arg1 (by decide) _ _

theorem sta_eq : sta m ρ c = m ((c : Thread nD τ).loc main_arg2) := by
  unfold sta
  exact Memref.read_access_unit_zero (Elt Ideal) main_arg2 (by decide) _ _

theorem stb_eq : stb m ρ c = m ((c : Thread nD τ).loc main_arg3) := by
  unfold stb
  exact Memref.read_access_unit_zero (Elt Ideal) main_arg3 (by decide) _ _

end Args

/-! ## One element of a partial product and of a finished block -/

/-- A device's own share of the product's element at row `R` and column `C`. -/
def share (I : Inp Ideal) (e : Dev nD) (R : Fin 4096) (C : Fin 2048) : EReal :=
  ∑ k : Fin 1024, FloatOps.sitofp (F := Ideal) .bf16 (I.x e (ix2 R k)) * FloatOps.sitofp (F := Ideal) .bf16 (I.w e (ix2 k C))

/-- What becomes of an element `a` of the product: scaled to `y`, then `y / (1 + exp (-clamp y))`. -/
def finish (s a : EReal) : EReal :=
  Ideal.div (a * s) (1 + Ideal.exp (0 - min (Ideal.ofBits .f32 0x42700000#32) (max (Ideal.ofBits .f32 0xC2700000#32) (a * s))))

theorem pgV_apply (x w : Vec Ideal S1024x1024 .i8) (r k : Fin 1024) :
    pgV (F := Ideal) x w (ix2 r k)
      = ∑ q : Fin 1024, FloatOps.sitofp (F := Ideal) .bf16 (x (ix2 r q)) * FloatOps.sitofp (F := Ideal) .bf16 (w (ix2 q k)) := by
  pointwise [pgV]

theorem resV_apply (s : EReal) (a b : FVec Ideal S128x1024 .bf16) (y : S128x1024.Idx) :
    resV (F := Ideal) s a b y = finish s (a y + b y) := by
  pointwise [resV, finish]

theorem xOff_eq (c : Dev nD) (d : Fin 2) (t : Fin 4) :
    xOff c d t = ![1024 * (match d with | 0 => (c.val + 7 - t.val) % 4 | 1 => (c.val + t.val + 9) % 4), 0] := by
  have hc : c.val < 4 := c.isLt
  match d, t with
  | 0, 0 => exact k0_off1_eq c 0
  | 0, 1 => exact k0_off1_eq c 1
  | 0, 2 => exact k0_off1_eq c 2
  | 0, 3 => refine (k0_off3_eq c).trans ?_; simp; omega
  | 1, 0 => exact k0_off2_eq c 0
  | 1, 1 => exact k0_off2_eq c 1
  | 1, 2 => exact k0_off2_eq c 2
  | 1, 3 => refine (k0_off3_eq c).trans ?_; simp; omega

theorem pgl_apply (I : Inp Ideal) (d : Fin 2) (c : Dev nD) (t : Fin 4) (j : Fin 8) (y : S128x1024.Idx) (R : Fin 4096) (C : Fin 2048)
    (hR : R.val = xOff c d t 0 + 128 * j.val + (y 0).val) (hC : C.val = 1024 * d.val + (y 1).val) :
    pgl I d c t j y = share I c R C := by
  have hj := j.isLt
  have h0 : (y 0).val < 128 := (y 0).isLt
  have h1 : (y 1).val < 1024 := (y 1).isLt
  have e : (rbR j).emb y = ix2 (⟨128 * j.val + (y 0).val, by omega⟩ : Fin 1024) (⟨(y 1).val, h1⟩ : Fin 1024) := by
    funext a; apply Fin.ext
    match a with
    | 0 => show 128 * j.val + 1 * (y 0).val = _; rw [one_mul]; rfl
    | 1 => show 0 + 1 * (y 1).val = _; rw [one_mul, zero_add]; rfl
  unfold pgl rowBlk pgm
  rw [e, pgV_apply]
  unfold share
  refine Finset.sum_congr rfl fun k _ => ?_
  have ex : (xR c d t).emb (ix2 (⟨128 * j.val + (y 0).val, by omega⟩ : Fin 1024) k) = ix2 R k := by
    funext a; apply Fin.ext
    match a with
    | 0 => show xOff c d t 0 + 1 * (128 * j.val + (y 0).val) = R.val; omega
    | 1 =>
      have h : xOff c d t 1 = 0 := by rw [xOff_eq]; rfl
      show xOff c d t 1 + 1 * k.val = k.val; omega
  have ew : (wR d).emb (ix2 k (⟨(y 1).val, h1⟩ : Fin 1024)) = ix2 k C := by
    funext a; apply Fin.ext
    match a with
    | 0 => show 0 + 1 * k.val = k.val; omega
    | 1 => show 1024 * d.val + 1 * (y 1).val = C.val; omega
  show FloatOps.sitofp _ (I.x c _) * FloatOps.sitofp _ (I.w c _) = _
  rw [ex, ew]

/-! ## The four devices of a chunk's round -/

theorem xOff_round (c : Dev nD) (d : Fin 2) :
    xOff (src d (src d (src d c))) d 0 0 = 1024 * c.val ∧ xOff (src d (src d c)) d 1 0 = 1024 * c.val
      ∧ xOff (src d c) d 2 0 = 1024 * c.val ∧ xOff c d 3 0 = 1024 * c.val := by
  simp only [xOff_eq]
  revert c d; decide

theorem chk_round (c : Dev nD) (d : Fin 2) :
    chk c d 0 = c.val ∧ chk c d 1 = (src d c).val ∧ chk c d 2 = (src d (src d c)).val ∧ chk c d 3 = (src d (src d (src d c))).val := by
  revert c d; decide

/-- Round the ring from any device, in either direction, every device comes once. -/
theorem sum_round (f : Dev nD → EReal) (c : Dev nD) (d : Fin 2) :
    f (src d (src d (src d c))) + f (src d (src d c)) + f (src d c) + f c = ∑ e : Dev nD, f e := by
  have hs : ∑ e : Dev nD, f e = f 0 + f 1 + f 2 + f 3 := Fin.sum_univ_four f
  rw [hs]
  match c, d with
  | 0, 0 => show f 1 + f 2 + f 3 + f 0 = _; ac_rfl
  | 1, 0 => show f 2 + f 3 + f 0 + f 1 = _; ac_rfl
  | 2, 0 => show f 3 + f 0 + f 1 + f 2 = _; ac_rfl
  | 3, 0 => show f 0 + f 1 + f 2 + f 3 = _; rfl
  | 0, 1 => show f 3 + f 2 + f 1 + f 0 = _; ac_rfl
  | 1, 1 => show f 0 + f 3 + f 2 + f 1 = _; ac_rfl
  | 2, 1 => show f 1 + f 0 + f 3 + f 2 = _; ac_rfl
  | 3, 1 => show f 2 + f 1 + f 0 + f 3 = _; ac_rfl

theorem RS_apply (I : Inp Ideal) (d : Fin 2) (c : Dev nD) (j : Fin 8) (y : S128x1024.Idx) (R : Fin 4096) (C : Fin 2048)
    (hR : R.val = 1024 * c.val + 128 * j.val + (y 0).val) (hC : C.val = 1024 * d.val + (y 1).val) :
    RS I d c j y = finish (I.s c) (∑ e : Dev nD, share I e R C) := by
  obtain ⟨x0, x1, x2, x3⟩ := xOff_round c d
  unfold RS
  rw [resV_apply]
  refine congrArg (finish (I.s c)) ?_
  show pgl I d (src d (src d (src d c))) 0 j y + pgl I d (src d (src d c)) 1 j y + pgl I d (src d c) 2 j y + pgl I d c 3 j y = _
  rw [pgl_apply I d _ 0 j y R C (by rw [x0]; exact hR) hC, pgl_apply I d _ 1 j y R C (by rw [x1]; exact hR) hC,
    pgl_apply I d _ 2 j y R C (by rw [x2]; exact hR) hC, pgl_apply I d _ 3 j y R C (by rw [x3]; exact hR) hC]
  exact sum_round (fun e => share I e R C) c d

/-- Rounding for the way round the ring and widening again change nothing here. -/
theorem extf_truncf (v : FVec Ideal S128x1024 .f32) (y : S128x1024.Idx) :
    extf (F := Ideal) .f32 (truncf .bf16 v bitsLt_bf16_f32) bitsLt_bf16_f32 y = v y := rfl

theorem outV_apply (I : Inp Ideal) (s : EReal) (hs : ∀ c, I.s c = s) (t : Fin 4) (d : Fin 2) (c : Dev nD) (j : Fin 8) (y : S128x1024.Idx)
    (R : Fin 4096) (C : Fin 2048) (hx : (outR c d t j).emb y = ix2 R C) :
    outV I t d c j y = finish s (∑ e : Dev nD, share I e R C) := by
  have hR : R.val = 1024 * chk c d t + 128 * j.val + (y 0).val := by
    have h := congrArg (fun z : S4096x2048.Idx => (z 0).val) hx
    have h' : outOff c d t j 0 + 1 * (y 0).val = R.val := h
    rw [outOff_eq] at h'
    rw [one_mul] at h'; exact h'.symm
  have hC : C.val = 1024 * d.val + (y 1).val := by
    have h := congrArg (fun z : S4096x2048.Idx => (z 1).val) hx
    have h' : outOff c d t j 1 + 1 * (y 1).val = C.val := h
    rw [outOff_eq] at h'
    rw [one_mul] at h'; exact h'.symm
  obtain ⟨k0, k1, k2, k3⟩ := chk_round c d
  match t with
  | 0 => exact (RS_apply I d c j y R C (by rw [hR, k0]) hC).trans (by rw [hs])
  | 1 => exact (extf_truncf (RS I d (src d c) j) y).trans ((RS_apply I d (src d c) j y R C (by rw [hR, k1]) hC).trans (by rw [hs]))
  | 2 => exact (extf_truncf (RS I d (src d (src d c)) j) y).trans ((RS_apply I d (src d (src d c)) j y R C (by rw [hR, k2]) hC).trans (by rw [hs]))
  | 3 => exact (extf_truncf (RS I d (src d (src d (src d c))) j) y).trans ((RS_apply I d (src d (src d (src d c))) j y R C (by rw [hR, k3]) hC).trans (by rw [hs]))

/-! ## The whole result -/

theorem res_apply (m : (ℓ : Loc nD τ sig) → Buf (Elt Ideal) ℓ) (ρ : Dev nD → PrngReg) (s : EReal) (hs : ∀ c, (inp m ρ).s c = s) (c : Dev nD)
    (st : MemSt nD τ sig (Elt Ideal)) (h : resAt m ρ c st) (R : Fin 4096) (C : Fin 2048) :
    (st.mem ((c : Thread nD τ).loc main_v1) : S4096x2048.Idx → EReal) (ix2 R C) = finish s (∑ e : Dev nD, share (inp m ρ) e R C) := by
  obtain ⟨d, t, j, y, hx⟩ := out_at c (ix2 R C)
  rw [← outV_apply (inp m ρ) s hs t d c j y R C hx, ← h d t j y, hx]

end Cert.Coll

end
-- ==== Proof.RefValue.lean ====
/-
  The reference's value, element by element, and the kernel's result against it.
-/
module

public import proofs.«01_k».proof.Proof.Value
public import proofs.«01_k».proof.Proof.Gen.ReferenceIdeal
public import proofs.«01_k».proof.Proof.Gen.ReferenceIdeal.Run
public import Idealize.ShloMosaic.Lib.Layout
public import Idealize.ShloMosaic.Lib.Pipeline.ValueKit.Acc

@[expose] public section

noncomputable section

namespace Cert.Coll.Ref

open Cert.ReferenceIdeal Cert.ReferenceIdeal.Gen
open Idealize.ShloMosaic

/-- The scaled product. -/
def scaled (X : IVec S4096x4096 8) (W : IVec S4096x2048 8) (sx sw : FVec Ideal S1 .f32) : FVec Ideal S4096x2048 .f32 :=
  mulf (Host.dotGeneral dot_S4096x4096_S4096x2048_S4096x2048_1_0_0_1_n_n none (sitofp .f32 (extsi 32 X natLt_8_32)) (sitofp .f32 (extsi 32 W natLt_8_32)))
    (broadcastInDim S4096x2048 ![0, 1] bcast_S1x1_S4096x2048_0_1 (broadcastInDim S1x1 ![1] bcast_S1_S1x1_1 (mulf sx sw)))

/-- The reference's result from its arguments. -/
def refV (X : IVec S4096x4096 8) (W : IVec S4096x2048 8) (sx sw : FVec Ideal S1 .f32) : FVec Ideal S4096x2048 .f32 :=
  Host.divf (scaled X W sx sw) (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) (scaled X W sx sw))))))

/-- An eight-bit whole number, widened or not, is the same real number. -/
theorem int_eq (b : BitVec 8) : FloatOps.sitofp (F := Ideal) .f32 (b.signExtend 32) = FloatOps.sitofp (F := Ideal) .bf16 b := by
  have h : (b.signExtend 32).toInt = b.toInt := BitVec.toInt_signExtend_of_le (by decide)
  show (((b.signExtend 32).toInt : ℝ) : EReal) = ((b.toInt : ℝ) : EReal)
  rw [h]

/-- One element of the product, its sum cut into the devices' parts. -/
def prod (X : IVec S4096x4096 8) (W : IVec S4096x2048 8) (R : Fin 4096) (C : Fin 2048) : EReal :=
  ∑ k : Fin 4096, FloatOps.sitofp (F := Ideal) .bf16 (X (ix2 R k)) * FloatOps.sitofp (F := Ideal) .bf16 (W (ix2 k C))

theorem scaled_apply (X : IVec S4096x4096 8) (W : IVec S4096x2048 8) (sx sw : FVec Ideal S1 .f32) (R : Fin 4096) (C : Fin 2048) :
    scaled X W sx sw (ix2 R C) = prod X W R C * (sx (ix1 0) * sw (ix1 0)) := by
  pointwise [scaled, prod]
  simp only [int_eq]

theorem refV_apply (X : IVec S4096x4096 8) (W : IVec S4096x2048 8) (sx sw : FVec Ideal S1 .f32) (R : Fin 4096) (C : Fin 2048) :
    refV X W sx sw (ix2 R C) = finish (sx (ix1 0) * sw (ix1 0)) (prod X W R C) := by
  unfold refV finish
  rw [← scaled_apply]
  generalize scaled X W sx sw = v
  pointwise [id]
  rw [zero_sub]

/-- The devices' shares of an element add up to it. -/
theorem shares (I : Inp Ideal) (X : IVec S4096x4096 8) (W : IVec S4096x2048 8)
    (hx : ∀ c, I.x c = Layout.block ⟨2, ![4096, 1024]⟩ ⟨2, ![4096, 4096]⟩ 1 4 c X)
    (hw : ∀ c, I.w c = Layout.block ⟨2, ![1024, 2048]⟩ ⟨2, ![4096, 2048]⟩ 0 4 c W) (R : Fin 4096) (C : Fin 2048) :
    ∑ e : Dev Cert.KernelIdeal.nD, share I e R C = prod X W R C := by
  unfold prod
  refine Eq.trans ?_ (_root_.Fin.sum_mul_add_fin 4 1024
    (fun k : Fin 4096 => FloatOps.sitofp (F := Ideal) .bf16 (X (ix2 R k)) * FloatOps.sitofp (F := Ideal) .bf16 (W (ix2 k C))))
  refine Finset.sum_congr rfl fun e _ => ?_
  unfold share
  refine Finset.sum_congr rfl fun k _ => ?_
  rw [hx, hw]
  congr 1
  · refine congrArg (fun z => FloatOps.sitofp (F := Ideal) .bf16 (X z)) ?_
    funext a; apply Fin.ext
    match a with
    | 0 => rfl
    | 1 => rfl
  · refine congrArg (fun z => FloatOps.sitofp (F := Ideal) .bf16 (W z)) ?_
    funext a; apply Fin.ext
    match a with
    | 0 => rfl
    | 1 => rfl

open Idealize.ShloMosaic.TcCoe in
/-- What a device ends with is the reference's result. -/
theorem result_eq (m : (ℓ : Loc Cert.KernelIdeal.nD Cert.KernelIdeal.τ Cert.KernelIdeal.sig) → Buf (Elt Ideal) ℓ)
    (ρ : Dev Cert.KernelIdeal.nD → PrngReg) (X : IVec S4096x4096 8) (W : IVec S4096x2048 8) (sx sw : FVec Ideal S1 .f32)
    (hx : ∀ c : Dev Cert.KernelIdeal.nD, m ((c : Thread Cert.KernelIdeal.nD Cert.KernelIdeal.τ).loc Cert.KernelIdeal.main_arg0)
      = Layout.block ⟨2, ![4096, 1024]⟩ ⟨2, ![4096, 4096]⟩ 1 4 c X)
    (hw : ∀ c : Dev Cert.KernelIdeal.nD, m ((c : Thread Cert.KernelIdeal.nD Cert.KernelIdeal.τ).loc Cert.KernelIdeal.main_arg1)
      = Layout.block ⟨2, ![1024, 2048]⟩ ⟨2, ![4096, 2048]⟩ 0 4 c W)
    (ha : ∀ c : Dev Cert.KernelIdeal.nD, m ((c : Thread Cert.KernelIdeal.nD Cert.KernelIdeal.τ).loc Cert.KernelIdeal.main_arg2) = sx)
    (hb : ∀ c : Dev Cert.KernelIdeal.nD, m ((c : Thread Cert.KernelIdeal.nD Cert.KernelIdeal.τ).loc Cert.KernelIdeal.main_arg3) = sw)
    (c : Dev Cert.KernelIdeal.nD) (st : MemSt Cert.KernelIdeal.nD Cert.KernelIdeal.τ Cert.KernelIdeal.sig (Elt Ideal)) (h : resAt m ρ c st) :
    st.mem ((c : Thread Cert.KernelIdeal.nD Cert.KernelIdeal.τ).loc Cert.KernelIdeal.main_v1) = refV X W sx sw := by
  have hs : ∀ e, (inp m ρ).s e = sx (ix1 0) * sw (ix1 0) := by
    intro e
    have e0 : i0 = ix1 (0 : Fin 1) := by
      funext a
      match a with
      | 0 => exact Subsingleton.elim (α := Fin 1) _ _
    show Scalar.mulf (sta m ρ e i0) (stb m ρ e i0) = _
    rw [sta_eq, stb_eq, ha, hb, e0]; rfl
  funext z
  obtain ⟨R, C, rfl⟩ : ∃ (R : Fin 4096) (C : Fin 2048), z = ix2 R C := ⟨z 0, z 1, eq_ix2 z⟩
  refine (res_apply m ρ _ hs c st h R C).trans ?_
  rw [refV_apply, shares (inp m ρ) X W (fun e => (stx_eq m ρ e).trans (hx e)) (fun e => (stw_eq m ρ e).trans (hw e))]

end Cert.Coll.Ref

end
-- ==== Proof.lean ====
/-
  The claims, put together from the run of the kernel (Proof/Run.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RefValue
public import Idealize.ShloMosaic.Adequacy
public import Idealize.ShloMosaic.Init

@[expose] public section

noncomputable section

namespace Cert.Proof

open Idealize.ShloMosaic Idealize.SL.Sem

open Cert.KernelIdeal in
/-- The run, for any float values: the arguments end as they were and every semaphore at zero. -/
theorem frame_at {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono
    (fun _ h => ⟨fun c => ⟨(h.1 c).1 0, (h.1 c).1 1, (h.1 c).1 2, (h.1 c).1 3⟩, h.2⟩) (Cert.Coll.run_main m ρ)

theorem frame_ideal : Cert.quiescent_KernelIdeal := fun m ρ _ => frame_at m ρ

/-! ## The two programs have the same text -/

section Same

variable {F : FTy → Type} [FloatOps F]

theorem main_eq : @Cert.Kernel.main F _ = @Cert.KernelIdeal.main F _ := rfl

set_option maxRecDepth 65536 in
theorem body_eq : @Cert.Kernel.cc0_body F _ _ = @Cert.KernelIdeal.cc0_body F _ _ := rfl

set_option maxRecDepth 65536 in
theorem defs₀_eq : @Cert.Kernel.defs₀ F _ _ = @Cert.KernelIdeal.defs₀ F _ _ := by
  unfold Cert.Kernel.defs₀ Cert.KernelIdeal.defs₀
  refine congrArg Defs.onTc ?_
  funext l a
  match l, a with
  | 0, (t, s) =>
    show Cert.Kernel.cc0_body _ _ _ _ _ _ _ _ _ _ _ _ _ _ _ _ _ _ _ _ _ _ _ _ _ _ _ _ _ _ _ _
      = Cert.KernelIdeal.cc0_body _ _ _ _ _ _ _ _ _ _ _ _ _ _ _ _ _ _ _ _ _ _ _ _ _ _ _ _ _ _ _ _
    rw [body_eq]
  | ⟨_ + 1, h⟩, _ => exact absurd h (Nat.not_lt.2 (Nat.le_add_left _ _))

theorem defs_eq : @Cert.Kernel.defs F _ _ = @Cert.KernelIdeal.defs F _ _ := by
  unfold Cert.Kernel.defs Cert.KernelIdeal.defs
  exact congrArg (Pipeline.defs Cert.KernelIdeal.pcfgs) defs₀_eq

end Same

theorem frame_kernel : Cert.quiescent_Kernel := fun m ρ _ => by
  have h := frame_at (F := Bits) m ρ
  rw [← defs_eq] at h
  exact h

theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

open Cert.Coll Cert.Coll.Ref in
/-- Every device's result is the reference's. -/
theorem algebraic : Cert.algebraic_KernelIdeal_ReferenceIdeal := fun m g m' g' _ hargs => by
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, (h.1 c).1 0, (h.1 c).1 1, (h.1 c).1 2, (h.1 c).1 3⟩)
      (Cert.Coll.run_main m g)
    exact result_eq m g _ _ _ _ (fun e => (hargs e).1) (fun e => (hargs e).2.1) (fun e => (hargs e).2.2.1) (fun e => (hargs e).2.2.2)
      c r.2 (h.1 c).2
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_ref, trivial, algebraic⟩

end Cert.Proof

end
